-- ==== Defs.lean ====
def Pre_Kernel [hPre_sizes_fill : Cert.Pre_sizes_fill.Facts] (m : (ℓ : Loc Cert.Kernel.nD Cert.Kernel.τ Cert.Kernel.sig) → Buf (Elt Bits) ℓ) : Prop :=
  ∀ c : Dev Cert.Kernel.nD,
    (Cert.Pre_sizes_fill.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_sizes_fill : Cert.Pre_sizes_fill.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_fill.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_fill [hPre_sizes_fill : Cert.Pre_sizes_fill.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_fill.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_sizes_fill : Cert.Pre_sizes_fill.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_sizes_fill : Cert.Pre_sizes_fill.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sizes_fill [hReferenceIdeal : Cert.ReferenceIdeal.Facts] [hPre_sizes_fill : Cert.Pre_sizes_fill.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_fill m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sizes_fill : Cert.Pre_sizes_fill.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sizes_fill : Cert.Pre_sizes_fill.Facts),
    quiescent_Kernel (hKernel := hKernel) (hPre_sizes_fill := hPre_sizes_fill)
    ∧ quiescent_KernelIdeal (hKernelIdeal := hKernelIdeal) (hPre_sizes_fill := hPre_sizes_fill)
    ∧ quiescent_ReferenceIdeal (hReferenceIdeal := hReferenceIdeal)
    ∧ quiescent_ReferenceIdeal_pre_sizes_fill (hReferenceIdeal := hReferenceIdeal) (hPre_sizes_fill := hPre_sizes_fill)
    ∧ preserves_Kernel_KernelIdeal
    ∧ algebraic_KernelIdeal_ReferenceIdeal (hKernelIdeal := hKernelIdeal) (hReferenceIdeal := hReferenceIdeal) (hPre_sizes_fill := hPre_sizes_fill)
-- ==== Pre_sizes_fill.lean ====
abbrev S98304x768 : Shape := ⟨2, ![98304, 768]⟩
abbrev S98304 : Shape := ⟨1, ![98304]⟩
abbrev S16 : Shape := ⟨1, ![16]⟩
abbrev S16x768x2048 : Shape := ⟨3, ![16, 768, 2048]⟩
abbrev S16x2048 : Shape := ⟨2, ![16, 2048]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S98304x768 .fp8e4m3) (main_arg1 : FVec F S98304 .f32) (main_arg2 : IVec S16 32) (main_arg3 : FVec F S16x768x2048 .fp8e4m3) (main_arg4 : FVec F S16x2048 .f32) : IVec S_ 1 :=
  let main_c : IVec S_ 32 := constantI S_ 32 0#32
  let main_v0 : IVec S16 32 := broadcastInDim S16 ![] bcast_S_S16 main_c
  let main_v1 : IVec S16 1 := cmpi .sge main_arg2 main_v0
  let main_c_0 : IVec S_ 1 := constantI S_ 1 1#1
  let main_v2 : IVec S_ 1 := (fun x v => Host.reduce IntOp.andi x v reducesTo_S16_S_d0 h_S_) main_v1 main_c_0
  let main_c_1 : IVec S_ 32 := constantI S_ 32 98304#32
  let main_v3 : IVec S16 32 := broadcastInDim S16 ![] bcast_S_S16 main_c_1
  let main_v4 : IVec S16 1 := cmpi .sle main_arg2 main_v3
  let main_c_2 : IVec S_ 1 := constantI S_ 1 1#1
  let main_v5 : IVec S_ 1 := (fun x v => Host.reduce IntOp.andi x v reducesTo_S16_S_d0 h_S_) main_v4 main_c_2
  let main_v6 : IVec S_ 1 := andi main_v2 main_v5
  let main_c_3 : IVec S_ 32 := constantI S_ 32 0#32
  let main_v7 : IVec S_ 32 := (fun x v => Host.reduce IntOp.addi x v reducesTo_S16_S_d0 h_S_) main_arg2 main_c_3
  let main_c_4 : IVec S_ 32 := constantI S_ 32 98304#32
  let main_v8 : IVec S_ 1 := cmpi .eq main_v7 main_c_4
  let main_v9 : IVec S_ 1 := andi main_v6 main_v8
  main_v9
-- ==== Kernel.lean ====
abbrev S98304x768 : Shape := ⟨2, ![98304, 768]⟩
abbrev S98304 : Shape := ⟨1, ![98304]⟩
abbrev S16 : Shape := ⟨1, ![16]⟩
abbrev S16x768x2048 : Shape := ⟨3, ![16, 768, 2048]⟩
abbrev S16x2048 : Shape := ⟨2, ![16, 2048]⟩
abbrev S48x16x128 : Shape := ⟨3, ![48, 16, 128]⟩
abbrev S98304x2048 : Shape := ⟨2, ![98304, 2048]⟩
abbrev S2048x768 : Shape := ⟨2, ![2048, 768]⟩
abbrev S1x16x128 : Shape := ⟨3, ![1, 16, 128]⟩
abbrev S2048x2048 : Shape := ⟨2, ![2048, 2048]⟩
abbrev S2048x1 : Shape := ⟨2, ![2048, 1]⟩
abbrev S1 : Shape := ⟨1, ![1]⟩
abbrev S16x128 : Shape := ⟨2, ![16, 128]⟩
abbrev S128x16 : Shape := ⟨2, ![128, 16]⟩
abbrev S128x1 : Shape := ⟨2, ![128, 1]⟩
abbrev S256x768 : Shape := ⟨2, ![256, 768]⟩
abbrev S1x768x2048 : Shape := ⟨3, ![1, 768, 2048]⟩
abbrev S768x2048 : Shape := ⟨2, ![768, 2048]⟩
abbrev S256x2048 : Shape := ⟨2, ![256, 2048]⟩
abbrev S256x1 : Shape := ⟨2, ![256, 1]⟩
abbrev S1x2048 : Shape := ⟨2, ![1, 2048]⟩
abbrev S12x8192x2048 : Shape := ⟨3, ![12, 8192, 2048]⟩

abbrev nBuf : Space → Nat
  | .hbm => 8
  | .vmem => 9
  | .smem => 1
  | _ => 0

abbrev bufTy : (tb : Table) → Fin (tcTables nBuf tb) → BufTy
  | .hbm, ⟨0, _⟩ => ⟨S98304x768, .fp8e4m3⟩
  | .hbm, ⟨1, _⟩ => ⟨S98304, .f32⟩
  | .hbm, ⟨2, _⟩ => ⟨S16, .i32⟩
  | .hbm, ⟨3, _⟩ => ⟨S16x768x2048, .fp8e4m3⟩
  | .hbm, ⟨4, _⟩ => ⟨S16x2048, .f32⟩
  | .hbm, ⟨5, _⟩ => ⟨S48x16x128, .f32⟩
  | .hbm, ⟨6, _⟩ => ⟨S98304x2048, .bf16⟩
  | .hbm, ⟨7, _⟩ => ⟨S12x8192x2048, .bf16⟩
  | .local _ .vmem, ⟨0, _⟩ => ⟨S2048x768, .fp8e4m3⟩
  | .local _ .vmem, ⟨1, _⟩ => ⟨S2048x768, .fp8e4m3⟩
  | .local _ .vmem, ⟨2, _⟩ => ⟨S1x16x128, .f32⟩
  | .local _ .vmem, ⟨3, _⟩ => ⟨S1x16x128, .f32⟩
  | .local _ .vmem, ⟨4, _⟩ => ⟨S16x768x2048, .fp8e4m3⟩
  | .local _ .vmem, ⟨5, _⟩ => ⟨S16x2048, .f32⟩
  | .local _ .vmem, ⟨6, _⟩ => ⟨S2048x2048, .bf16⟩
  | .local _ .vmem, ⟨7, _⟩ => ⟨S2048x2048, .bf16⟩
  | .local _ .vmem, ⟨8, _⟩ => ⟨S2048x1, .f32⟩
  | .local _ .smem, ⟨0, _⟩ => ⟨S16, .i32⟩
  | _, _ => ⟨S98304x768, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![48], ![false]⟩

def k0_off1 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (c0_i32_20 : BitVec 32) : Fin 3 → Nat :=
  let c0_i32_21 : BitVec 32 := 0#32
  let c0_i32 : BitVec 32 := 0#32
  let v2 : BitVec 32 := Scalar.addi c0_i32 v1
  let arg0 : BitVec 32 := BitVec.ofNat 32 (i 0).val
  let c2048_i32 : BitVec 32 := 2048#32
  let v0 : BitVec 32 := Scalar.muli arg0 c2048_i32
  let v98 : BitVec 32 := Scalar.addi v0 c0_i32_20
  let v99 : BitVec 1 := Scalar.cmpi .sle v2 v98
  let v100 : BitVec 32 := Scalar.extui v99
  let v101 : BitVec 32 := Scalar.addi c0_i32_21 v100
  let v4 : BitVec 32 := Scalar.addi v2 v3
  let v102 : BitVec 1 := Scalar.cmpi .sle v4 v98
  let v103 : BitVec 32 := Scalar.extui v102
  let v104 : BitVec 32 := Scalar.addi v101 v103
  let v6 : BitVec 32 := Scalar.addi v4 v5
  let v105 : BitVec 1 := Scalar.cmpi .sle v6 v98
  let v106 : BitVec 32 := Scalar.extui v105
  let v107 : BitVec 32 := Scalar.addi v104 v106
  let v8 : BitVec 32 := Scalar.addi v6 v7
  let v108 : BitVec 1 := Scalar.cmpi .sle v8 v98
  let v109 : BitVec 32 := Scalar.extui v108
  let v110 : BitVec 32 := Scalar.addi v107 v109
  let v10 : BitVec 32 := Scalar.addi v8 v9
  let v111 : BitVec 1 := Scalar.cmpi .sle v10 v98
  let v112 : BitVec 32 := Scalar.extui v111
  let v113 : BitVec 32 := Scalar.addi v110 v112
  let v12 : BitVec 32 := Scalar.addi v10 v11
  let v114 : BitVec 1 := Scalar.cmpi .sle v12 v98
  let v115 : BitVec 32 := Scalar.extui v114
  let v116 : BitVec 32 := Scalar.addi v113 v115
  let v14 : BitVec 32 := Scalar.addi v12 v13
  let v117 : BitVec 1 := Scalar.cmpi .sle v14 v98
  let v118 : BitVec 32 := Scalar.extui v117
  let v119 : BitVec 32 := Scalar.addi v116 v118
  let v16 : BitVec 32 := Scalar.addi v14 v15
  let v120 : BitVec 1 := Scalar.cmpi .sle v16 v98
  let v121 : BitVec 32 := Scalar.extui v120
  let v122 : BitVec 32 := Scalar.addi v119 v121
  let v18 : BitVec 32 := Scalar.addi v16 v17
  let v123 : BitVec 1 := Scalar.cmpi .sle v18 v98
  let v124 : BitVec 32 := Scalar.extui v123
  let v125 : BitVec 32 := Scalar.addi v122 v124
  let v20 : BitVec 32 := Scalar.addi v18 v19
  let v126 : BitVec 1 := Scalar.cmpi .sle v20 v98
  let v127 : BitVec 32 := Scalar.extui v126
  let v128 : BitVec 32 := Scalar.addi v125 v127
  let v22 : BitVec 32 := Scalar.addi v20 v21
  let v129 : BitVec 1 := Scalar.cmpi .sle v22 v98
  let v130 : BitVec 32 := Scalar.extui v129
  let v131 : BitVec 32 := Scalar.addi v128 v130
  let v24 : BitVec 32 := Scalar.addi v22 v23
  let v132 : BitVec 1 := Scalar.cmpi .sle v24 v98
  let v133 : BitVec 32 := Scalar.extui v132
  let v134 : BitVec 32 := Scalar.addi v131 v133
  let v26 : BitVec 32 := Scalar.addi v24 v25
  let v135 : BitVec 1 := Scalar.cmpi .sle v26 v98
  let v136 : BitVec 32 := Scalar.extui v135
  let v137 : BitVec 32 := Scalar.addi v134 v136
  let v28 : BitVec 32 := Scalar.addi v26 v27
  let v138 : BitVec 1 := Scalar.cmpi .sle v28 v98
  let v139 : BitVec 32 := Scalar.extui v138
  let v140 : BitVec 32 := Scalar.addi v137 v139
  let v30 : BitVec 32 := Scalar.addi v28 v29
  let v141 : BitVec 1 := Scalar.cmpi .sle v30 v98
  let v142 : BitVec 32 := Scalar.extui v141
  let v143 : BitVec 32 := Scalar.addi v140 v142
  let v145 : Index := Scalar.indexCast v143
  let c0_24 : Index := 0#32
  let c0_25 : Index := 0#32
  ![v145.toNat, 0, 0]

def k0_off2 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (c0_i32_20 : BitVec 32) : Fin 2 → Nat :=
  let c0_i32_21 : BitVec 32 := 0#32
  let c0_i32 : BitVec 32 := 0#32
  let v2 : BitVec 32 := Scalar.addi c0_i32 v1
  let arg0 : BitVec 32 := BitVec.ofNat 32 (i 0).val
  let c2048_i32 : BitVec 32 := 2048#32
  let v0 : BitVec 32 := Scalar.muli arg0 c2048_i32
  let v98 : BitVec 32 := Scalar.addi v0 c0_i32_20
  let v99 : BitVec 1 := Scalar.cmpi .sle v2 v98
  let v100 : BitVec 32 := Scalar.extui v99
  let v101 : BitVec 32 := Scalar.addi c0_i32_21 v100
  let v4 : BitVec 32 := Scalar.addi v2 v3
  let v102 : BitVec 1 := Scalar.cmpi .sle v4 v98
  let v103 : BitVec 32 := Scalar.extui v102
  let v104 : BitVec 32 := Scalar.addi v101 v103
  let v6 : BitVec 32 := Scalar.addi v4 v5
  let v105 : BitVec 1 := Scalar.cmpi .sle v6 v98
  let v106 : BitVec 32 := Scalar.extui v105
  let v107 : BitVec 32 := Scalar.addi v104 v106
  let v8 : BitVec 32 := Scalar.addi v6 v7
  let v108 : BitVec 1 := Scalar.cmpi .sle v8 v98
  let v109 : BitVec 32 := Scalar.extui v108
  let v110 : BitVec 32 := Scalar.addi v107 v109
  let v10 : BitVec 32 := Scalar.addi v8 v9
  let v111 : BitVec 1 := Scalar.cmpi .sle v10 v98
  let v112 : BitVec 32 := Scalar.extui v111
  let v113 : BitVec 32 := Scalar.addi v110 v112
  let v12 : BitVec 32 := Scalar.addi v10 v11
  let v114 : BitVec 1 := Scalar.cmpi .sle v12 v98
  let v115 : BitVec 32 := Scalar.extui v114
  let v116 : BitVec 32 := Scalar.addi v113 v115
  let v14 : BitVec 32 := Scalar.addi v12 v13
  let v117 : BitVec 1 := Scalar.cmpi .sle v14 v98
  let v118 : BitVec 32 := Scalar.extui v117
  let v119 : BitVec 32 := Scalar.addi v116 v118
  let v16 : BitVec 32 := Scalar.addi v14 v15
  let v120 : BitVec 1 := Scalar.cmpi .sle v16 v98
  let v121 : BitVec 32 := Scalar.extui v120
  let v122 : BitVec 32 := Scalar.addi v119 v121
  let v18 : BitVec 32 := Scalar.addi v16 v17
  let v123 : BitVec 1 := Scalar.cmpi .sle v18 v98
  let v124 : BitVec 32 := Scalar.extui v123
  let v125 : BitVec 32 := Scalar.addi v122 v124
  let v20 : BitVec 32 := Scalar.addi v18 v19
  let v126 : BitVec 1 := Scalar.cmpi .sle v20 v98
  let v127 : BitVec 32 := Scalar.extui v126
  let v128 : BitVec 32 := Scalar.addi v125 v127
  let v22 : BitVec 32 := Scalar.addi v20 v21
  let v129 : BitVec 1 := Scalar.cmpi .sle v22 v98
  let v130 : BitVec 32 := Scalar.extui v129
  let v131 : BitVec 32 := Scalar.addi v128 v130
  let v24 : BitVec 32 := Scalar.addi v22 v23
  let v132 : BitVec 1 := Scalar.cmpi .sle v24 v98
  let v133 : BitVec 32 := Scalar.extui v132
  let v134 : BitVec 32 := Scalar.addi v131 v133
  let v26 : BitVec 32 := Scalar.addi v24 v25
  let v135 : BitVec 1 := Scalar.cmpi .sle v26 v98
  let v136 : BitVec 32 := Scalar.extui v135
  let v137 : BitVec 32 := Scalar.addi v134 v136
  let v28 : BitVec 32 := Scalar.addi v26 v27
  let v138 : BitVec 1 := Scalar.cmpi .sle v28 v98
  let v139 : BitVec 32 := Scalar.extui v138
  let v140 : BitVec 32 := Scalar.addi v137 v139
  let v30 : BitVec 32 := Scalar.addi v28 v29
  let v141 : BitVec 1 := Scalar.cmpi .sle v30 v98
  let v142 : BitVec 32 := Scalar.extui v141
  let v143 : BitVec 32 := Scalar.addi v140 v142
  let v152 : Index := Scalar.indexCast v143
  let c0_28 : Index := 0#32
  ![v152.toNat, 0]
@[reducible] def k0_t1_loop (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) : Scf.Loop 32 :=
  let c0_i32_108 : BitVec 32 := 0#32
  let c0_i32 : BitVec 32 := 0#32
  let v2 : BitVec 32 := Scalar.addi c0_i32 v1
  let arg0 : BitVec 32 := BitVec.ofNat 32 (i 0).val
  let c2048_i32 : BitVec 32 := 2048#32
  let v0 : BitVec 32 := Scalar.muli arg0 c2048_i32
  let v578 : BitVec 1 := Scalar.cmpi .sle v2 v0
  let v579 : BitVec 32 := Scalar.extui v578
  let v580 : BitVec 32 := Scalar.addi c0_i32_108 v579
  let v4 : BitVec 32 := Scalar.addi v2 v3
  let v581 : BitVec 1 := Scalar.cmpi .sle v4 v0
  let v582 : BitVec 32 := Scalar.extui v581
  let v583 : BitVec 32 := Scalar.addi v580 v582
  let v6 : BitVec 32 := Scalar.addi v4 v5
  let v584 : BitVec 1 := Scalar.cmpi .sle v6 v0
  let v585 : BitVec 32 := Scalar.extui v584
  let v586 : BitVec 32 := Scalar.addi v583 v585
  let v8 : BitVec 32 := Scalar.addi v6 v7
  let v587 : BitVec 1 := Scalar.cmpi .sle v8 v0
  let v588 : BitVec 32 := Scalar.extui v587
  let v589 : BitVec 32 := Scalar.addi v586 v588
  let v10 : BitVec 32 := Scalar.addi v8 v9
  let v590 : BitVec 1 := Scalar.cmpi .sle v10 v0
  let v591 : BitVec 32 := Scalar.extui v590
  let v592 : BitVec 32 := Scalar.addi v589 v591
  let v12 : BitVec 32 := Scalar.addi v10 v11
  let v593 : BitVec 1 := Scalar.cmpi .sle v12 v0
  let v594 : BitVec 32 := Scalar.extui v593
  let v595 : BitVec 32 := Scalar.addi v592 v594
  let v14 : BitVec 32 := Scalar.addi v12 v13
  let v596 : BitVec 1 := Scalar.cmpi .sle v14 v0
  let v597 : BitVec 32 := Scalar.extui v596
  let v598 : BitVec 32 := Scalar.addi v595 v597
  let v16 : BitVec 32 := Scalar.addi v14 v15
  let v599 : BitVec 1 := Scalar.cmpi .sle v16 v0
  let v600 : BitVec 32 := Scalar.extui v599
  let v601 : BitVec 32 := Scalar.addi v598 v600
  let v18 : BitVec 32 := Scalar.addi v16 v17
  let v602 : BitVec 1 := Scalar.cmpi .sle v18 v0
  let v603 : BitVec 32 := Scalar.extui v602
  let v604 : BitVec 32 := Scalar.addi v601 v603
  let v20 : BitVec 32 := Scalar.addi v18 v19
  let v605 : BitVec 1 := Scalar.cmpi .sle v20 v0
  let v606 : BitVec 32 := Scalar.extui v605
  let v607 : BitVec 32 := Scalar.addi v604 v606
  let v22 : BitVec 32 := Scalar.addi v20 v21
  let v608 : BitVec 1 := Scalar.cmpi .sle v22 v0
  let v609 : BitVec 32 := Scalar.extui v608
  let v610 : BitVec 32 := Scalar.addi v607 v609
  let v24 : BitVec 32 := Scalar.addi v22 v23
  let v611 : BitVec 1 := Scalar.cmpi .sle v24 v0
  let v612 : BitVec 32 := Scalar.extui v611
  let v613 : BitVec 32 := Scalar.addi v610 v612
  let v26 : BitVec 32 := Scalar.addi v24 v25
  let v614 : BitVec 1 := Scalar.cmpi .sle v26 v0
  let v615 : BitVec 32 := Scalar.extui v614
  let v616 : BitVec 32 := Scalar.addi v613 v615
  let v28 : BitVec 32 := Scalar.addi v26 v27
  let v617 : BitVec 1 := Scalar.cmpi .sle v28 v0
  let v618 : BitVec 32 := Scalar.extui v617
  let v619 : BitVec 32 := Scalar.addi v616 v618
  let v30 : BitVec 32 := Scalar.addi v28 v29
  let v620 : BitVec 1 := Scalar.cmpi .sle v30 v0
  let v621 : BitVec 32 := Scalar.extui v620
  let v622 : BitVec 32 := Scalar.addi v619 v621
  let c1_i32_128 : BitVec 32 := 1#32
  let v715 : BitVec 32 := Scalar.addi v622 c1_i32_128
  let c0_i32_110 : BitVec 32 := 0#32
  let c2048_i32_109 : BitVec 32 := 2048#32
  let v623 : BitVec 32 := Scalar.addi v0 c2048_i32_109
  let c1_i32 : BitVec 32 := 1#32
  let v624 : BitVec 32 := Scalar.subi v623 c1_i32
  let v625 : BitVec 1 := Scalar.cmpi .sle v2 v624
  let v626 : BitVec 32 := Scalar.extui v625
  let v627 : BitVec 32 := Scalar.addi c0_i32_110 v626
  let v628 : BitVec 1 := Scalar.cmpi .sle v4 v624
  let v629 : BitVec 32 := Scalar.extui v628
  let v630 : BitVec 32 := Scalar.addi v627 v629
  let v631 : BitVec 1 := Scalar.cmpi .sle v6 v624
  let v632 : BitVec 32 := Scalar.extui v631
  let v633 : BitVec 32 := Scalar.addi v630 v632
  let v634 : BitVec 1 := Scalar.cmpi .sle v8 v624
  let v635 : BitVec 32 := Scalar.extui v634
  let v636 : BitVec 32 := Scalar.addi v633 v635
  let v637 : BitVec 1 := Scalar.cmpi .sle v10 v624
  let v638 : BitVec 32 := Scalar.extui v637
  let v639 : BitVec 32 := Scalar.addi v636 v638
  let v640 : BitVec 1 := Scalar.cmpi .sle v12 v624
  let v641 : BitVec 32 := Scalar.extui v640
  let v642 : BitVec 32 := Scalar.addi v639 v641
  let v643 : BitVec 1 := Scalar.cmpi .sle v14 v624
  let v644 : BitVec 32 := Scalar.extui v643
  let v645 : BitVec 32 := Scalar.addi v642 v644
  let v646 : BitVec 1 := Scalar.cmpi .sle v16 v624
  let v647 : BitVec 32 := Scalar.extui v646
  let v648 : BitVec 32 := Scalar.addi v645 v647
  let v649 : BitVec 1 := Scalar.cmpi .sle v18 v624
  let v650 : BitVec 32 := Scalar.extui v649
  let v651 : BitVec 32 := Scalar.addi v648 v650
  let v652 : BitVec 1 := Scalar.cmpi .sle v20 v624
  let v653 : BitVec 32 := Scalar.extui v652
  let v654 : BitVec 32 := Scalar.addi v651 v653
  let v655 : BitVec 1 := Scalar.cmpi .sle v22 v624
  let v656 : BitVec 32 := Scalar.extui v655
  let v657 : BitVec 32 := Scalar.addi v654 v656
  let v658 : BitVec 1 := Scalar.cmpi .sle v24 v624
  let v659 : BitVec 32 := Scalar.extui v658
  let v660 : BitVec 32 := Scalar.addi v657 v659
  let v661 : BitVec 1 := Scalar.cmpi .sle v26 v624
  let v662 : BitVec 32 := Scalar.extui v661
  let v663 : BitVec 32 := Scalar.addi v660 v662
  let v664 : BitVec 1 := Scalar.cmpi .sle v28 v624
  let v665 : BitVec 32 := Scalar.extui v664
  let v666 : BitVec 32 := Scalar.addi v663 v665
  let v667 : BitVec 1 := Scalar.cmpi .sle v30 v624
  let v668 : BitVec 32 := Scalar.extui v667
  let v669 : BitVec 32 := Scalar.addi v666 v668
  let c1_i32_129 : BitVec 32 := 1#32
  let v716 : BitVec 32 := Scalar.addi v669 c1_i32_129
  let v717 : BitVec 32 := Scalar.subi v716 v715
  let c1_i32_130 : BitVec 32 := 1#32
  let v719 : BitVec 32 := Scalar.divsi v717 c1_i32_130
  let v720 : BitVec 32 := Scalar.muli v719 c1_i32_130
  let v721 : BitVec 32 := Scalar.addi v715 v720
  let c1_i32_131 : BitVec 32 := 1#32
  ⟨v715, v721, c1_i32_131⟩
def k0_off3 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (k0_t1 : Fin (k0_t1_loop i v1 v3 v5 v7 v9 v11 v13 v15 v17 v19 v21 v23 v25 v27 v29).trips) : Fin 1 → Nat :=
  let c0_i32_108 : BitVec 32 := 0#32
  let c0_i32 : BitVec 32 := 0#32
  let v2 : BitVec 32 := Scalar.addi c0_i32 v1
  let arg0 : BitVec 32 := BitVec.ofNat 32 (i 0).val
  let c2048_i32 : BitVec 32 := 2048#32
  let v0 : BitVec 32 := Scalar.muli arg0 c2048_i32
  let v578 : BitVec 1 := Scalar.cmpi .sle v2 v0
  let v579 : BitVec 32 := Scalar.extui v578
  let v580 : BitVec 32 := Scalar.addi c0_i32_108 v579
  let v4 : BitVec 32 := Scalar.addi v2 v3
  let v581 : BitVec 1 := Scalar.cmpi .sle v4 v0
  let v582 : BitVec 32 := Scalar.extui v581
  let v583 : BitVec 32 := Scalar.addi v580 v582
  let v6 : BitVec 32 := Scalar.addi v4 v5
  let v584 : BitVec 1 := Scalar.cmpi .sle v6 v0
  let v585 : BitVec 32 := Scalar.extui v584
  let v586 : BitVec 32 := Scalar.addi v583 v585
  let v8 : BitVec 32 := Scalar.addi v6 v7
  let v587 : BitVec 1 := Scalar.cmpi .sle v8 v0
  let v588 : BitVec 32 := Scalar.extui v587
  let v589 : BitVec 32 := Scalar.addi v586 v588
  let v10 : BitVec 32 := Scalar.addi v8 v9
  let v590 : BitVec 1 := Scalar.cmpi .sle v10 v0
  let v591 : BitVec 32 := Scalar.extui v590
  let v592 : BitVec 32 := Scalar.addi v589 v591
  let v12 : BitVec 32 := Scalar.addi v10 v11
  let v593 : BitVec 1 := Scalar.cmpi .sle v12 v0
  let v594 : BitVec 32 := Scalar.extui v593
  let v595 : BitVec 32 := Scalar.addi v592 v594
  let v14 : BitVec 32 := Scalar.addi v12 v13
  let v596 : BitVec 1 := Scalar.cmpi .sle v14 v0
  let v597 : BitVec 32 := Scalar.extui v596
  let v598 : BitVec 32 := Scalar.addi v595 v597
  let v16 : BitVec 32 := Scalar.addi v14 v15
  let v599 : BitVec 1 := Scalar.cmpi .sle v16 v0
  let v600 : BitVec 32 := Scalar.extui v599
  let v601 : BitVec 32 := Scalar.addi v598 v600
  let v18 : BitVec 32 := Scalar.addi v16 v17
  let v602 : BitVec 1 := Scalar.cmpi .sle v18 v0
  let v603 : BitVec 32 := Scalar.extui v602
  let v604 : BitVec 32 := Scalar.addi v601 v603
  let v20 : BitVec 32 := Scalar.addi v18 v19
  let v605 : BitVec 1 := Scalar.cmpi .sle v20 v0
  let v606 : BitVec 32 := Scalar.extui v605
  let v607 : BitVec 32 := Scalar.addi v604 v606
  let v22 : BitVec 32 := Scalar.addi v20 v21
  let v608 : BitVec 1 := Scalar.cmpi .sle v22 v0
  let v609 : BitVec 32 := Scalar.extui v608
  let v610 : BitVec 32 := Scalar.addi v607 v609
  let v24 : BitVec 32 := Scalar.addi v22 v23
  let v611 : BitVec 1 := Scalar.cmpi .sle v24 v0
  let v612 : BitVec 32 := Scalar.extui v611
  let v613 : BitVec 32 := Scalar.addi v610 v612
  let v26 : BitVec 32 := Scalar.addi v24 v25
  let v614 : BitVec 1 := Scalar.cmpi .sle v26 v0
  let v615 : BitVec 32 := Scalar.extui v614
  let v616 : BitVec 32 := Scalar.addi v613 v615
  let v28 : BitVec 32 := Scalar.addi v26 v27
  let v617 : BitVec 1 := Scalar.cmpi .sle v28 v0
  let v618 : BitVec 32 := Scalar.extui v617
  let v619 : BitVec 32 := Scalar.addi v616 v618
  let v30 : BitVec 32 := Scalar.addi v28 v29
  let v620 : BitVec 1 := Scalar.cmpi .sle v30 v0
  let v621 : BitVec 32 := Scalar.extui v620
  let v622 : BitVec 32 := Scalar.addi v619 v621
  let c1_i32_128 : BitVec 32 := 1#32
  let v715 : BitVec 32 := Scalar.addi v622 c1_i32_128
  let c1_i32_131 : BitVec 32 := 1#32
  let arg8 : BitVec 32 := Scf.iv v715 c1_i32_131 k0_t1
  let v724 : Index := Scalar.indexCast arg8
  ![v724.toNat]
def k0_mult1 (i : grid0.Coords) (arg9 : BitVec 32) : BitVec 32 :=
  let arg0 : BitVec 32 := BitVec.ofNat 32 (i 0).val
  let c2048_i32 : BitVec 32 := 2048#32
  let v0 : BitVec 32 := Scalar.muli arg0 c2048_i32
  let v726 : BitVec 32 := Scalar.subi arg9 v0
  let c0_i32_143 : BitVec 32 := 0#32
  let v744 : BitVec 1 := Scalar.cmpi .sgt v726 c0_i32_143
  let v745 : BitVec 32 := Scalar.extui v744
  let c0_i32_144 : BitVec 32 := 0#32
  let v746 : BitVec 1 := Scalar.cmpi .slt v726 c0_i32_144
  let v747 : BitVec 32 := Scalar.extui v746
  let v748 : BitVec 32 := Scalar.subi v745 v747
  let c256_i32_142 : BitVec 32 := 256#32
  let c0_i32_145 : BitVec 32 := 0#32
  let v749 : BitVec 1 := Scalar.cmpi .sgt c256_i32_142 c0_i32_145
  let v750 : BitVec 32 := Scalar.extui v749
  let c0_i32_146 : BitVec 32 := 0#32
  let v751 : BitVec 1 := Scalar.cmpi .slt c256_i32_142 c0_i32_146
  let v752 : BitVec 32 := Scalar.extui v751
  let v753 : BitVec 32 := Scalar.subi v750 v752
  let v754 : BitVec 1 := Scalar.cmpi .ne v748 v753
  let v755 : BitVec 32 := Scalar.remsi v726 c256_i32_142
  let c0_i32_147 : BitVec 32 := 0#32
  let v756 : BitVec 1 := Scalar.cmpi .ne v755 c0_i32_147
  let v757 : BitVec 1 := Scalar.andi v754 v756
  let v743 : BitVec 32 := Scalar.divsi v726 c256_i32_142
  let c1_i32_148 : BitVec 32 := 1#32
  let v758 : BitVec 32 := Scalar.subi v743 c1_i32_148
  let v759 : BitVec 32 := Scalar.select v757 v758 v743
  let c256_i32_149 : BitVec 32 := 256#32
  let v760 : BitVec 32 := Scalar.muli v759 c256_i32_149
  v760
def k0_cond1 (i : grid0.Coords) (arg9 : BitVec 32) (v725 : BitVec 32) : BitVec 1 :=
  let c0_i32_133 : BitVec 32 := 0#32
  let v727 : BitVec 1 := Scalar.cmpi .sgt v725 c0_i32_133
  let arg0 : BitVec 32 := BitVec.ofNat 32 (i 0).val
  let c2048_i32 : BitVec 32 := 2048#32
  let v0 : BitVec 32 := Scalar.muli arg0 c2048_i32
  let v726 : BitVec 32 := Scalar.subi arg9 v0
  let c256_i32_134 : BitVec 32 := 256#32
  let c0_i32_135 : BitVec 32 := 0#32
  let v728 : BitVec 1 := Scalar.cmpi .eq c256_i32_134 c0_i32_135
  let c1_i32_136 : BitVec 32 := 1#32
  let v729 : BitVec 32 := Scalar.select v728 c1_i32_136 c256_i32_134
  let v730 : BitVec 32 := Scalar.remsi v726 v729
  let c0_i32_138 : BitVec 32 := 0#32
  let v732 : BitVec 1 := Scalar.cmpi .slt v730 c0_i32_138
  let c0_i32_139 : BitVec 32 := 0#32
  let v733 : BitVec 1 := Scalar.cmpi .slt v729 c0_i32_139
  let v734 : BitVec 1 := Scalar.xori v732 v733
  let c0_i32_137 : BitVec 32 := 0#32
  let v731 : BitVec 1 := Scalar.cmpi .ne v730 c0_i32_137
  let v735 : BitVec 1 := Scalar.andi v734 v731
  let v736 : BitVec 32 := Scalar.addi v730 v729
  let v737 : BitVec 32 := Scalar.select v735 v736 v730
  let c0_i32_140 : BitVec 32 := 0#32
  let v738 : BitVec 1 := Scalar.cmpi .ne v737 c0_i32_140
  let v739 : BitVec 1 := Scalar.andi v727 v738
  let v740 : BitVec 32 := Scalar.extui v739
  let c0_i32_141 : BitVec 32 := 0#32
  let v741 : BitVec 1 := Scalar.cmpi .ne v740 c0_i32_141
  v741

def k0_off4 (i : grid0.Coords) (arg9 : BitVec 32) : Fin 2 → Nat :=
  let arg0 : BitVec 32 := BitVec.ofNat 32 (i 0).val
  let c2048_i32 : BitVec 32 := 2048#32
  let v0 : BitVec 32 := Scalar.muli arg0 c2048_i32
  let v726 : BitVec 32 := Scalar.subi arg9 v0
  let c0_i32_143 : BitVec 32 := 0#32
  let v744 : BitVec 1 := Scalar.cmpi .sgt v726 c0_i32_143
  let v745 : BitVec 32 := Scalar.extui v744
  let c0_i32_144 : BitVec 32 := 0#32
  let v746 : BitVec 1 := Scalar.cmpi .slt v726 c0_i32_144
  let v747 : BitVec 32 := Scalar.extui v746
  let v748 : BitVec 32 := Scalar.subi v745 v747
  let c256_i32_142 : BitVec 32 := 256#32
  let c0_i32_145 : BitVec 32 := 0#32
  let v749 : BitVec 1 := Scalar.cmpi .sgt c256_i32_142 c0_i32_145
  let v750 : BitVec 32 := Scalar.extui v749
  let c0_i32_146 : BitVec 32 := 0#32
  let v751 : BitVec 1 := Scalar.cmpi .slt c256_i32_142 c0_i32_146
  let v752 : BitVec 32 := Scalar.extui v751
  let v753 : BitVec 32 := Scalar.subi v750 v752
  let v754 : BitVec 1 := Scalar.cmpi .ne v748 v753
  let v755 : BitVec 32 := Scalar.remsi v726 c256_i32_142
  let c0_i32_147 : BitVec 32 := 0#32
  let v756 : BitVec 1 := Scalar.cmpi .ne v755 c0_i32_147
  let v757 : BitVec 1 := Scalar.andi v754 v756
  let v743 : BitVec 32 := Scalar.divsi v726 c256_i32_142
  let c1_i32_148 : BitVec 32 := 1#32
  let v758 : BitVec 32 := Scalar.subi v743 c1_i32_148
  let v759 : BitVec 32 := Scalar.select v757 v758 v743
  let c256_i32_149 : BitVec 32 := 256#32
  let v760 : BitVec 32 := Scalar.muli v759 c256_i32_149
  let v761 : BitVec 32 := v760
  let v767 : Index := Scalar.indexCast v761
  let c0_150 : Index := 0#32
  ![v767.toNat, 0]
def k0_off5 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (k0_t1 : Fin (k0_t1_loop i v1 v3 v5 v7 v9 v11 v13 v15 v17 v19 v21 v23 v25 v27 v29).trips) : Fin 3 → Nat :=
  let c0_i32_108 : BitVec 32 := 0#32
  let c0_i32 : BitVec 32 := 0#32
  let v2 : BitVec 32 := Scalar.addi c0_i32 v1
  let arg0 : BitVec 32 := BitVec.ofNat 32 (i 0).val
  let c2048_i32 : BitVec 32 := 2048#32
  let v0 : BitVec 32 := Scalar.muli arg0 c2048_i32
  let v578 : BitVec 1 := Scalar.cmpi .sle v2 v0
  let v579 : BitVec 32 := Scalar.extui v578
  let v580 : BitVec 32 := Scalar.addi c0_i32_108 v579
  let v4 : BitVec 32 := Scalar.addi v2 v3
  let v581 : BitVec 1 := Scalar.cmpi .sle v4 v0
  let v582 : BitVec 32 := Scalar.extui v581
  let v583 : BitVec 32 := Scalar.addi v580 v582
  let v6 : BitVec 32 := Scalar.addi v4 v5
  let v584 : BitVec 1 := Scalar.cmpi .sle v6 v0
  let v585 : BitVec 32 := Scalar.extui v584
  let v586 : BitVec 32 := Scalar.addi v583 v585
  let v8 : BitVec 32 := Scalar.addi v6 v7
  let v587 : BitVec 1 := Scalar.cmpi .sle v8 v0
  let v588 : BitVec 32 := Scalar.extui v587
  let v589 : BitVec 32 := Scalar.addi v586 v588
  let v10 : BitVec 32 := Scalar.addi v8 v9
  let v590 : BitVec 1 := Scalar.cmpi .sle v10 v0
  let v591 : BitVec 32 := Scalar.extui v590
  let v592 : BitVec 32 := Scalar.addi v589 v591
  let v12 : BitVec 32 := Scalar.addi v10 v11
  let v593 : BitVec 1 := Scalar.cmpi .sle v12 v0
  let v594 : BitVec 32 := Scalar.extui v593
  let v595 : BitVec 32 := Scalar.addi v592 v594
  let v14 : BitVec 32 := Scalar.addi v12 v13
  let v596 : BitVec 1 := Scalar.cmpi .sle v14 v0
  let v597 : BitVec 32 := Scalar.extui v596
  let v598 : BitVec 32 := Scalar.addi v595 v597
  let v16 : BitVec 32 := Scalar.addi v14 v15
  let v599 : BitVec 1 := Scalar.cmpi .sle v16 v0
  let v600 : BitVec 32 := Scalar.extui v599
  let v601 : BitVec 32 := Scalar.addi v598 v600
  let v18 : BitVec 32 := Scalar.addi v16 v17
  let v602 : BitVec 1 := Scalar.cmpi .sle v18 v0
  let v603 : BitVec 32 := Scalar.extui v602
  let v604 : BitVec 32 := Scalar.addi v601 v603
  let v20 : BitVec 32 := Scalar.addi v18 v19
  let v605 : BitVec 1 := Scalar.cmpi .sle v20 v0
  let v606 : BitVec 32 := Scalar.extui v605
  let v607 : BitVec 32 := Scalar.addi v604 v606
  let v22 : BitVec 32 := Scalar.addi v20 v21
  let v608 : BitVec 1 := Scalar.cmpi .sle v22 v0
  let v609 : BitVec 32 := Scalar.extui v608
  let v610 : BitVec 32 := Scalar.addi v607 v609
  let v24 : BitVec 32 := Scalar.addi v22 v23
  let v611 : BitVec 1 := Scalar.cmpi .sle v24 v0
  let v612 : BitVec 32 := Scalar.extui v611
  let v613 : BitVec 32 := Scalar.addi v610 v612
  let v26 : BitVec 32 := Scalar.addi v24 v25
  let v614 : BitVec 1 := Scalar.cmpi .sle v26 v0
  let v615 : BitVec 32 := Scalar.extui v614
  let v616 : BitVec 32 := Scalar.addi v613 v615
  let v28 : BitVec 32 := Scalar.addi v26 v27
  let v617 : BitVec 1 := Scalar.cmpi .sle v28 v0
  let v618 : BitVec 32 := Scalar.extui v617
  let v619 : BitVec 32 := Scalar.addi v616 v618
  let v30 : BitVec 32 := Scalar.addi v28 v29
  let v620 : BitVec 1 := Scalar.cmpi .sle v30 v0
  let v621 : BitVec 32 := Scalar.extui v620
  let v622 : BitVec 32 := Scalar.addi v619 v621
  let c1_i32_128 : BitVec 32 := 1#32
  let v715 : BitVec 32 := Scalar.addi v622 c1_i32_128
  let c1_i32_131 : BitVec 32 := 1#32
  let arg8 : BitVec 32 := Scf.iv v715 c1_i32_131 k0_t1
  let v769 : Index := Scalar.indexCast arg8
  let c0_151 : Index := 0#32
  let c0_152 : Index := 0#32
  ![v769.toNat, 0, 0]
def k0_off6 (i : grid0.Coords) (arg9 : BitVec 32) : Fin 2 → Nat :=
  let arg0 : BitVec 32 := BitVec.ofNat 32 (i 0).val
  let c2048_i32 : BitVec 32 := 2048#32
  let v0 : BitVec 32 := Scalar.muli arg0 c2048_i32
  let v726 : BitVec 32 := Scalar.subi arg9 v0
  let c0_i32_143 : BitVec 32 := 0#32
  let v744 : BitVec 1 := Scalar.cmpi .sgt v726 c0_i32_143
  let v745 : BitVec 32 := Scalar.extui v744
  let c0_i32_144 : BitVec 32 := 0#32
  let v746 : BitVec 1 := Scalar.cmpi .slt v726 c0_i32_144
  let v747 : BitVec 32 := Scalar.extui v746
  let v748 : BitVec 32 := Scalar.subi v745 v747
  let c256_i32_142 : BitVec 32 := 256#32
  let c0_i32_145 : BitVec 32 := 0#32
  let v749 : BitVec 1 := Scalar.cmpi .sgt c256_i32_142 c0_i32_145
  let v750 : BitVec 32 := Scalar.extui v749
  let c0_i32_146 : BitVec 32 := 0#32
  let v751 : BitVec 1 := Scalar.cmpi .slt c256_i32_142 c0_i32_146
  let v752 : BitVec 32 := Scalar.extui v751
  let v753 : BitVec 32 := Scalar.subi v750 v752
  let v754 : BitVec 1 := Scalar.cmpi .ne v748 v753
  let v755 : BitVec 32 := Scalar.remsi v726 c256_i32_142
  let c0_i32_147 : BitVec 32 := 0#32
  let v756 : BitVec 1 := Scalar.cmpi .ne v755 c0_i32_147
  let v757 : BitVec 1 := Scalar.andi v754 v756
  let v743 : BitVec 32 := Scalar.divsi v726 c256_i32_142
  let c1_i32_148 : BitVec 32 := 1#32
  let v758 : BitVec 32 := Scalar.subi v743 c1_i32_148
  let v759 : BitVec 32 := Scalar.select v757 v758 v743
  let c256_i32_149 : BitVec 32 := 256#32
  let v760 : BitVec 32 := Scalar.muli v759 c256_i32_149
  let v761 : BitVec 32 := v760
  let v773 : Index := Scalar.indexCast v761
  let c0_154 : Index := 0#32
  ![v773.toNat, 0]
def k0_off7 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (k0_t1 : Fin (k0_t1_loop i v1 v3 v5 v7 v9 v11 v13 v15 v17 v19 v21 v23 v25 v27 v29).trips) : Fin 2 → Nat :=
  let c0_i32_108 : BitVec 32 := 0#32
  let c0_i32 : BitVec 32 := 0#32
  let v2 : BitVec 32 := Scalar.addi c0_i32 v1
  let arg0 : BitVec 32 := BitVec.ofNat 32 (i 0).val
  let c2048_i32 : BitVec 32 := 2048#32
  let v0 : BitVec 32 := Scalar.muli arg0 c2048_i32
  let v578 : BitVec 1 := Scalar.cmpi .sle v2 v0
  let v579 : BitVec 32 := Scalar.extui v578
  let v580 : BitVec 32 := Scalar.addi c0_i32_108 v579
  let v4 : BitVec 32 := Scalar.addi v2 v3
  let v581 : BitVec 1 := Scalar.cmpi .sle v4 v0
  let v582 : BitVec 32 := Scalar.extui v581
  let v583 : BitVec 32 := Scalar.addi v580 v582
  let v6 : BitVec 32 := Scalar.addi v4 v5
  let v584 : BitVec 1 := Scalar.cmpi .sle v6 v0
  let v585 : BitVec 32 := Scalar.extui v584
  let v586 : BitVec 32 := Scalar.addi v583 v585
  let v8 : BitVec 32 := Scalar.addi v6 v7
  let v587 : BitVec 1 := Scalar.cmpi .sle v8 v0
  let v588 : BitVec 32 := Scalar.extui v587
  let v589 : BitVec 32 := Scalar.addi v586 v588
  let v10 : BitVec 32 := Scalar.addi v8 v9
  let v590 : BitVec 1 := Scalar.cmpi .sle v10 v0
  let v591 : BitVec 32 := Scalar.extui v590
  let v592 : BitVec 32 := Scalar.addi v589 v591
  let v12 : BitVec 32 := Scalar.addi v10 v11
  let v593 : BitVec 1 := Scalar.cmpi .sle v12 v0
  let v594 : BitVec 32 := Scalar.extui v593
  let v595 : BitVec 32 := Scalar.addi v592 v594
  let v14 : BitVec 32 := Scalar.addi v12 v13
  let v596 : BitVec 1 := Scalar.cmpi .sle v14 v0
  let v597 : BitVec 32 := Scalar.extui v596
  let v598 : BitVec 32 := Scalar.addi v595 v597
  let v16 : BitVec 32 := Scalar.addi v14 v15
  let v599 : BitVec 1 := Scalar.cmpi .sle v16 v0
  let v600 : BitVec 32 := Scalar.extui v599
  let v601 : BitVec 32 := Scalar.addi v598 v600
  let v18 : BitVec 32 := Scalar.addi v16 v17
  let v602 : BitVec 1 := Scalar.cmpi .sle v18 v0
  let v603 : BitVec 32 := Scalar.extui v602
  let v604 : BitVec 32 := Scalar.addi v601 v603
  let v20 : BitVec 32 := Scalar.addi v18 v19
  let v605 : BitVec 1 := Scalar.cmpi .sle v20 v0
  let v606 : BitVec 32 := Scalar.extui v605
  let v607 : BitVec 32 := Scalar.addi v604 v606
  let v22 : BitVec 32 := Scalar.addi v20 v21
  let v608 : BitVec 1 := Scalar.cmpi .sle v22 v0
  let v609 : BitVec 32 := Scalar.extui v608
  let v610 : BitVec 32 := Scalar.addi v607 v609
  let v24 : BitVec 32 := Scalar.addi v22 v23
  let v611 : BitVec 1 := Scalar.cmpi .sle v24 v0
  let v612 : BitVec 32 := Scalar.extui v611
  let v613 : BitVec 32 := Scalar.addi v610 v612
  let v26 : BitVec 32 := Scalar.addi v24 v25
  let v614 : BitVec 1 := Scalar.cmpi .sle v26 v0
  let v615 : BitVec 32 := Scalar.extui v614
  let v616 : BitVec 32 := Scalar.addi v613 v615
  let v28 : BitVec 32 := Scalar.addi v26 v27
  let v617 : BitVec 1 := Scalar.cmpi .sle v28 v0
  let v618 : BitVec 32 := Scalar.extui v617
  let v619 : BitVec 32 := Scalar.addi v616 v618
  let v30 : BitVec 32 := Scalar.addi v28 v29
  let v620 : BitVec 1 := Scalar.cmpi .sle v30 v0
  let v621 : BitVec 32 := Scalar.extui v620
  let v622 : BitVec 32 := Scalar.addi v619 v621
  let c1_i32_128 : BitVec 32 := 1#32
  let v715 : BitVec 32 := Scalar.addi v622 c1_i32_128
  let c1_i32_131 : BitVec 32 := 1#32
  let arg8 : BitVec 32 := Scf.iv v715 c1_i32_131 k0_t1
  let v777 : Index := Scalar.indexCast arg8
  let c0_155 : Index := 0#32
  ![v777.toNat, 0]
def k0_off8 (i : grid0.Coords) (arg9 : BitVec 32) : Fin 2 → Nat :=
  let arg0 : BitVec 32 := BitVec.ofNat 32 (i 0).val
  let c2048_i32 : BitVec 32 := 2048#32
  let v0 : BitVec 32 := Scalar.muli arg0 c2048_i32
  let v726 : BitVec 32 := Scalar.subi arg9 v0
  let c0_i32_143 : BitVec 32 := 0#32
  let v744 : BitVec 1 := Scalar.cmpi .sgt v726 c0_i32_143
  let v745 : BitVec 32 := Scalar.extui v744
  let c0_i32_144 : BitVec 32 := 0#32
  let v746 : BitVec 1 := Scalar.cmpi .slt v726 c0_i32_144
  let v747 : BitVec 32 := Scalar.extui v746
  let v748 : BitVec 32 := Scalar.subi v745 v747
  let c256_i32_142 : BitVec 32 := 256#32
  let c0_i32_145 : BitVec 32 := 0#32
  let v749 : BitVec 1 := Scalar.cmpi .sgt c256_i32_142 c0_i32_145
  let v750 : BitVec 32 := Scalar.extui v749
  let c0_i32_146 : BitVec 32 := 0#32
  let v751 : BitVec 1 := Scalar.cmpi .slt c256_i32_142 c0_i32_146
  let v752 : BitVec 32 := Scalar.extui v751
  let v753 : BitVec 32 := Scalar.subi v750 v752
  let v754 : BitVec 1 := Scalar.cmpi .ne v748 v753
  let v755 : BitVec 32 := Scalar.remsi v726 c256_i32_142
  let c0_i32_147 : BitVec 32 := 0#32
  let v756 : BitVec 1 := Scalar.cmpi .ne v755 c0_i32_147
  let v757 : BitVec 1 := Scalar.andi v754 v756
  let v743 : BitVec 32 := Scalar.divsi v726 c256_i32_142
  let c1_i32_148 : BitVec 32 := 1#32
  let v758 : BitVec 32 := Scalar.subi v743 c1_i32_148
  let v759 : BitVec 32 := Scalar.select v757 v758 v743
  let c256_i32_149 : BitVec 32 := 256#32
  let v760 : BitVec 32 := Scalar.muli v759 c256_i32_149
  let v761 : BitVec 32 := v760
  let v782 : Index := Scalar.indexCast v761
  let c0_156 : Index := 0#32
  ![v782.toNat, 0]

def k0_chk2 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (k0_t1 : Fin (k0_t1_loop i v1 v3 v5 v7 v9 v11 v13 v15 v17 v19 v21 v23 v25 v27 v29).trips) (arg9 : BitVec 32) (v725 : BitVec 32) : Prop :=
  (∀ (k0_h1 : k0_cond1 i arg9 v725 = 1#1), 256 ∣ (k0_mult1 i arg9).toNat) ∧
  (∀ (k0_h1 : k0_cond1 i arg9 v725 = 1#1), ∀ a, (k0_off4 i arg9) a + S256x768.size a ≤ S2048x768.size a) ∧
  (∀ (k0_h1 : k0_cond1 i arg9 v725 = 1#1), ∀ a, (k0_off5 i v1 v3 v5 v7 v9 v11 v13 v15 v17 v19 v21 v23 v25 v27 v29 k0_t1) a + S1x768x2048.size a ≤ S16x768x2048.size a) ∧
  (∀ (k0_h1 : k0_cond1 i arg9 v725 = 1#1), ∀ a, (k0_off6 i arg9) a + S256x1.size a ≤ S2048x1.size a) ∧
  (∀ (k0_h1 : k0_cond1 i arg9 v725 = 1#1), ∀ a, (k0_off7 i v1 v3 v5 v7 v9 v11 v13 v15 v17 v19 v21 v23 v25 v27 v29 k0_t1) a + S1x2048.size a ≤ S16x2048.size a) ∧
  (∀ (k0_h1 : k0_cond1 i arg9 v725 = 1#1), ∀ a, (k0_off8 i arg9) a + S256x2048.size a ≤ S2048x2048.size a) ∧
  (∀ (k0_h1 : k0_cond1 i arg9 v725 = 1#1), ∀ (hinb : ∀ a, (k0_off8 i arg9) a + S256x2048.size a ≤ S2048x2048.size a), (Rect.unit (s := S2048x2048) (k0_off8 i arg9) S256x2048.size hinb).PackedRows (EltTy.packing .bf16))
theorem k0_mult1_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (k0_t1 : Fin (k0_t1_loop i v1 v3 v5 v7 v9 v11 v13 v15 v17 v19 v21 v23 v25 v27 v29).trips) (arg9 : BitVec 32) (v725 : BitVec 32) (k0_hw2 : k0_chk2 i v1 v3 v5 v7 v9 v11 v13 v15 v17 v19 v21 v23 v25 v27 v29 k0_t1 arg9 v725), ∀ (k0_h1 : k0_cond1 i arg9 v725 = 1#1), 256 ∣ (k0_mult1 i arg9).toNat := fun i v1 v3 v5 v7 v9 v11 v13 v15 v17 v19 v21 v23 v25 v27 v29 k0_t1 arg9 v725 k0_hw2 k0_h1 => k0_hw2.1 k0_h1
theorem k0_off4_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (k0_t1 : Fin (k0_t1_loop i v1 v3 v5 v7 v9 v11 v13 v15 v17 v19 v21 v23 v25 v27 v29).trips) (arg9 : BitVec 32) (v725 : BitVec 32) (k0_hw2 : k0_chk2 i v1 v3 v5 v7 v9 v11 v13 v15 v17 v19 v21 v23 v25 v27 v29 k0_t1 arg9 v725), ∀ (k0_h1 : k0_cond1 i arg9 v725 = 1#1), ∀ a, (k0_off4 i arg9) a + S256x768.size a ≤ S2048x768.size a := fun i v1 v3 v5 v7 v9 v11 v13 v15 v17 v19 v21 v23 v25 v27 v29 k0_t1 arg9 v725 k0_hw2 k0_h1 => k0_hw2.2.1 k0_h1
theorem k0_off5_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (k0_t1 : Fin (k0_t1_loop i v1 v3 v5 v7 v9 v11 v13 v15 v17 v19 v21 v23 v25 v27 v29).trips) (arg9 : BitVec 32) (v725 : BitVec 32) (k0_hw2 : k0_chk2 i v1 v3 v5 v7 v9 v11 v13 v15 v17 v19 v21 v23 v25 v27 v29 k0_t1 arg9 v725), ∀ (k0_h1 : k0_cond1 i arg9 v725 = 1#1), ∀ a, (k0_off5 i v1 v3 v5 v7 v9 v11 v13 v15 v17 v19 v21 v23 v25 v27 v29 k0_t1) a + S1x768x2048.size a ≤ S16x768x2048.size a := fun i v1 v3 v5 v7 v9 v11 v13 v15 v17 v19 v21 v23 v25 v27 v29 k0_t1 arg9 v725 k0_hw2 k0_h1 => k0_hw2.2.2.1 k0_h1
theorem k0_off6_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (k0_t1 : Fin (k0_t1_loop i v1 v3 v5 v7 v9 v11 v13 v15 v17 v19 v21 v23 v25 v27 v29).trips) (arg9 : BitVec 32) (v725 : BitVec 32) (k0_hw2 : k0_chk2 i v1 v3 v5 v7 v9 v11 v13 v15 v17 v19 v21 v23 v25 v27 v29 k0_t1 arg9 v725), ∀ (k0_h1 : k0_cond1 i arg9 v725 = 1#1), ∀ a, (k0_off6 i arg9) a + S256x1.size a ≤ S2048x1.size a := fun i v1 v3 v5 v7 v9 v11 v13 v15 v17 v19 v21 v23 v25 v27 v29 k0_t1 arg9 v725 k0_hw2 k0_h1 => k0_hw2.2.2.2.1 k0_h1
theorem k0_off7_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (k0_t1 : Fin (k0_t1_loop i v1 v3 v5 v7 v9 v11 v13 v15 v17 v19 v21 v23 v25 v27 v29).trips) (arg9 : BitVec 32) (v725 : BitVec 32) (k0_hw2 : k0_chk2 i v1 v3 v5 v7 v9 v11 v13 v15 v17 v19 v21 v23 v25 v27 v29 k0_t1 arg9 v725), ∀ (k0_h1 : k0_cond1 i arg9 v725 = 1#1), ∀ a, (k0_off7 i v1 v3 v5 v7 v9 v11 v13 v15 v17 v19 v21 v23 v25 v27 v29 k0_t1) a + S1x2048.size a ≤ S16x2048.size a := fun i v1 v3 v5 v7 v9 v11 v13 v15 v17 v19 v21 v23 v25 v27 v29 k0_t1 arg9 v725 k0_hw2 k0_h1 => k0_hw2.2.2.2.2.1 k0_h1
theorem k0_off8_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (k0_t1 : Fin (k0_t1_loop i v1 v3 v5 v7 v9 v11 v13 v15 v17 v19 v21 v23 v25 v27 v29).trips) (arg9 : BitVec 32) (v725 : BitVec 32) (k0_hw2 : k0_chk2 i v1 v3 v5 v7 v9 v11 v13 v15 v17 v19 v21 v23 v25 v27 v29 k0_t1 arg9 v725), ∀ (k0_h1 : k0_cond1 i arg9 v725 = 1#1), ∀ a, (k0_off8 i arg9) a + S256x2048.size a ≤ S2048x2048.size a := fun i v1 v3 v5 v7 v9 v11 v13 v15 v17 v19 v21 v23 v25 v27 v29 k0_t1 arg9 v725 k0_hw2 k0_h1 => k0_hw2.2.2.2.2.2.1 k0_h1
theorem k0_off8_packedbf16 : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (k0_t1 : Fin (k0_t1_loop i v1 v3 v5 v7 v9 v11 v13 v15 v17 v19 v21 v23 v25 v27 v29).trips) (arg9 : BitVec 32) (v725 : BitVec 32) (k0_hw2 : k0_chk2 i v1 v3 v5 v7 v9 v11 v13 v15 v17 v19 v21 v23 v25 v27 v29 k0_t1 arg9 v725), ∀ (k0_h1 : k0_cond1 i arg9 v725 = 1#1), (Rect.unit (s := S2048x2048) (k0_off8 i arg9) S256x2048.size (k0_off8_inb i v1 v3 v5 v7 v9 v11 v13 v15 v17 v19 v21 v23 v25 v27 v29 k0_t1 arg9 v725 k0_hw2 k0_h1)).PackedRows (EltTy.packing .bf16) := fun i v1 v3 v5 v7 v9 v11 v13 v15 v17 v19 v21 v23 v25 v27 v29 k0_t1 arg9 v725 k0_hw2 k0_h1 => k0_hw2.2.2.2.2.2.2 k0_h1 (k0_off8_inb i v1 v3 v5 v7 v9 v11 v13 v15 v17 v19 v21 v23 v25 v27 v29 k0_t1 arg9 v725 k0_hw2 k0_h1)

@[reducible] def k0_t2_loop (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) : Scf.Loop 32 :=
  let c0_i32_108 : BitVec 32 := 0#32
  let c0_i32 : BitVec 32 := 0#32
  let v2 : BitVec 32 := Scalar.addi c0_i32 v1
  let arg0 : BitVec 32 := BitVec.ofNat 32 (i 0).val
  let c2048_i32 : BitVec 32 := 2048#32
  let v0 : BitVec 32 := Scalar.muli arg0 c2048_i32
  let v578 : BitVec 1 := Scalar.cmpi .sle v2 v0
  let v579 : BitVec 32 := Scalar.extui v578
  let v580 : BitVec 32 := Scalar.addi c0_i32_108 v579
  let v4 : BitVec 32 := Scalar.addi v2 v3
  let v581 : BitVec 1 := Scalar.cmpi .sle v4 v0
  let v582 : BitVec 32 := Scalar.extui v581
  let v583 : BitVec 32 := Scalar.addi v580 v582
  let v6 : BitVec 32 := Scalar.addi v4 v5
  let v584 : BitVec 1 := Scalar.cmpi .sle v6 v0
  let v585 : BitVec 32 := Scalar.extui v584
  let v586 : BitVec 32 := Scalar.addi v583 v585
  let v8 : BitVec 32 := Scalar.addi v6 v7
  let v587 : BitVec 1 := Scalar.cmpi .sle v8 v0
  let v588 : BitVec 32 := Scalar.extui v587
  let v589 : BitVec 32 := Scalar.addi v586 v588
  let v10 : BitVec 32 := Scalar.addi v8 v9
  let v590 : BitVec 1 := Scalar.cmpi .sle v10 v0
  let v591 : BitVec 32 := Scalar.extui v590
  let v592 : BitVec 32 := Scalar.addi v589 v591
  let v12 : BitVec 32 := Scalar.addi v10 v11
  let v593 : BitVec 1 := Scalar.cmpi .sle v12 v0
  let v594 : BitVec 32 := Scalar.extui v593
  let v595 : BitVec 32 := Scalar.addi v592 v594
  let v14 : BitVec 32 := Scalar.addi v12 v13
  let v596 : BitVec 1 := Scalar.cmpi .sle v14 v0
  let v597 : BitVec 32 := Scalar.extui v596
  let v598 : BitVec 32 := Scalar.addi v595 v597
  let v16 : BitVec 32 := Scalar.addi v14 v15
  let v599 : BitVec 1 := Scalar.cmpi .sle v16 v0
  let v600 : BitVec 32 := Scalar.extui v599
  let v601 : BitVec 32 := Scalar.addi v598 v600
  let v18 : BitVec 32 := Scalar.addi v16 v17
  let v602 : BitVec 1 := Scalar.cmpi .sle v18 v0
  let v603 : BitVec 32 := Scalar.extui v602
  let v604 : BitVec 32 := Scalar.addi v601 v603
  let v20 : BitVec 32 := Scalar.addi v18 v19
  let v605 : BitVec 1 := Scalar.cmpi .sle v20 v0
  let v606 : BitVec 32 := Scalar.extui v605
  let v607 : BitVec 32 := Scalar.addi v604 v606
  let v22 : BitVec 32 := Scalar.addi v20 v21
  let v608 : BitVec 1 := Scalar.cmpi .sle v22 v0
  let v609 : BitVec 32 := Scalar.extui v608
  let v610 : BitVec 32 := Scalar.addi v607 v609
  let v24 : BitVec 32 := Scalar.addi v22 v23
  let v611 : BitVec 1 := Scalar.cmpi .sle v24 v0
  let v612 : BitVec 32 := Scalar.extui v611
  let v613 : BitVec 32 := Scalar.addi v610 v612
  let v26 : BitVec 32 := Scalar.addi v24 v25
  let v614 : BitVec 1 := Scalar.cmpi .sle v26 v0
  let v615 : BitVec 32 := Scalar.extui v614
  let v616 : BitVec 32 := Scalar.addi v613 v615
  let v28 : BitVec 32 := Scalar.addi v26 v27
  let v617 : BitVec 1 := Scalar.cmpi .sle v28 v0
  let v618 : BitVec 32 := Scalar.extui v617
  let v619 : BitVec 32 := Scalar.addi v616 v618
  let v30 : BitVec 32 := Scalar.addi v28 v29
  let v620 : BitVec 1 := Scalar.cmpi .sle v30 v0
  let v621 : BitVec 32 := Scalar.extui v620
  let v622 : BitVec 32 := Scalar.addi v619 v621
  let c1_i32_128 : BitVec 32 := 1#32
  let v715 : BitVec 32 := Scalar.addi v622 c1_i32_128
  let c0_i32_110 : BitVec 32 := 0#32
  let c2048_i32_109 : BitVec 32 := 2048#32
  let v623 : BitVec 32 := Scalar.addi v0 c2048_i32_109
  let c1_i32 : BitVec 32 := 1#32
  let v624 : BitVec 32 := Scalar.subi v623 c1_i32
  let v625 : BitVec 1 := Scalar.cmpi .sle v2 v624
  let v626 : BitVec 32 := Scalar.extui v625
  let v627 : BitVec 32 := Scalar.addi c0_i32_110 v626
  let v628 : BitVec 1 := Scalar.cmpi .sle v4 v624
  let v629 : BitVec 32 := Scalar.extui v628
  let v630 : BitVec 32 := Scalar.addi v627 v629
  let v631 : BitVec 1 := Scalar.cmpi .sle v6 v624
  let v632 : BitVec 32 := Scalar.extui v631
  let v633 : BitVec 32 := Scalar.addi v630 v632
  let v634 : BitVec 1 := Scalar.cmpi .sle v8 v624
  let v635 : BitVec 32 := Scalar.extui v634
  let v636 : BitVec 32 := Scalar.addi v633 v635
  let v637 : BitVec 1 := Scalar.cmpi .sle v10 v624
  let v638 : BitVec 32 := Scalar.extui v637
  let v639 : BitVec 32 := Scalar.addi v636 v638
  let v640 : BitVec 1 := Scalar.cmpi .sle v12 v624
  let v641 : BitVec 32 := Scalar.extui v640
  let v642 : BitVec 32 := Scalar.addi v639 v641
  let v643 : BitVec 1 := Scalar.cmpi .sle v14 v624
  let v644 : BitVec 32 := Scalar.extui v643
  let v645 : BitVec 32 := Scalar.addi v642 v644
  let v646 : BitVec 1 := Scalar.cmpi .sle v16 v624
  let v647 : BitVec 32 := Scalar.extui v646
  let v648 : BitVec 32 := Scalar.addi v645 v647
  let v649 : BitVec 1 := Scalar.cmpi .sle v18 v624
  let v650 : BitVec 32 := Scalar.extui v649
  let v651 : BitVec 32 := Scalar.addi v648 v650
  let v652 : BitVec 1 := Scalar.cmpi .sle v20 v624
  let v653 : BitVec 32 := Scalar.extui v652
  let v654 : BitVec 32 := Scalar.addi v651 v653
  let v655 : BitVec 1 := Scalar.cmpi .sle v22 v624
  let v656 : BitVec 32 := Scalar.extui v655
  let v657 : BitVec 32 := Scalar.addi v654 v656
  let v658 : BitVec 1 := Scalar.cmpi .sle v24 v624
  let v659 : BitVec 32 := Scalar.extui v658
  let v660 : BitVec 32 := Scalar.addi v657 v659
  let v661 : BitVec 1 := Scalar.cmpi .sle v26 v624
  let v662 : BitVec 32 := Scalar.extui v661
  let v663 : BitVec 32 := Scalar.addi v660 v662
  let v664 : BitVec 1 := Scalar.cmpi .sle v28 v624
  let v665 : BitVec 32 := Scalar.extui v664
  let v666 : BitVec 32 := Scalar.addi v663 v665
  let v667 : BitVec 1 := Scalar.cmpi .sle v30 v624
  let v668 : BitVec 32 := Scalar.extui v667
  let v669 : BitVec 32 := Scalar.addi v666 v668
  let c1_i32_129 : BitVec 32 := 1#32
  let v716 : BitVec 32 := Scalar.addi v669 c1_i32_129
  let v717 : BitVec 32 := Scalar.subi v716 v715
  let c1_i32_130 : BitVec 32 := 1#32
  let v719 : BitVec 32 := Scalar.divsi v717 c1_i32_130
  let v720 : BitVec 32 := Scalar.muli v719 c1_i32_130
  let v721 : BitVec 32 := Scalar.addi v715 v720
  let v718 : BitVec 32 := Scalar.addi v715 v717
  let c1_i32_132 : BitVec 32 := 1#32
  ⟨v721, v718, c1_i32_132⟩
def k0_off9 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (k0_t2 : Fin (k0_t2_loop i v1 v3 v5 v7 v9 v11 v13 v15 v17 v19 v21 v23 v25 v27 v29).trips) : Fin 1 → Nat :=
  let c0_i32_108 : BitVec 32 := 0#32
  let c0_i32 : BitVec 32 := 0#32
  let v2 : BitVec 32 := Scalar.addi c0_i32 v1
  let arg0 : BitVec 32 := BitVec.ofNat 32 (i 0).val
  let c2048_i32 : BitVec 32 := 2048#32
  let v0 : BitVec 32 := Scalar.muli arg0 c2048_i32
  let v578 : BitVec 1 := Scalar.cmpi .sle v2 v0
  let v579 : BitVec 32 := Scalar.extui v578
  let v580 : BitVec 32 := Scalar.addi c0_i32_108 v579
  let v4 : BitVec 32 := Scalar.addi v2 v3
  let v581 : BitVec 1 := Scalar.cmpi .sle v4 v0
  let v582 : BitVec 32 := Scalar.extui v581
  let v583 : BitVec 32 := Scalar.addi v580 v582
  let v6 : BitVec 32 := Scalar.addi v4 v5
  let v584 : BitVec 1 := Scalar.cmpi .sle v6 v0
  let v585 : BitVec 32 := Scalar.extui v584
  let v586 : BitVec 32 := Scalar.addi v583 v585
  let v8 : BitVec 32 := Scalar.addi v6 v7
  let v587 : BitVec 1 := Scalar.cmpi .sle v8 v0
  let v588 : BitVec 32 := Scalar.extui v587
  let v589 : BitVec 32 := Scalar.addi v586 v588
  let v10 : BitVec 32 := Scalar.addi v8 v9
  let v590 : BitVec 1 := Scalar.cmpi .sle v10 v0
  let v591 : BitVec 32 := Scalar.extui v590
  let v592 : BitVec 32 := Scalar.addi v589 v591
  let v12 : BitVec 32 := Scalar.addi v10 v11
  let v593 : BitVec 1 := Scalar.cmpi .sle v12 v0
  let v594 : BitVec 32 := Scalar.extui v593
  let v595 : BitVec 32 := Scalar.addi v592 v594
  let v14 : BitVec 32 := Scalar.addi v12 v13
  let v596 : BitVec 1 := Scalar.cmpi .sle v14 v0
  let v597 : BitVec 32 := Scalar.extui v596
  let v598 : BitVec 32 := Scalar.addi v595 v597
  let v16 : BitVec 32 := Scalar.addi v14 v15
  let v599 : BitVec 1 := Scalar.cmpi .sle v16 v0
  let v600 : BitVec 32 := Scalar.extui v599
  let v601 : BitVec 32 := Scalar.addi v598 v600
  let v18 : BitVec 32 := Scalar.addi v16 v17
  let v602 : BitVec 1 := Scalar.cmpi .sle v18 v0
  let v603 : BitVec 32 := Scalar.extui v602
  let v604 : BitVec 32 := Scalar.addi v601 v603
  let v20 : BitVec 32 := Scalar.addi v18 v19
  let v605 : BitVec 1 := Scalar.cmpi .sle v20 v0
  let v606 : BitVec 32 := Scalar.extui v605
  let v607 : BitVec 32 := Scalar.addi v604 v606
  let v22 : BitVec 32 := Scalar.addi v20 v21
  let v608 : BitVec 1 := Scalar.cmpi .sle v22 v0
  let v609 : BitVec 32 := Scalar.extui v608
  let v610 : BitVec 32 := Scalar.addi v607 v609
  let v24 : BitVec 32 := Scalar.addi v22 v23
  let v611 : BitVec 1 := Scalar.cmpi .sle v24 v0
  let v612 : BitVec 32 := Scalar.extui v611
  let v613 : BitVec 32 := Scalar.addi v610 v612
  let v26 : BitVec 32 := Scalar.addi v24 v25
  let v614 : BitVec 1 := Scalar.cmpi .sle v26 v0
  let v615 : BitVec 32 := Scalar.extui v614
  let v616 : BitVec 32 := Scalar.addi v613 v615
  let v28 : BitVec 32 := Scalar.addi v26 v27
  let v617 : BitVec 1 := Scalar.cmpi .sle v28 v0
  let v618 : BitVec 32 := Scalar.extui v617
  let v619 : BitVec 32 := Scalar.addi v616 v618
  let v30 : BitVec 32 := Scalar.addi v28 v29
  let v620 : BitVec 1 := Scalar.cmpi .sle v30 v0
  let v621 : BitVec 32 := Scalar.extui v620
  let v622 : BitVec 32 := Scalar.addi v619 v621
  let c1_i32_128 : BitVec 32 := 1#32
  let v715 : BitVec 32 := Scalar.addi v622 c1_i32_128
  let c0_i32_110 : BitVec 32 := 0#32
  let c2048_i32_109 : BitVec 32 := 2048#32
  let v623 : BitVec 32 := Scalar.addi v0 c2048_i32_109
  let c1_i32 : BitVec 32 := 1#32
  let v624 : BitVec 32 := Scalar.subi v623 c1_i32
  let v625 : BitVec 1 := Scalar.cmpi .sle v2 v624
  let v626 : BitVec 32 := Scalar.extui v625
  let v627 : BitVec 32 := Scalar.addi c0_i32_110 v626
  let v628 : BitVec 1 := Scalar.cmpi .sle v4 v624
  let v629 : BitVec 32 := Scalar.extui v628
  let v630 : BitVec 32 := Scalar.addi v627 v629
  let v631 : BitVec 1 := Scalar.cmpi .sle v6 v624
  let v632 : BitVec 32 := Scalar.extui v631
  let v633 : BitVec 32 := Scalar.addi v630 v632
  let v634 : BitVec 1 := Scalar.cmpi .sle v8 v624
  let v635 : BitVec 32 := Scalar.extui v634
  let v636 : BitVec 32 := Scalar.addi v633 v635
  let v637 : BitVec 1 := Scalar.cmpi .sle v10 v624
  let v638 : BitVec 32 := Scalar.extui v637
  let v639 : BitVec 32 := Scalar.addi v636 v638
  let v640 : BitVec 1 := Scalar.cmpi .sle v12 v624
  let v641 : BitVec 32 := Scalar.extui v640
  let v642 : BitVec 32 := Scalar.addi v639 v641
  let v643 : BitVec 1 := Scalar.cmpi .sle v14 v624
  let v644 : BitVec 32 := Scalar.extui v643
  let v645 : BitVec 32 := Scalar.addi v642 v644
  let v646 : BitVec 1 := Scalar.cmpi .sle v16 v624
  let v647 : BitVec 32 := Scalar.extui v646
  let v648 : BitVec 32 := Scalar.addi v645 v647
  let v649 : BitVec 1 := Scalar.cmpi .sle v18 v624
  let v650 : BitVec 32 := Scalar.extui v649
  let v651 : BitVec 32 := Scalar.addi v648 v650
  let v652 : BitVec 1 := Scalar.cmpi .sle v20 v624
  let v653 : BitVec 32 := Scalar.extui v652
  let v654 : BitVec 32 := Scalar.addi v651 v653
  let v655 : BitVec 1 := Scalar.cmpi .sle v22 v624
  let v656 : BitVec 32 := Scalar.extui v655
  let v657 : BitVec 32 := Scalar.addi v654 v656
  let v658 : BitVec 1 := Scalar.cmpi .sle v24 v624
  let v659 : BitVec 32 := Scalar.extui v658
  let v660 : BitVec 32 := Scalar.addi v657 v659
  let v661 : BitVec 1 := Scalar.cmpi .sle v26 v624
  let v662 : BitVec 32 := Scalar.extui v661
  let v663 : BitVec 32 := Scalar.addi v660 v662
  let v664 : BitVec 1 := Scalar.cmpi .sle v28 v624
  let v665 : BitVec 32 := Scalar.extui v664
  let v666 : BitVec 32 := Scalar.addi v663 v665
  let v667 : BitVec 1 := Scalar.cmpi .sle v30 v624
  let v668 : BitVec 32 := Scalar.extui v667
  let v669 : BitVec 32 := Scalar.addi v666 v668
  let c1_i32_129 : BitVec 32 := 1#32
  let v716 : BitVec 32 := Scalar.addi v669 c1_i32_129
  let v717 : BitVec 32 := Scalar.subi v716 v715
  let c1_i32_130 : BitVec 32 := 1#32
  let v719 : BitVec 32 := Scalar.divsi v717 c1_i32_130
  let v720 : BitVec 32 := Scalar.muli v719 c1_i32_130
  let v721 : BitVec 32 := Scalar.addi v715 v720
  let c1_i32_132 : BitVec 32 := 1#32
  let arg8 : BitVec 32 := Scf.iv v721 c1_i32_132 k0_t2
  let v724 : Index := Scalar.indexCast arg8
  ![v724.toNat]

def k0_chk1 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) : Prop :=
  (∀ (r : Fin 8), ∀ a, (k0_off1 i v1 v3 v5 v7 v9 v11 v13 v15 v17 v19 v21 v23 v25 v27 v29 (BitVec.ofNat 32 (256 * r.val))) a + S1x768x2048.size a ≤ S16x768x2048.size a) ∧
  (∀ (r : Fin 8), ∀ a, (k0_off2 i v1 v3 v5 v7 v9 v11 v13 v15 v17 v19 v21 v23 v25 v27 v29 (BitVec.ofNat 32 (256 * r.val))) a + S1x2048.size a ≤ S16x2048.size a) ∧
  ((k0_t1_loop i v1 v3 v5 v7 v9 v11 v13 v15 v17 v19 v21 v23 v25 v27 v29).OK) ∧
  (∀ k0_t1 : Fin (k0_t1_loop i v1 v3 v5 v7 v9 v11 v13 v15 v17 v19 v21 v23 v25 v27 v29).trips, ∀ a, (k0_off3 i v1 v3 v5 v7 v9 v11 v13 v15 v17 v19 v21 v23 v25 v27 v29 k0_t1) a + S1.size a ≤ S16.size a) ∧
  ((k0_t2_loop i v1 v3 v5 v7 v9 v11 v13 v15 v17 v19 v21 v23 v25 v27 v29).OK) ∧
  (∀ k0_t2 : Fin (k0_t2_loop i v1 v3 v5 v7 v9 v11 v13 v15 v17 v19 v21 v23 v25 v27 v29).trips, ∀ a, (k0_off9 i v1 v3 v5 v7 v9 v11 v13 v15 v17 v19 v21 v23 v25 v27 v29 k0_t2) a + S1.size a ≤ S16.size a)
theorem k0_off1_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (k0_hw1 : k0_chk1 i v1 v3 v5 v7 v9 v11 v13 v15 v17 v19 v21 v23 v25 v27 v29), ∀ (r : Fin 8), ∀ a, (k0_off1 i v1 v3 v5 v7 v9 v11 v13 v15 v17 v19 v21 v23 v25 v27 v29 (BitVec.ofNat 32 (256 * r.val))) a + S1x768x2048.size a ≤ S16x768x2048.size a := fun i v1 v3 v5 v7 v9 v11 v13 v15 v17 v19 v21 v23 v25 v27 v29 k0_hw1 r => k0_hw1.1 r
theorem k0_off2_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (k0_hw1 : k0_chk1 i v1 v3 v5 v7 v9 v11 v13 v15 v17 v19 v21 v23 v25 v27 v29), ∀ (r : Fin 8), ∀ a, (k0_off2 i v1 v3 v5 v7 v9 v11 v13 v15 v17 v19 v21 v23 v25 v27 v29 (BitVec.ofNat 32 (256 * r.val))) a + S1x2048.size a ≤ S16x2048.size a := fun i v1 v3 v5 v7 v9 v11 v13 v15 v17 v19 v21 v23 v25 v27 v29 k0_hw1 r => k0_hw1.2.1 r
theorem k0_t1_ok : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (k0_hw1 : k0_chk1 i v1 v3 v5 v7 v9 v11 v13 v15 v17 v19 v21 v23 v25 v27 v29), (k0_t1_loop i v1 v3 v5 v7 v9 v11 v13 v15 v17 v19 v21 v23 v25 v27 v29).OK := fun i v1 v3 v5 v7 v9 v11 v13 v15 v17 v19 v21 v23 v25 v27 v29 k0_hw1 => k0_hw1.2.2.1
theorem k0_off3_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (k0_hw1 : k0_chk1 i v1 v3 v5 v7 v9 v11 v13 v15 v17 v19 v21 v23 v25 v27 v29) (k0_t1 : Fin (k0_t1_loop i v1 v3 v5 v7 v9 v11 v13 v15 v17 v19 v21 v23 v25 v27 v29).trips), ∀ a, (k0_off3 i v1 v3 v5 v7 v9 v11 v13 v15 v17 v19 v21 v23 v25 v27 v29 k0_t1) a + S1.size a ≤ S16.size a := fun i v1 v3 v5 v7 v9 v11 v13 v15 v17 v19 v21 v23 v25 v27 v29 k0_hw1 k0_t1 => k0_hw1.2.2.2.1 k0_t1
theorem k0_t2_ok : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (k0_hw1 : k0_chk1 i v1 v3 v5 v7 v9 v11 v13 v15 v17 v19 v21 v23 v25 v27 v29), (k0_t2_loop i v1 v3 v5 v7 v9 v11 v13 v15 v17 v19 v21 v23 v25 v27 v29).OK := fun i v1 v3 v5 v7 v9 v11 v13 v15 v17 v19 v21 v23 v25 v27 v29 k0_hw1 => k0_hw1.2.2.2.2.1
theorem k0_off9_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (k0_hw1 : k0_chk1 i v1 v3 v5 v7 v9 v11 v13 v15 v17 v19 v21 v23 v25 v27 v29) (k0_t2 : Fin (k0_t2_loop i v1 v3 v5 v7 v9 v11 v13 v15 v17 v19 v21 v23 v25 v27 v29).trips), ∀ a, (k0_off9 i v1 v3 v5 v7 v9 v11 v13 v15 v17 v19 v21 v23 v25 v27 v29 k0_t2) a + S1.size a ≤ S16.size a := fun i v1 v3 v5 v7 v9 v11 v13 v15 v17 v19 v21 v23 v25 v27 v29 k0_hw1 k0_t2 => k0_hw1.2.2.2.2.2 k0_t2

def k0_mult2 (i : grid0.Coords) (arg9 : BitVec 32) : BitVec 32 :=
  let arg0 : BitVec 32 := BitVec.ofNat 32 (i 0).val
  let c2048_i32 : BitVec 32 := 2048#32
  let v0 : BitVec 32 := Scalar.muli arg0 c2048_i32
  let v726 : BitVec 32 := Scalar.subi arg9 v0
  let c0_i32_143 : BitVec 32 := 0#32
  let v744 : BitVec 1 := Scalar.cmpi .sgt v726 c0_i32_143
  let v745 : BitVec 32 := Scalar.extui v744
  let c0_i32_144 : BitVec 32 := 0#32
  let v746 : BitVec 1 := Scalar.cmpi .slt v726 c0_i32_144
  let v747 : BitVec 32 := Scalar.extui v746
  let v748 : BitVec 32 := Scalar.subi v745 v747
  let c256_i32_142 : BitVec 32 := 256#32
  let c0_i32_145 : BitVec 32 := 0#32
  let v749 : BitVec 1 := Scalar.cmpi .sgt c256_i32_142 c0_i32_145
  let v750 : BitVec 32 := Scalar.extui v749
  let c0_i32_146 : BitVec 32 := 0#32
  let v751 : BitVec 1 := Scalar.cmpi .slt c256_i32_142 c0_i32_146
  let v752 : BitVec 32 := Scalar.extui v751
  let v753 : BitVec 32 := Scalar.subi v750 v752
  let v754 : BitVec 1 := Scalar.cmpi .ne v748 v753
  let v755 : BitVec 32 := Scalar.remsi v726 c256_i32_142
  let c0_i32_147 : BitVec 32 := 0#32
  let v756 : BitVec 1 := Scalar.cmpi .ne v755 c0_i32_147
  let v757 : BitVec 1 := Scalar.andi v754 v756
  let v743 : BitVec 32 := Scalar.divsi v726 c256_i32_142
  let c1_i32_148 : BitVec 32 := 1#32
  let v758 : BitVec 32 := Scalar.subi v743 c1_i32_148
  let v759 : BitVec 32 := Scalar.select v757 v758 v743
  let c256_i32_149 : BitVec 32 := 256#32
  let v760 : BitVec 32 := Scalar.muli v759 c256_i32_149
  v760
def k0_cond2 (i : grid0.Coords) (arg9 : BitVec 32) (v725 : BitVec 32) : BitVec 1 :=
  let c0_i32_133 : BitVec 32 := 0#32
  let v727 : BitVec 1 := Scalar.cmpi .sgt v725 c0_i32_133
  let arg0 : BitVec 32 := BitVec.ofNat 32 (i 0).val
  let c2048_i32 : BitVec 32 := 2048#32
  let v0 : BitVec 32 := Scalar.muli arg0 c2048_i32
  let v726 : BitVec 32 := Scalar.subi arg9 v0
  let c256_i32_134 : BitVec 32 := 256#32
  let c0_i32_135 : BitVec 32 := 0#32
  let v728 : BitVec 1 := Scalar.cmpi .eq c256_i32_134 c0_i32_135
  let c1_i32_136 : BitVec 32 := 1#32
  let v729 : BitVec 32 := Scalar.select v728 c1_i32_136 c256_i32_134
  let v730 : BitVec 32 := Scalar.remsi v726 v729
  let c0_i32_138 : BitVec 32 := 0#32
  let v732 : BitVec 1 := Scalar.cmpi .slt v730 c0_i32_138
  let c0_i32_139 : BitVec 32 := 0#32
  let v733 : BitVec 1 := Scalar.cmpi .slt v729 c0_i32_139
  let v734 : BitVec 1 := Scalar.xori v732 v733
  let c0_i32_137 : BitVec 32 := 0#32
  let v731 : BitVec 1 := Scalar.cmpi .ne v730 c0_i32_137
  let v735 : BitVec 1 := Scalar.andi v734 v731
  let v736 : BitVec 32 := Scalar.addi v730 v729
  let v737 : BitVec 32 := Scalar.select v735 v736 v730
  let c0_i32_140 : BitVec 32 := 0#32
  let v738 : BitVec 1 := Scalar.cmpi .ne v737 c0_i32_140
  let v739 : BitVec 1 := Scalar.andi v727 v738
  let v740 : BitVec 32 := Scalar.extui v739
  let c0_i32_141 : BitVec 32 := 0#32
  let v741 : BitVec 1 := Scalar.cmpi .ne v740 c0_i32_141
  v741

def k0_off10 (i : grid0.Coords) (arg9 : BitVec 32) : Fin 2 → Nat :=
  let arg0 : BitVec 32 := BitVec.ofNat 32 (i 0).val
  let c2048_i32 : BitVec 32 := 2048#32
  let v0 : BitVec 32 := Scalar.muli arg0 c2048_i32
  let v726 : BitVec 32 := Scalar.subi arg9 v0
  let c0_i32_143 : BitVec 32 := 0#32
  let v744 : BitVec 1 := Scalar.cmpi .sgt v726 c0_i32_143
  let v745 : BitVec 32 := Scalar.extui v744
  let c0_i32_144 : BitVec 32 := 0#32
  let v746 : BitVec 1 := Scalar.cmpi .slt v726 c0_i32_144
  let v747 : BitVec 32 := Scalar.extui v746
  let v748 : BitVec 32 := Scalar.subi v745 v747
  let c256_i32_142 : BitVec 32 := 256#32
  let c0_i32_145 : BitVec 32 := 0#32
  let v749 : BitVec 1 := Scalar.cmpi .sgt c256_i32_142 c0_i32_145
  let v750 : BitVec 32 := Scalar.extui v749
  let c0_i32_146 : BitVec 32 := 0#32
  let v751 : BitVec 1 := Scalar.cmpi .slt c256_i32_142 c0_i32_146
  let v752 : BitVec 32 := Scalar.extui v751
  let v753 : BitVec 32 := Scalar.subi v750 v752
  let v754 : BitVec 1 := Scalar.cmpi .ne v748 v753
  let v755 : BitVec 32 := Scalar.remsi v726 c256_i32_142
  let c0_i32_147 : BitVec 32 := 0#32
  let v756 : BitVec 1 := Scalar.cmpi .ne v755 c0_i32_147
  let v757 : BitVec 1 := Scalar.andi v754 v756
  let v743 : BitVec 32 := Scalar.divsi v726 c256_i32_142
  let c1_i32_148 : BitVec 32 := 1#32
  let v758 : BitVec 32 := Scalar.subi v743 c1_i32_148
  let v759 : BitVec 32 := Scalar.select v757 v758 v743
  let c256_i32_149 : BitVec 32 := 256#32
  let v760 : BitVec 32 := Scalar.muli v759 c256_i32_149
  let v761 : BitVec 32 := v760
  let v767 : Index := Scalar.indexCast v761
  let c0_150 : Index := 0#32
  ![v767.toNat, 0]
def k0_off11 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (k0_t2 : Fin (k0_t2_loop i v1 v3 v5 v7 v9 v11 v13 v15 v17 v19 v21 v23 v25 v27 v29).trips) : Fin 3 → Nat :=
  let c0_i32_108 : BitVec 32 := 0#32
  let c0_i32 : BitVec 32 := 0#32
  let v2 : BitVec 32 := Scalar.addi c0_i32 v1
  let arg0 : BitVec 32 := BitVec.ofNat 32 (i 0).val
  let c2048_i32 : BitVec 32 := 2048#32
  let v0 : BitVec 32 := Scalar.muli arg0 c2048_i32
  let v578 : BitVec 1 := Scalar.cmpi .sle v2 v0
  let v579 : BitVec 32 := Scalar.extui v578
  let v580 : BitVec 32 := Scalar.addi c0_i32_108 v579
  let v4 : BitVec 32 := Scalar.addi v2 v3
  let v581 : BitVec 1 := Scalar.cmpi .sle v4 v0
  let v582 : BitVec 32 := Scalar.extui v581
  let v583 : BitVec 32 := Scalar.addi v580 v582
  let v6 : BitVec 32 := Scalar.addi v4 v5
  let v584 : BitVec 1 := Scalar.cmpi .sle v6 v0
  let v585 : BitVec 32 := Scalar.extui v584
  let v586 : BitVec 32 := Scalar.addi v583 v585
  let v8 : BitVec 32 := Scalar.addi v6 v7
  let v587 : BitVec 1 := Scalar.cmpi .sle v8 v0
  let v588 : BitVec 32 := Scalar.extui v587
  let v589 : BitVec 32 := Scalar.addi v586 v588
  let v10 : BitVec 32 := Scalar.addi v8 v9
  let v590 : BitVec 1 := Scalar.cmpi .sle v10 v0
  let v591 : BitVec 32 := Scalar.extui v590
  let v592 : BitVec 32 := Scalar.addi v589 v591
  let v12 : BitVec 32 := Scalar.addi v10 v11
  let v593 : BitVec 1 := Scalar.cmpi .sle v12 v0
  let v594 : BitVec 32 := Scalar.extui v593
  let v595 : BitVec 32 := Scalar.addi v592 v594
  let v14 : BitVec 32 := Scalar.addi v12 v13
  let v596 : BitVec 1 := Scalar.cmpi .sle v14 v0
  let v597 : BitVec 32 := Scalar.extui v596
  let v598 : BitVec 32 := Scalar.addi v595 v597
  let v16 : BitVec 32 := Scalar.addi v14 v15
  let v599 : BitVec 1 := Scalar.cmpi .sle v16 v0
  let v600 : BitVec 32 := Scalar.extui v599
  let v601 : BitVec 32 := Scalar.addi v598 v600
  let v18 : BitVec 32 := Scalar.addi v16 v17
  let v602 : BitVec 1 := Scalar.cmpi .sle v18 v0
  let v603 : BitVec 32 := Scalar.extui v602
  let v604 : BitVec 32 := Scalar.addi v601 v603
  let v20 : BitVec 32 := Scalar.addi v18 v19
  let v605 : BitVec 1 := Scalar.cmpi .sle v20 v0
  let v606 : BitVec 32 := Scalar.extui v605
  let v607 : BitVec 32 := Scalar.addi v604 v606
  let v22 : BitVec 32 := Scalar.addi v20 v21
  let v608 : BitVec 1 := Scalar.cmpi .sle v22 v0
  let v609 : BitVec 32 := Scalar.extui v608
  let v610 : BitVec 32 := Scalar.addi v607 v609
  let v24 : BitVec 32 := Scalar.addi v22 v23
  let v611 : BitVec 1 := Scalar.cmpi .sle v24 v0
  let v612 : BitVec 32 := Scalar.extui v611
  let v613 : BitVec 32 := Scalar.addi v610 v612
  let v26 : BitVec 32 := Scalar.addi v24 v25
  let v614 : BitVec 1 := Scalar.cmpi .sle v26 v0
  let v615 : BitVec 32 := Scalar.extui v614
  let v616 : BitVec 32 := Scalar.addi v613 v615
  let v28 : BitVec 32 := Scalar.addi v26 v27
  let v617 : BitVec 1 := Scalar.cmpi .sle v28 v0
  let v618 : BitVec 32 := Scalar.extui v617
  let v619 : BitVec 32 := Scalar.addi v616 v618
  let v30 : BitVec 32 := Scalar.addi v28 v29
  let v620 : BitVec 1 := Scalar.cmpi .sle v30 v0
  let v621 : BitVec 32 := Scalar.extui v620
  let v622 : BitVec 32 := Scalar.addi v619 v621
  let c1_i32_128 : BitVec 32 := 1#32
  let v715 : BitVec 32 := Scalar.addi v622 c1_i32_128
  let c0_i32_110 : BitVec 32 := 0#32
  let c2048_i32_109 : BitVec 32 := 2048#32
  let v623 : BitVec 32 := Scalar.addi v0 c2048_i32_109
  let c1_i32 : BitVec 32 := 1#32
  let v624 : BitVec 32 := Scalar.subi v623 c1_i32
  let v625 : BitVec 1 := Scalar.cmpi .sle v2 v624
  let v626 : BitVec 32 := Scalar.extui v625
  let v627 : BitVec 32 := Scalar.addi c0_i32_110 v626
  let v628 : BitVec 1 := Scalar.cmpi .sle v4 v624
  let v629 : BitVec 32 := Scalar.extui v628
  let v630 : BitVec 32 := Scalar.addi v627 v629
  let v631 : BitVec 1 := Scalar.cmpi .sle v6 v624
  let v632 : BitVec 32 := Scalar.extui v631
  let v633 : BitVec 32 := Scalar.addi v630 v632
  let v634 : BitVec 1 := Scalar.cmpi .sle v8 v624
  let v635 : BitVec 32 := Scalar.extui v634
  let v636 : BitVec 32 := Scalar.addi v633 v635
  let v637 : BitVec 1 := Scalar.cmpi .sle v10 v624
  let v638 : BitVec 32 := Scalar.extui v637
  let v639 : BitVec 32 := Scalar.addi v636 v638
  let v640 : BitVec 1 := Scalar.cmpi .sle v12 v624
  let v641 : BitVec 32 := Scalar.extui v640
  let v642 : BitVec 32 := Scalar.addi v639 v641
  let v643 : BitVec 1 := Scalar.cmpi .sle v14 v624
  let v644 : BitVec 32 := Scalar.extui v643
  let v645 : BitVec 32 := Scalar.addi v642 v644
  let v646 : BitVec 1 := Scalar.cmpi .sle v16 v624
  let v647 : BitVec 32 := Scalar.extui v646
  let v648 : BitVec 32 := Scalar.addi v645 v647
  let v649 : BitVec 1 := Scalar.cmpi .sle v18 v624
  let v650 : BitVec 32 := Scalar.extui v649
  let v651 : BitVec 32 := Scalar.addi v648 v650
  let v652 : BitVec 1 := Scalar.cmpi .sle v20 v624
  let v653 : BitVec 32 := Scalar.extui v652
  let v654 : BitVec 32 := Scalar.addi v651 v653
  let v655 : BitVec 1 := Scalar.cmpi .sle v22 v624
  let v656 : BitVec 32 := Scalar.extui v655
  let v657 : BitVec 32 := Scalar.addi v654 v656
  let v658 : BitVec 1 := Scalar.cmpi .sle v24 v624
  let v659 : BitVec 32 := Scalar.extui v658
  let v660 : BitVec 32 := Scalar.addi v657 v659
  let v661 : BitVec 1 := Scalar.cmpi .sle v26 v624
  let v662 : BitVec 32 := Scalar.extui v661
  let v663 : BitVec 32 := Scalar.addi v660 v662
  let v664 : BitVec 1 := Scalar.cmpi .sle v28 v624
  let v665 : BitVec 32 := Scalar.extui v664
  let v666 : BitVec 32 := Scalar.addi v663 v665
  let v667 : BitVec 1 := Scalar.cmpi .sle v30 v624
  let v668 : BitVec 32 := Scalar.extui v667
  let v669 : BitVec 32 := Scalar.addi v666 v668
  let c1_i32_129 : BitVec 32 := 1#32
  let v716 : BitVec 32 := Scalar.addi v669 c1_i32_129
  let v717 : BitVec 32 := Scalar.subi v716 v715
  let c1_i32_130 : BitVec 32 := 1#32
  let v719 : BitVec 32 := Scalar.divsi v717 c1_i32_130
  let v720 : BitVec 32 := Scalar.muli v719 c1_i32_130
  let v721 : BitVec 32 := Scalar.addi v715 v720
  let c1_i32_132 : BitVec 32 := 1#32
  let arg8 : BitVec 32 := Scf.iv v721 c1_i32_132 k0_t2
  let v769 : Index := Scalar.indexCast arg8
  let c0_151 : Index := 0#32
  let c0_152 : Index := 0#32
  ![v769.toNat, 0, 0]
def k0_off12 (i : grid0.Coords) (arg9 : BitVec 32) : Fin 2 → Nat :=
  let arg0 : BitVec 32 := BitVec.ofNat 32 (i 0).val
  let c2048_i32 : BitVec 32 := 2048#32
  let v0 : BitVec 32 := Scalar.muli arg0 c2048_i32
  let v726 : BitVec 32 := Scalar.subi arg9 v0
  let c0_i32_143 : BitVec 32 := 0#32
  let v744 : BitVec 1 := Scalar.cmpi .sgt v726 c0_i32_143
  let v745 : BitVec 32 := Scalar.extui v744
  let c0_i32_144 : BitVec 32 := 0#32
  let v746 : BitVec 1 := Scalar.cmpi .slt v726 c0_i32_144
  let v747 : BitVec 32 := Scalar.extui v746
  let v748 : BitVec 32 := Scalar.subi v745 v747
  let c256_i32_142 : BitVec 32 := 256#32
  let c0_i32_145 : BitVec 32 := 0#32
  let v749 : BitVec 1 := Scalar.cmpi .sgt c256_i32_142 c0_i32_145
  let v750 : BitVec 32 := Scalar.extui v749
  let c0_i32_146 : BitVec 32 := 0#32
  let v751 : BitVec 1 := Scalar.cmpi .slt c256_i32_142 c0_i32_146
  let v752 : BitVec 32 := Scalar.extui v751
  let v753 : BitVec 32 := Scalar.subi v750 v752
  let v754 : BitVec 1 := Scalar.cmpi .ne v748 v753
  let v755 : BitVec 32 := Scalar.remsi v726 c256_i32_142
  let c0_i32_147 : BitVec 32 := 0#32
  let v756 : BitVec 1 := Scalar.cmpi .ne v755 c0_i32_147
  let v757 : BitVec 1 := Scalar.andi v754 v756
  let v743 : BitVec 32 := Scalar.divsi v726 c256_i32_142
  let c1_i32_148 : BitVec 32 := 1#32
  let v758 : BitVec 32 := Scalar.subi v743 c1_i32_148
  let v759 : BitVec 32 := Scalar.select v757 v758 v743
  let c256_i32_149 : BitVec 32 := 256#32
  let v760 : BitVec 32 := Scalar.muli v759 c256_i32_149
  let v761 : BitVec 32 := v760
  let v773 : Index := Scalar.indexCast v761
  let c0_154 : Index := 0#32
  ![v773.toNat, 0]
def k0_off13 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (k0_t2 : Fin (k0_t2_loop i v1 v3 v5 v7 v9 v11 v13 v15 v17 v19 v21 v23 v25 v27 v29).trips) : Fin 2 → Nat :=
  let c0_i32_108 : BitVec 32 := 0#32
  let c0_i32 : BitVec 32 := 0#32
  let v2 : BitVec 32 := Scalar.addi c0_i32 v1
  let arg0 : BitVec 32 := BitVec.ofNat 32 (i 0).val
  let c2048_i32 : BitVec 32 := 2048#32
  let v0 : BitVec 32 := Scalar.muli arg0 c2048_i32
  let v578 : BitVec 1 := Scalar.cmpi .sle v2 v0
  let v579 : BitVec 32 := Scalar.extui v578
  let v580 : BitVec 32 := Scalar.addi c0_i32_108 v579
  let v4 : BitVec 32 := Scalar.addi v2 v3
  let v581 : BitVec 1 := Scalar.cmpi .sle v4 v0
  let v582 : BitVec 32 := Scalar.extui v581
  let v583 : BitVec 32 := Scalar.addi v580 v582
  let v6 : BitVec 32 := Scalar.addi v4 v5
  let v584 : BitVec 1 := Scalar.cmpi .sle v6 v0
  let v585 : BitVec 32 := Scalar.extui v584
  let v586 : BitVec 32 := Scalar.addi v583 v585
  let v8 : BitVec 32 := Scalar.addi v6 v7
  let v587 : BitVec 1 := Scalar.cmpi .sle v8 v0
  let v588 : BitVec 32 := Scalar.extui v587
  let v589 : BitVec 32 := Scalar.addi v586 v588
  let v10 : BitVec 32 := Scalar.addi v8 v9
  let v590 : BitVec 1 := Scalar.cmpi .sle v10 v0
  let v591 : BitVec 32 := Scalar.extui v590
  let v592 : BitVec 32 := Scalar.addi v589 v591
  let v12 : BitVec 32 := Scalar.addi v10 v11
  let v593 : BitVec 1 := Scalar.cmpi .sle v12 v0
  let v594 : BitVec 32 := Scalar.extui v593
  let v595 : BitVec 32 := Scalar.addi v592 v594
  let v14 : BitVec 32 := Scalar.addi v12 v13
  let v596 : BitVec 1 := Scalar.cmpi .sle v14 v0
  let v597 : BitVec 32 := Scalar.extui v596
  let v598 : BitVec 32 := Scalar.addi v595 v597
  let v16 : BitVec 32 := Scalar.addi v14 v15
  let v599 : BitVec 1 := Scalar.cmpi .sle v16 v0
  let v600 : BitVec 32 := Scalar.extui v599
  let v601 : BitVec 32 := Scalar.addi v598 v600
  let v18 : BitVec 32 := Scalar.addi v16 v17
  let v602 : BitVec 1 := Scalar.cmpi .sle v18 v0
  let v603 : BitVec 32 := Scalar.extui v602
  let v604 : BitVec 32 := Scalar.addi v601 v603
  let v20 : BitVec 32 := Scalar.addi v18 v19
  let v605 : BitVec 1 := Scalar.cmpi .sle v20 v0
  let v606 : BitVec 32 := Scalar.extui v605
  let v607 : BitVec 32 := Scalar.addi v604 v606
  let v22 : BitVec 32 := Scalar.addi v20 v21
  let v608 : BitVec 1 := Scalar.cmpi .sle v22 v0
  let v609 : BitVec 32 := Scalar.extui v608
  let v610 : BitVec 32 := Scalar.addi v607 v609
  let v24 : BitVec 32 := Scalar.addi v22 v23
  let v611 : BitVec 1 := Scalar.cmpi .sle v24 v0
  let v612 : BitVec 32 := Scalar.extui v611
  let v613 : BitVec 32 := Scalar.addi v610 v612
  let v26 : BitVec 32 := Scalar.addi v24 v25
  let v614 : BitVec 1 := Scalar.cmpi .sle v26 v0
  let v615 : BitVec 32 := Scalar.extui v614
  let v616 : BitVec 32 := Scalar.addi v613 v615
  let v28 : BitVec 32 := Scalar.addi v26 v27
  let v617 : BitVec 1 := Scalar.cmpi .sle v28 v0
  let v618 : BitVec 32 := Scalar.extui v617
  let v619 : BitVec 32 := Scalar.addi v616 v618
  let v30 : BitVec 32 := Scalar.addi v28 v29
  let v620 : BitVec 1 := Scalar.cmpi .sle v30 v0
  let v621 : BitVec 32 := Scalar.extui v620
  let v622 : BitVec 32 := Scalar.addi v619 v621
  let c1_i32_128 : BitVec 32 := 1#32
  let v715 : BitVec 32 := Scalar.addi v622 c1_i32_128
  let c0_i32_110 : BitVec 32 := 0#32
  let c2048_i32_109 : BitVec 32 := 2048#32
  let v623 : BitVec 32 := Scalar.addi v0 c2048_i32_109
  let c1_i32 : BitVec 32 := 1#32
  let v624 : BitVec 32 := Scalar.subi v623 c1_i32
  let v625 : BitVec 1 := Scalar.cmpi .sle v2 v624
  let v626 : BitVec 32 := Scalar.extui v625
  let v627 : BitVec 32 := Scalar.addi c0_i32_110 v626
  let v628 : BitVec 1 := Scalar.cmpi .sle v4 v624
  let v629 : BitVec 32 := Scalar.extui v628
  let v630 : BitVec 32 := Scalar.addi v627 v629
  let v631 : BitVec 1 := Scalar.cmpi .sle v6 v624
  let v632 : BitVec 32 := Scalar.extui v631
  let v633 : BitVec 32 := Scalar.addi v630 v632
  let v634 : BitVec 1 := Scalar.cmpi .sle v8 v624
  let v635 : BitVec 32 := Scalar.extui v634
  let v636 : BitVec 32 := Scalar.addi v633 v635
  let v637 : BitVec 1 := Scalar.cmpi .sle v10 v624
  let v638 : BitVec 32 := Scalar.extui v637
  let v639 : BitVec 32 := Scalar.addi v636 v638
  let v640 : BitVec 1 := Scalar.cmpi .sle v12 v624
  let v641 : BitVec 32 := Scalar.extui v640
  let v642 : BitVec 32 := Scalar.addi v639 v641
  let v643 : BitVec 1 := Scalar.cmpi .sle v14 v624
  let v644 : BitVec 32 := Scalar.extui v643
  let v645 : BitVec 32 := Scalar.addi v642 v644
  let v646 : BitVec 1 := Scalar.cmpi .sle v16 v624
  let v647 : BitVec 32 := Scalar.extui v646
  let v648 : BitVec 32 := Scalar.addi v645 v647
  let v649 : BitVec 1 := Scalar.cmpi .sle v18 v624
  let v650 : BitVec 32 := Scalar.extui v649
  let v651 : BitVec 32 := Scalar.addi v648 v650
  let v652 : BitVec 1 := Scalar.cmpi .sle v20 v624
  let v653 : BitVec 32 := Scalar.extui v652
  let v654 : BitVec 32 := Scalar.addi v651 v653
  let v655 : BitVec 1 := Scalar.cmpi .sle v22 v624
  let v656 : BitVec 32 := Scalar.extui v655
  let v657 : BitVec 32 := Scalar.addi v654 v656
  let v658 : BitVec 1 := Scalar.cmpi .sle v24 v624
  let v659 : BitVec 32 := Scalar.extui v658
  let v660 : BitVec 32 := Scalar.addi v657 v659
  let v661 : BitVec 1 := Scalar.cmpi .sle v26 v624
  let v662 : BitVec 32 := Scalar.extui v661
  let v663 : BitVec 32 := Scalar.addi v660 v662
  let v664 : BitVec 1 := Scalar.cmpi .sle v28 v624
  let v665 : BitVec 32 := Scalar.extui v664
  let v666 : BitVec 32 := Scalar.addi v663 v665
  let v667 : BitVec 1 := Scalar.cmpi .sle v30 v624
  let v668 : BitVec 32 := Scalar.extui v667
  let v669 : BitVec 32 := Scalar.addi v666 v668
  let c1_i32_129 : BitVec 32 := 1#32
  let v716 : BitVec 32 := Scalar.addi v669 c1_i32_129
  let v717 : BitVec 32 := Scalar.subi v716 v715
  let c1_i32_130 : BitVec 32 := 1#32
  let v719 : BitVec 32 := Scalar.divsi v717 c1_i32_130
  let v720 : BitVec 32 := Scalar.muli v719 c1_i32_130
  let v721 : BitVec 32 := Scalar.addi v715 v720
  let c1_i32_132 : BitVec 32 := 1#32
  let arg8 : BitVec 32 := Scf.iv v721 c1_i32_132 k0_t2
  let v777 : Index := Scalar.indexCast arg8
  let c0_155 : Index := 0#32
  ![v777.toNat, 0]
def k0_off14 (i : grid0.Coords) (arg9 : BitVec 32) : Fin 2 → Nat :=
  let arg0 : BitVec 32 := BitVec.ofNat 32 (i 0).val
  let c2048_i32 : BitVec 32 := 2048#32
  let v0 : BitVec 32 := Scalar.muli arg0 c2048_i32
  let v726 : BitVec 32 := Scalar.subi arg9 v0
  let c0_i32_143 : BitVec 32 := 0#32
  let v744 : BitVec 1 := Scalar.cmpi .sgt v726 c0_i32_143
  let v745 : BitVec 32 := Scalar.extui v744
  let c0_i32_144 : BitVec 32 := 0#32
  let v746 : BitVec 1 := Scalar.cmpi .slt v726 c0_i32_144
  let v747 : BitVec 32 := Scalar.extui v746
  let v748 : BitVec 32 := Scalar.subi v745 v747
  let c256_i32_142 : BitVec 32 := 256#32
  let c0_i32_145 : BitVec 32 := 0#32
  let v749 : BitVec 1 := Scalar.cmpi .sgt c256_i32_142 c0_i32_145
  let v750 : BitVec 32 := Scalar.extui v749
  let c0_i32_146 : BitVec 32 := 0#32
  let v751 : BitVec 1 := Scalar.cmpi .slt c256_i32_142 c0_i32_146
  let v752 : BitVec 32 := Scalar.extui v751
  let v753 : BitVec 32 := Scalar.subi v750 v752
  let v754 : BitVec 1 := Scalar.cmpi .ne v748 v753
  let v755 : BitVec 32 := Scalar.remsi v726 c256_i32_142
  let c0_i32_147 : BitVec 32 := 0#32
  let v756 : BitVec 1 := Scalar.cmpi .ne v755 c0_i32_147
  let v757 : BitVec 1 := Scalar.andi v754 v756
  let v743 : BitVec 32 := Scalar.divsi v726 c256_i32_142
  let c1_i32_148 : BitVec 32 := 1#32
  let v758 : BitVec 32 := Scalar.subi v743 c1_i32_148
  let v759 : BitVec 32 := Scalar.select v757 v758 v743
  let c256_i32_149 : BitVec 32 := 256#32
  let v760 : BitVec 32 := Scalar.muli v759 c256_i32_149
  let v761 : BitVec 32 := v760
  let v782 : Index := Scalar.indexCast v761
  let c0_156 : Index := 0#32
  ![v782.toNat, 0]

def k0_chk3 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (k0_t2 : Fin (k0_t2_loop i v1 v3 v5 v7 v9 v11 v13 v15 v17 v19 v21 v23 v25 v27 v29).trips) (arg9 : BitVec 32) (v725 : BitVec 32) : Prop :=
  (∀ (k0_h2 : k0_cond2 i arg9 v725 = 1#1), 256 ∣ (k0_mult2 i arg9).toNat) ∧
  (∀ (k0_h2 : k0_cond2 i arg9 v725 = 1#1), ∀ a, (k0_off10 i arg9) a + S256x768.size a ≤ S2048x768.size a) ∧
  (∀ (k0_h2 : k0_cond2 i arg9 v725 = 1#1), ∀ a, (k0_off11 i v1 v3 v5 v7 v9 v11 v13 v15 v17 v19 v21 v23 v25 v27 v29 k0_t2) a + S1x768x2048.size a ≤ S16x768x2048.size a) ∧
  (∀ (k0_h2 : k0_cond2 i arg9 v725 = 1#1), ∀ a, (k0_off12 i arg9) a + S256x1.size a ≤ S2048x1.size a) ∧
  (∀ (k0_h2 : k0_cond2 i arg9 v725 = 1#1), ∀ a, (k0_off13 i v1 v3 v5 v7 v9 v11 v13 v15 v17 v19 v21 v23 v25 v27 v29 k0_t2) a + S1x2048.size a ≤ S16x2048.size a) ∧
  (∀ (k0_h2 : k0_cond2 i arg9 v725 = 1#1), ∀ a, (k0_off14 i arg9) a + S256x2048.size a ≤ S2048x2048.size a) ∧
  (∀ (k0_h2 : k0_cond2 i arg9 v725 = 1#1), ∀ (hinb : ∀ a, (k0_off14 i arg9) a + S256x2048.size a ≤ S2048x2048.size a), (Rect.unit (s := S2048x2048) (k0_off14 i arg9) S256x2048.size hinb).PackedRows (EltTy.packing .bf16))
theorem k0_mult2_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (k0_t2 : Fin (k0_t2_loop i v1 v3 v5 v7 v9 v11 v13 v15 v17 v19 v21 v23 v25 v27 v29).trips) (arg9 : BitVec 32) (v725 : BitVec 32) (k0_hw3 : k0_chk3 i v1 v3 v5 v7 v9 v11 v13 v15 v17 v19 v21 v23 v25 v27 v29 k0_t2 arg9 v725), ∀ (k0_h2 : k0_cond2 i arg9 v725 = 1#1), 256 ∣ (k0_mult2 i arg9).toNat := fun i v1 v3 v5 v7 v9 v11 v13 v15 v17 v19 v21 v23 v25 v27 v29 k0_t2 arg9 v725 k0_hw3 k0_h2 => k0_hw3.1 k0_h2
theorem k0_off10_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (k0_t2 : Fin (k0_t2_loop i v1 v3 v5 v7 v9 v11 v13 v15 v17 v19 v21 v23 v25 v27 v29).trips) (arg9 : BitVec 32) (v725 : BitVec 32) (k0_hw3 : k0_chk3 i v1 v3 v5 v7 v9 v11 v13 v15 v17 v19 v21 v23 v25 v27 v29 k0_t2 arg9 v725), ∀ (k0_h2 : k0_cond2 i arg9 v725 = 1#1), ∀ a, (k0_off10 i arg9) a + S256x768.size a ≤ S2048x768.size a := fun i v1 v3 v5 v7 v9 v11 v13 v15 v17 v19 v21 v23 v25 v27 v29 k0_t2 arg9 v725 k0_hw3 k0_h2 => k0_hw3.2.1 k0_h2
theorem k0_off11_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (k0_t2 : Fin (k0_t2_loop i v1 v3 v5 v7 v9 v11 v13 v15 v17 v19 v21 v23 v25 v27 v29).trips) (arg9 : BitVec 32) (v725 : BitVec 32) (k0_hw3 : k0_chk3 i v1 v3 v5 v7 v9 v11 v13 v15 v17 v19 v21 v23 v25 v27 v29 k0_t2 arg9 v725), ∀ (k0_h2 : k0_cond2 i arg9 v725 = 1#1), ∀ a, (k0_off11 i v1 v3 v5 v7 v9 v11 v13 v15 v17 v19 v21 v23 v25 v27 v29 k0_t2) a + S1x768x2048.size a ≤ S16x768x2048.size a := fun i v1 v3 v5 v7 v9 v11 v13 v15 v17 v19 v21 v23 v25 v27 v29 k0_t2 arg9 v725 k0_hw3 k0_h2 => k0_hw3.2.2.1 k0_h2
theorem k0_off12_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (k0_t2 : Fin (k0_t2_loop i v1 v3 v5 v7 v9 v11 v13 v15 v17 v19 v21 v23 v25 v27 v29).trips) (arg9 : BitVec 32) (v725 : BitVec 32) (k0_hw3 : k0_chk3 i v1 v3 v5 v7 v9 v11 v13 v15 v17 v19 v21 v23 v25 v27 v29 k0_t2 arg9 v725), ∀ (k0_h2 : k0_cond2 i arg9 v725 = 1#1), ∀ a, (k0_off12 i arg9) a + S256x1.size a ≤ S2048x1.size a := fun i v1 v3 v5 v7 v9 v11 v13 v15 v17 v19 v21 v23 v25 v27 v29 k0_t2 arg9 v725 k0_hw3 k0_h2 => k0_hw3.2.2.2.1 k0_h2
theorem k0_off13_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (k0_t2 : Fin (k0_t2_loop i v1 v3 v5 v7 v9 v11 v13 v15 v17 v19 v21 v23 v25 v27 v29).trips) (arg9 : BitVec 32) (v725 : BitVec 32) (k0_hw3 : k0_chk3 i v1 v3 v5 v7 v9 v11 v13 v15 v17 v19 v21 v23 v25 v27 v29 k0_t2 arg9 v725), ∀ (k0_h2 : k0_cond2 i arg9 v725 = 1#1), ∀ a, (k0_off13 i v1 v3 v5 v7 v9 v11 v13 v15 v17 v19 v21 v23 v25 v27 v29 k0_t2) a + S1x2048.size a ≤ S16x2048.size a := fun i v1 v3 v5 v7 v9 v11 v13 v15 v17 v19 v21 v23 v25 v27 v29 k0_t2 arg9 v725 k0_hw3 k0_h2 => k0_hw3.2.2.2.2.1 k0_h2
theorem k0_off14_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (k0_t2 : Fin (k0_t2_loop i v1 v3 v5 v7 v9 v11 v13 v15 v17 v19 v21 v23 v25 v27 v29).trips) (arg9 : BitVec 32) (v725 : BitVec 32) (k0_hw3 : k0_chk3 i v1 v3 v5 v7 v9 v11 v13 v15 v17 v19 v21 v23 v25 v27 v29 k0_t2 arg9 v725), ∀ (k0_h2 : k0_cond2 i arg9 v725 = 1#1), ∀ a, (k0_off14 i arg9) a + S256x2048.size a ≤ S2048x2048.size a := fun i v1 v3 v5 v7 v9 v11 v13 v15 v17 v19 v21 v23 v25 v27 v29 k0_t2 arg9 v725 k0_hw3 k0_h2 => k0_hw3.2.2.2.2.2.1 k0_h2
theorem k0_off14_packedbf16 : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (k0_t2 : Fin (k0_t2_loop i v1 v3 v5 v7 v9 v11 v13 v15 v17 v19 v21 v23 v25 v27 v29).trips) (arg9 : BitVec 32) (v725 : BitVec 32) (k0_hw3 : k0_chk3 i v1 v3 v5 v7 v9 v11 v13 v15 v17 v19 v21 v23 v25 v27 v29 k0_t2 arg9 v725), ∀ (k0_h2 : k0_cond2 i arg9 v725 = 1#1), (Rect.unit (s := S2048x2048) (k0_off14 i arg9) S256x2048.size (k0_off14_inb i v1 v3 v5 v7 v9 v11 v13 v15 v17 v19 v21 v23 v25 v27 v29 k0_t2 arg9 v725 k0_hw3 k0_h2)).PackedRows (EltTy.packing .bf16) := fun i v1 v3 v5 v7 v9 v11 v13 v15 v17 v19 v21 v23 v25 v27 v29 k0_t2 arg9 v725 k0_hw3 k0_h2 => k0_hw3.2.2.2.2.2.2 k0_h2 (k0_off14_inb i v1 v3 v5 v7 v9 v11 v13 v15 v17 v19 v21 v23 v25 v27 v29 k0_t2 arg9 v725 k0_hw3 k0_h2)

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x768 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x768x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S98304x768 : Shape := ⟨2, ![98304, 768]⟩
abbrev S98304 : Shape := ⟨1, ![98304]⟩
abbrev S16 : Shape := ⟨1, ![16]⟩
abbrev S16x768x2048 : Shape := ⟨3, ![16, 768, 2048]⟩
abbrev S16x2048 : Shape := ⟨2, ![16, 2048]⟩
abbrev S_ : Shape := ⟨0, ![]⟩
abbrev S98304x1 : Shape := ⟨2, ![98304, 1]⟩
abbrev S1x16 : Shape := ⟨2, ![1, 16]⟩
abbrev S98304x16 : Shape := ⟨2, ![98304, 16]⟩
abbrev S98304x16x1 : Shape := ⟨3, ![98304, 16, 1]⟩
abbrev S98304x1x768 : Shape := ⟨3, ![98304, 1, 768]⟩
abbrev S98304x16x768 : Shape := ⟨3, ![98304, 16, 768]⟩
abbrev S98304x2048 : Shape := ⟨2, ![98304, 2048]⟩
abbrev S1 : Shape := ⟨1, ![1]⟩
abbrev S15 : Shape := ⟨1, ![15]⟩
abbrev S16x1 : Shape := ⟨2, ![16, 1]⟩
abbrev S1x1 : Shape := ⟨2, ![1, 1]⟩
abbrev S12x8192x2048 : Shape := ⟨3, ![12, 8192, 2048]⟩

abbrev nBuf : Space → Nat
  | .hbm => 98
  | .vmem => 4
  | .smem => 0
  | _ => 0

abbrev bufTy : (tb : Table) → Fin (tcTables nBuf tb) → BufTy
  | .hbm, ⟨0, _⟩ => ⟨S98304x768, .fp8e4m3⟩
  | .hbm, ⟨1, _⟩ => ⟨S98304, .f32⟩
  | .hbm, ⟨2, _⟩ => ⟨S16, .i32⟩
  | .hbm, ⟨3, _⟩ => ⟨S16x768x2048, .fp8e4m3⟩
  | .hbm, ⟨4, _⟩ => ⟨S16x2048, .f32⟩
  | .hbm, ⟨5, _⟩ => ⟨S98304x768, .f32⟩
  | .hbm, ⟨6, _⟩ => ⟨S16x768x2048, .f32⟩
  | .hbm, ⟨7, _⟩ => ⟨S_, .i32⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S98304, .i32⟩
  | .hbm, ⟨12, _⟩ => ⟨S98304x1, .i32⟩
  | .hbm, ⟨13, _⟩ => ⟨S1x16, .i32⟩
  | .hbm, ⟨14, _⟩ => ⟨S98304x16, .i32⟩
  | .hbm, ⟨15, _⟩ => ⟨S98304x16, .i32⟩
  | .hbm, ⟨16, _⟩ => ⟨S98304x16, .i1⟩
  | .hbm, ⟨17, _⟩ => ⟨S1x16, .i32⟩
  | .hbm, ⟨18, _⟩ => ⟨S98304x16, .i32⟩
  | .hbm, ⟨19, _⟩ => ⟨S98304x16, .i32⟩
  | .hbm, ⟨20, _⟩ => ⟨S98304x16, .i1⟩
  | .hbm, ⟨21, _⟩ => ⟨S98304x16, .i1⟩
  | .hbm, ⟨22, _⟩ => ⟨S98304x16x1, .i1⟩
  | .hbm, ⟨23, _⟩ => ⟨S98304x1x768, .f32⟩
  | .hbm, ⟨24, _⟩ => ⟨S_, .f32⟩
  | .hbm, ⟨25, _⟩ => ⟨S_, .f32⟩
  | .hbm, ⟨26, _⟩ => ⟨S98304x16x768, .i1⟩
  | .hbm, ⟨27, _⟩ => ⟨S98304x16x768, .f32⟩
  | .hbm, ⟨28, _⟩ => ⟨S98304x16x768, .f32⟩
  | .hbm, ⟨29, _⟩ => ⟨S98304x16x768, .f32⟩
  | .hbm, ⟨30, _⟩ => ⟨S98304x2048, .f32⟩
  | .hbm, ⟨31, _⟩ => ⟨S16, .i32⟩
  | .hbm, ⟨32, _⟩ => ⟨S1, .i32⟩
  | .hbm, ⟨33, _⟩ => ⟨S15, .i32⟩
  | .hbm, ⟨34, _⟩ => ⟨S16, .i32⟩
  | .hbm, ⟨35, _⟩ => ⟨S_, .i32⟩
  | .hbm, ⟨36, _⟩ => ⟨S1, .i32⟩
  | .hbm, ⟨37, _⟩ => ⟨S_, .i32⟩
  | .hbm, ⟨38, _⟩ => ⟨S16, .i32⟩
  | .hbm, ⟨39, _⟩ => ⟨S_, .i32⟩
  | .hbm, ⟨40, _⟩ => ⟨S_, .i32⟩
  | .hbm, ⟨41, _⟩ => ⟨S16, .i32⟩
  | .hbm, ⟨42, _⟩ => ⟨S_, .i32⟩
  | .hbm, ⟨43, _⟩ => ⟨S98304, .i32⟩
  | .hbm, ⟨44, _⟩ => ⟨S_, .i32⟩
  | .hbm, ⟨45, _⟩ => ⟨S16, .i32⟩
  | .hbm, ⟨46, _⟩ => ⟨S16, .i1⟩
  | .hbm, ⟨47, _⟩ => ⟨S_, .i32⟩
  | .hbm, ⟨48, _⟩ => ⟨S16, .i32⟩
  | .hbm, ⟨49, _⟩ => ⟨S16, .i32⟩
  | .hbm, ⟨50, _⟩ => ⟨S16, .i32⟩
  | .hbm, ⟨51, _⟩ => ⟨S16x1, .i32⟩
  | .hbm, ⟨52, _⟩ => ⟨S_, .i32⟩
  | .hbm, ⟨53, _⟩ => ⟨S16, .i32⟩
  | .hbm, ⟨54, _⟩ => ⟨S98304, .i32⟩
  | .hbm, ⟨55, _⟩ => ⟨S_, .i32⟩
  | .hbm, ⟨56, _⟩ => ⟨S_, .i32⟩
  | .hbm, ⟨57, _⟩ => ⟨S98304, .i32⟩
  | .hbm, ⟨58, _⟩ => ⟨S_, .i32⟩
  | .hbm, ⟨59, _⟩ => ⟨S98304, .i32⟩
  | .hbm, ⟨60, _⟩ => ⟨S98304, .i32⟩
  | .hbm, ⟨61, _⟩ => ⟨S_, .i32⟩
  | .hbm, ⟨62, _⟩ => ⟨S98304, .i32⟩
  | .hbm, ⟨63, _⟩ => ⟨S98304, .i1⟩
  | .hbm, ⟨64, _⟩ => ⟨S_, .i32⟩
  | .hbm, ⟨65, _⟩ => ⟨S98304, .i32⟩
  | .hbm, ⟨66, _⟩ => ⟨S98304, .i32⟩
  | .hbm, ⟨67, _⟩ => ⟨S98304, .i32⟩
  | .hbm, ⟨68, _⟩ => ⟨S98304x1, .i32⟩
  | .hbm, ⟨69, _⟩ => ⟨S1, .i32⟩
  | .hbm, ⟨70, _⟩ => ⟨S_, .i32⟩
  | .hbm, ⟨71, _⟩ => ⟨S98304x1, .i32⟩
  | .hbm, ⟨72, _⟩ => ⟨S98304x1, .i1⟩
  | .hbm, ⟨73, _⟩ => ⟨S1x1, .i32⟩
  | .hbm, ⟨74, _⟩ => ⟨S98304x1, .i32⟩
  | .hbm, ⟨75, _⟩ => ⟨S98304x1, .i1⟩
  | .hbm, ⟨76, _⟩ => ⟨S98304x1, .i1⟩
  | .hbm, ⟨77, _⟩ => ⟨S_, .i1⟩
  | .hbm, ⟨78, _⟩ => ⟨S98304, .i1⟩
  | .hbm, ⟨79, _⟩ => ⟨S98304, .i32⟩
  | .hbm, ⟨80, _⟩ => ⟨S_, .i32⟩
  | .hbm, ⟨81, _⟩ => ⟨S98304, .i32⟩
  | .hbm, ⟨82, _⟩ => ⟨S98304, .i32⟩
  | .hbm, ⟨83, _⟩ => ⟨S98304x1, .f32⟩
  | .hbm, ⟨84, _⟩ => ⟨S98304x2048, .f32⟩
  | .hbm, ⟨85, _⟩ => ⟨S98304x2048, .f32⟩
  | .hbm, ⟨86, _⟩ => ⟨S_, .i32⟩
  | .hbm, ⟨87, _⟩ => ⟨S98304, .i32⟩
  | .hbm, ⟨88, _⟩ => ⟨S98304, .i1⟩
  | .hbm, ⟨89, _⟩ => ⟨S_, .i32⟩
  | .hbm, ⟨90, _⟩ => ⟨S98304, .i32⟩
  | .hbm, ⟨91, _⟩ => ⟨S98304, .i32⟩
  | .hbm, ⟨92, _⟩ => ⟨S98304, .i32⟩
  | .hbm, ⟨93, _⟩ => ⟨S98304x1, .i32⟩
  | .hbm, ⟨94, _⟩ => ⟨S98304x2048, .f32⟩
  | .hbm, ⟨95, _⟩ => ⟨S98304x2048, .f32⟩
  | .hbm, ⟨96, _⟩ => ⟨S98304x2048, .bf16⟩
  | .hbm, ⟨97, _⟩ => ⟨S12x8192x2048, .bf16⟩
  | .local _ .vmem, ⟨0, _⟩ => ⟨S98304x768, .fp8e4m3⟩
  | .local _ .vmem, ⟨1, _⟩ => ⟨S16x768x2048, .fp8e4m3⟩
  | .local _ .vmem, ⟨2, _⟩ => ⟨S98304x768, .f32⟩
  | .local _ .vmem, ⟨3, _⟩ => ⟨S16x768x2048, .f32⟩
  | _, _ => ⟨S98304x768, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_call0_call0_c : Ref sig .tc := ⟨.hbm, 7, rfl⟩
abbrev main_call0_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call2_v0 : Ref sig .tc := ⟨.hbm, 32, rfl⟩
abbrev main_call2_v1 : Ref sig .tc := ⟨.hbm, 33, rfl⟩
abbrev main_v19 : Ref sig .tc := ⟨.hbm, 34, rfl⟩
abbrev main_c : Ref sig .tc := ⟨.hbm, 35, rfl⟩
abbrev main_v20 : Ref sig .tc := ⟨.hbm, 36, rfl⟩
abbrev main_c_0 : Ref sig .tc := ⟨.hbm, 37, rfl⟩
abbrev main_v21 : Ref sig .tc := ⟨.hbm, 38, rfl⟩
abbrev main_call3_call0_c : Ref sig .tc := ⟨.hbm, 39, rfl⟩
abbrev main_call3_call0_v0 : Ref sig .tc := ⟨.hbm, 40, rfl⟩
abbrev main_v22 : Ref sig .tc := ⟨.hbm, 41, rfl⟩
abbrev main_c_1 : Ref sig .tc := ⟨.hbm, 42, rfl⟩
abbrev main_v23 : Ref sig .tc := ⟨.hbm, 43, rfl⟩
abbrev main_c_2 : Ref sig .tc := ⟨.hbm, 44, rfl⟩
abbrev main_v24 : Ref sig .tc := ⟨.hbm, 45, rfl⟩
abbrev main_v25 : Ref sig .tc := ⟨.hbm, 46, rfl⟩
abbrev main_c_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_4 : Ref sig .tc := ⟨.hbm, 52, rfl⟩
abbrev main_v30 : Ref sig .tc := ⟨.hbm, 53, rfl⟩
abbrev main_v31 : Ref sig .tc := ⟨.hbm, 54, rfl⟩
abbrev main_call4_call0_c : Ref sig .tc := ⟨.hbm, 55, rfl⟩
abbrev main_call4_call0_v0 : Ref sig .tc := ⟨.hbm, 56, rfl⟩
abbrev main_v32 : Ref sig .tc := ⟨.hbm, 57, rfl⟩
abbrev main_c_5 : Ref sig .tc := ⟨.hbm, 58, rfl⟩
abbrev main_v33 : Ref sig .tc := ⟨.hbm, 59, rfl⟩
abbrev main_v34 : Ref sig .tc := ⟨.hbm, 60, rfl⟩
abbrev main_call5_c : Ref sig .tc := ⟨.hbm, 61, rfl⟩
abbrev main_call5_v0 : Ref sig .tc := ⟨.hbm, 62, rfl⟩
abbrev main_call5_v1 : Ref sig .tc := ⟨.hbm, 63, rfl⟩
abbrev main_call5_c_0 : Ref sig .tc := ⟨.hbm, 64, rfl⟩
abbrev main_call5_v2 : Ref sig .tc := ⟨.hbm, 65, rfl⟩
abbrev main_call5_v3 : Ref sig .tc := ⟨.hbm, 66, rfl⟩
abbrev main_call5_v4 : Ref sig .tc := ⟨.hbm, 67, rfl⟩
abbrev main_call5_v5 : Ref sig .tc := ⟨.hbm, 68, rfl⟩
abbrev main_call5_c_1 : Ref sig .tc := ⟨.hbm, 69, rfl⟩
abbrev main_call5_c_2 : Ref sig .tc := ⟨.hbm, 70, rfl⟩
abbrev main_call5_v6 : Ref sig .tc := ⟨.hbm, 71, rfl⟩
abbrev main_call5_v7 : Ref sig .tc := ⟨.hbm, 72, rfl⟩
abbrev main_call5_v8 : Ref sig .tc := ⟨.hbm, 73, rfl⟩
abbrev main_call5_v9 : Ref sig .tc := ⟨.hbm, 74, rfl⟩
abbrev main_call5_v10 : Ref sig .tc := ⟨.hbm, 75, rfl⟩
abbrev main_call5_v11 : Ref sig .tc := ⟨.hbm, 76, rfl⟩
abbrev main_call5_c_3 : Ref sig .tc := ⟨.hbm, 77, rfl⟩
abbrev main_call5_v12 : Ref sig .tc := ⟨.hbm, 78, rfl⟩
abbrev main_call5_v13 : Ref sig .tc := ⟨.hbm, 79, rfl⟩
abbrev main_call5_c_4 : Ref sig .tc := ⟨.hbm, 80, rfl⟩
abbrev main_call5_v14 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_c_6 : Ref sig .tc := ⟨.hbm, 86, rfl⟩
abbrev main_v39 : Ref sig .tc := ⟨.hbm, 87, rfl⟩
abbrev main_v40 : Ref sig .tc := ⟨.hbm, 88, rfl⟩
abbrev main_c_7 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S98304x768 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x768x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S98304x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x768x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Groups.lean ====
/- The arithmetic of the group sizes, apart from any program: sixteen 32-bit words, none negative, 98304 together.
   `S w j` is where group `j` starts (the sum of the sizes before it), `cN w r` the group of row `r`: how many of the
   starts of groups 1 to 15 are at most `r`. The same two as 32-bit chains (`psum`, `cnt`), which is how a program
   computes them, and that nothing wraps. -/
module

public import Idealize.ShloMosaic.Lib.Affine
public import Idealize.ShloMosaic.Lib.LoopRemainder
public import Mathlib.Algebra.BigOperators.Fin
public import Mathlib.Algebra.Order.BigOperators.Group.Finset

@[expose] public section

namespace Cert.Groups

open Idealize.ShloMosaic

/-- The prefix sum of the first `n` words, in words. -/
def psum (w : ℕ → BitVec 32) : ℕ → BitVec 32
  | 0 => 0#32
  | n + 1 => Scalar.addi (psum w n) (w n)

/-- How many of the first `n` group starts after group 0's are at most `r` (signed), in words. -/
def cnt (w : ℕ → BitVec 32) (r : BitVec 32) : ℕ → BitVec 32
  | 0 => 0#32
  | n + 1 => Scalar.addi (cnt w r n) (Scalar.extui (Scalar.cmpi .sle (psum w (n + 1)) r))

/-- Where group `n` starts. -/
def S (w : ℕ → BitVec 32) (n : ℕ) : ℕ := ∑ i ∈ Finset.range n, (w i).toNat

/-- The group of row `r`. -/
def cN (w : ℕ → BitVec 32) (r : ℕ) : ℕ := ∑ j ∈ Finset.range 15, if S w (j + 1) ≤ r then 1 else 0

/-- The sizes are sixteen words, none above 98304, which add up to 98304. -/
structure Fill (w : ℕ → BitVec 32) : Prop where
  le : ∀ n, n < 16 → (w n).toNat ≤ 98304
  sum : S w 16 = 98304

variable {w : ℕ → BitVec 32}

theorem S_zero : S w 0 = 0 := by simp [S]

theorem S_succ (n : ℕ) : S w (n + 1) = S w n + (w n).toNat := by
  unfold S; rw [Finset.sum_range_succ]

/-- Group starts do not decrease. -/
theorem S_mono {a b : ℕ} (h : a ≤ b) : S w a ≤ S w b := by
  unfold S
  exact Finset.sum_le_sum_of_subset (Finset.range_mono h)

theorem Fill.S_le (h : Fill w) {n : ℕ} (hn : n ≤ 16) : S w n ≤ 98304 := h.sum ▸ S_mono hn

theorem addi_toNat (x y : BitVec 32) (h : x.toNat + y.toNat < 2 ^ 32) :
    (Scalar.addi x y).toNat = x.toNat + y.toNat := by
  show (x + y).toNat = _
  rw [BitVec.toNat_add]; omega

theorem subi_toNat (x y : BitVec 32) (h : y.toNat ≤ x.toNat) :
    (Scalar.subi x y).toNat = x.toNat - y.toNat := by
  show (x - y).toNat = _
  have := x.isLt
  have := y.isLt
  rw [BitVec.toNat_sub]; omega

theorem sle_iff (x y : BitVec 32) (hx : x.toNat < 2 ^ 31) (hy : y.toNat < 2 ^ 31) :
    x.sle y = decide (x.toNat ≤ y.toNat) := by
  unfold BitVec.sle
  rw [BitVec.toInt_eq_toNat_of_lt (by omega), BitVec.toInt_eq_toNat_of_lt (by omega)]
  simp

theorem slt_iff (x y : BitVec 32) (hx : x.toNat < 2 ^ 31) (hy : y.toNat < 2 ^ 31) :
    x.slt y = decide (x.toNat < y.toNat) := by
  unfold BitVec.slt
  rw [BitVec.toInt_eq_toNat_of_lt (by omega), BitVec.toInt_eq_toNat_of_lt (by omega)]
  simp

theorem extui_ofBool (b : Bool) : (Scalar.extui (BitVec.ofBool b)).toNat = if b then 1 else 0 := by
  cases b <;> decide

/-- The word prefix sums are the starts. -/
theorem psum_toNat (h : Fill w) {n : ℕ} (hn : n ≤ 16) : (psum w n).toNat = S w n := by
  induction n with
  | zero => simp [psum, S]
  | succ n ih =>
    have h1 := ih (by omega)
    have h2 := h.S_le (n := n + 1) hn
    rw [S_succ] at h2
    rw [psum, addi_toNat _ _ (by omega), h1, S_succ]

/-- The word counts are the counts. -/
theorem cnt_toNat (h : Fill w) (r : BitVec 32) (hr : r.toNat < 2 ^ 31) {n : ℕ} (hn : n ≤ 15) :
    (cnt w r n).toNat = ∑ j ∈ Finset.range n, if S w (j + 1) ≤ r.toNat then 1 else 0 := by
  have key : ∀ n, n ≤ 15 → (cnt w r n).toNat = (∑ j ∈ Finset.range n, if S w (j + 1) ≤ r.toNat then 1 else 0)
      ∧ (∑ j ∈ Finset.range n, if S w (j + 1) ≤ r.toNat then 1 else 0) ≤ n := by
    intro n
    induction n with
    | zero => intro _; simp [cnt]
    | succ n ih =>
      intro hn
      obtain ⟨h1, h2⟩ := ih (by omega)
      have hS := h.S_le (n := n + 1) (by omega)
      have hp := psum_toNat h (n := n + 1) (by omega)
      have hx : (Scalar.extui (Scalar.cmpi .sle (psum w (n + 1)) r)).toNat = if S w (n + 1) ≤ r.toNat then 1 else 0 := by
        show (Scalar.extui (BitVec.ofBool ((psum w (n + 1)).sle r))).toNat = _
        rw [sle_iff _ _ (by omega) hr, extui_ofBool, hp]
        simp
      rw [Finset.sum_range_succ]
      constructor
      · rw [cnt, addi_toNat _ _ (by rw [hx, h1]; split <;> omega), h1, hx]
      · split <;> omega
  exact (key n hn).1

theorem cnt15_toNat (h : Fill w) (r : BitVec 32) (hr : r.toNat < 2 ^ 31) : (cnt w r 15).toNat = cN w r.toNat :=
  cnt_toNat h r hr (le_refl 15)

/-- A group is one of sixteen. -/
theorem cN_le (r : ℕ) : cN w r ≤ 15 := by
  unfold cN
  calc _ ≤ ∑ j ∈ Finset.range 15, 1 := Finset.sum_le_sum fun j _ => by split <;> omega
    _ = 15 := by simp

/-- Row `r` lies in group `j` or a later one exactly if group `j` starts at `r` or before. -/
theorem le_cN {j : ℕ} (hj : 1 ≤ j) (hj' : j ≤ 15) (r : ℕ) : j ≤ cN w r ↔ S w j ≤ r := by
  unfold cN
  constructor
  · intro h
    by_contra hc
    have : ∑ i ∈ Finset.range 15, (if S w (i + 1) ≤ r then 1 else 0) ≤ ∑ i ∈ Finset.range 15, if i < j - 1 then 1 else 0 :=
      Finset.sum_le_sum fun i _ => by
        by_cases hi : i < j - 1
        · rw [if_pos hi]; split <;> omega
        · rw [if_neg hi, if_neg]
          have := S_mono (w := w) (show j ≤ i + 1 by omega)
          omega
    have hf : (Finset.range 15).filter (fun i => i < j - 1) = Finset.range (j - 1) := by
      ext i; simp; omega
    have e : ∑ i ∈ Finset.range 15, (if i < j - 1 then 1 else 0) = j - 1 := by
      rw [← Finset.card_filter, hf, Finset.card_range]
    omega
  · intro h
    calc j = ∑ i ∈ Finset.range j, 1 := by simp
      _ = ∑ i ∈ Finset.range j, (if S w (i + 1) ≤ r then 1 else 0) := Finset.sum_congr rfl fun i hi => by
          rw [if_pos]
          have := S_mono (w := w) (show i + 1 ≤ j by have := Finset.mem_range.mp hi; omega)
          omega
      _ ≤ _ := Finset.sum_le_sum_of_subset (Finset.range_mono hj')

/-- A later row lies in the same group or a later one. -/
theorem cN_mono {a b : ℕ} (h : a ≤ b) : cN w a ≤ cN w b := by
  unfold cN
  exact Finset.sum_le_sum fun j _ => by split <;> split <;> omega

/-- The row starts in its group or after its start. -/
theorem S_cN_le (r : ℕ) : S w (cN w r) ≤ r := by
  rcases Nat.eq_zero_or_pos (cN w r) with h | h
  · rw [h, S_zero]; omega
  · exact (le_cN h (cN_le r) r).mp (le_refl _)

/-- And before the end of it. -/
theorem lt_S_cN (h : Fill w) {r : ℕ} (hr : r < 98304) : r < S w (cN w r + 1) := by
  rcases Nat.lt_or_ge (cN w r) 15 with h' | h'
  · by_contra hc
    have := (le_cN (w := w) (j := cN w r + 1) (by omega) (by omega) r).mpr (by omega)
    omega
  · have : cN w r = 15 := le_antisymm (cN_le r) h'
    rw [this, h.sum]; exact hr

/-- The group of a row is the only group the row lies in. -/
theorem eq_cN (h : Fill w) {r g : ℕ} (hg : g < 16) (h1 : S w g ≤ r) (h2 : r < S w (g + 1)) : g = cN w r := by
  have hr : r < 98304 := lt_of_lt_of_le h2 (h.S_le (by omega))
  have ha := S_cN_le (w := w) r
  have hb := lt_S_cN h hr
  rcases Nat.lt_trichotomy g (cN w r) with hlt | heq | hgt
  · have := S_mono (w := w) (show g + 1 ≤ cN w r by omega); omega
  · exact heq
  · have := S_mono (w := w) (show cN w r + 1 ≤ g by omega); omega

/-- The group start picked by a chain of selects: starts of groups 1 to `n`, the one whose number `k` is. -/
def pick (w : ℕ → BitVec 32) (k : BitVec 32) (init : BitVec 32) : ℕ → BitVec 32
  | 0 => init
  | n + 1 => Scalar.select (Scalar.cmpi .eq k (BitVec.ofNat 32 (n + 1))) (psum w (n + 1)) (pick w k init n)

theorem pick_eq (k : BitVec 32) (init : BitVec 32) {n : ℕ} (hn : n < 2 ^ 32) (h1 : 1 ≤ k.toNat) (h2 : k.toNat ≤ n) :
    pick w k init n = psum w k.toNat := by
  induction n with
  | zero => omega
  | succ n ih =>
    rw [pick]
    show (if BitVec.ofBool (k == BitVec.ofNat 32 (n + 1)) = 1 then _ else _) = _
    by_cases hk : k.toNat = n + 1
    · have : k = BitVec.ofNat 32 (n + 1) := BitVec.eq_of_toNat_eq (by rw [BitVec.toNat_ofNat]; omega)
      rw [if_pos (by rw [this]; simp), hk]
    · have : ¬ k = BitVec.ofNat 32 (n + 1) := fun e => hk (by rw [e, BitVec.toNat_ofNat]; omega)
      rw [if_neg (by rw [beq_eq_false_iff_ne.mpr this]; decide), ih (by omega) (by omega)]

/-! ## The 256-row piece a row lies in -/

/-- `l / 256 * 256` rounded toward minus infinity, as the program computes it. -/
def floor256 (l : BitVec 32) : BitVec 32 :=
  Scalar.muli (Scalar.select (Scalar.andi
      (Scalar.cmpi .ne (Scalar.subi (Scalar.extui (Scalar.cmpi .sgt l 0#32)) (Scalar.extui (Scalar.cmpi .slt l 0#32)))
        (Scalar.subi (Scalar.extui (Scalar.cmpi .sgt 256#32 0#32)) (Scalar.extui (Scalar.cmpi .slt 256#32 0#32))))
      (Scalar.cmpi .ne (Scalar.remsi l 256#32) 0#32))
    (Scalar.subi (Scalar.divsi l 256#32) 1#32) (Scalar.divsi l 256#32)) 256#32

/-- Whether `l` is a multiple of 256, as the program computes it. -/
def mod256 (l : BitVec 32) : BitVec 1 :=
  Scalar.cmpi .ne (Scalar.select (Scalar.andi (Scalar.xori
      (Scalar.cmpi .slt (Scalar.remsi l (Scalar.select (Scalar.cmpi .eq 256#32 0#32) 1#32 256#32)) 0#32)
      (Scalar.cmpi .slt (Scalar.select (Scalar.cmpi .eq 256#32 0#32) 1#32 256#32) 0#32))
      (Scalar.cmpi .ne (Scalar.remsi l (Scalar.select (Scalar.cmpi .eq 256#32 0#32) 1#32 256#32)) 0#32))
    (Scalar.addi (Scalar.remsi l (Scalar.select (Scalar.cmpi .eq 256#32 0#32) 1#32 256#32))
      (Scalar.select (Scalar.cmpi .eq 256#32 0#32) 1#32 256#32))
    (Scalar.remsi l (Scalar.select (Scalar.cmpi .eq 256#32 0#32) 1#32 256#32))) 0#32

theorem floor256_all : ∀ n : Fin 2048, (floor256 (BitVec.ofNat 32 n.val)).toNat = n.val / 256 * 256 := by decide +kernel

theorem mod256_all : ∀ n : Fin 2048, mod256 (BitVec.ofNat 32 n.val) = BitVec.ofBool (decide (n.val % 256 ≠ 0)) := by
  decide +kernel

theorem floor256_toNat (l : BitVec 32) (h : l.toNat < 2048) : (floor256 l).toNat = l.toNat / 256 * 256 := by
  have := floor256_all ⟨l.toNat, h⟩
  rwa [BitVec.ofNat_toNat, BitVec.setWidth_eq] at this

theorem mod256_eq (l : BitVec 32) (h : l.toNat < 2048) : mod256 l = BitVec.ofBool (decide (l.toNat % 256 ≠ 0)) := by
  have := mod256_all ⟨l.toNat, h⟩
  rwa [BitVec.ofNat_toNat, BitVec.setWidth_eq] at this

end Cert.Groups

end
-- ==== Proof.Fill.lean ====
/- The precondition, decoded: the sixteen group sizes are words of natural numbers at most 98304 whose sum is 98304. -/
module

public import proofs.«01_k».proof.Pre_sizes_fill
public import proofs.«01_k».proof.Proof.Groups
public import Idealize.ShloMosaic.Lib.ReduceAll
public import Idealize.ShloMosaic.Lib.Routing.Ops
public import Idealize.ShloMosaic.Lib.Pointwise

@[expose] public section

namespace Cert.Groups

open Idealize.ShloMosaic

/-- The side conditions of the printed predicate. -/
theorem pre_facts : Cert.Pre_sizes_fill.Facts := ⟨by decide, by decide, by decide⟩

/-- What the precondition says of the words of the group sizes. -/
theorem fill_of_pre [Cert.Pre_sizes_fill.Facts] {F : FTy → Type} [FloatOps F] (a0 : FVec F Cert.Pre_sizes_fill.S98304x768 .fp8e4m3)
    (a1 : FVec F Cert.Pre_sizes_fill.S98304 .f32) (a2 : IVec Cert.Pre_sizes_fill.S16 32) (a3 : FVec F Cert.Pre_sizes_fill.S16x768x2048 .fp8e4m3)
    (a4 : FVec F Cert.Pre_sizes_fill.S16x2048 .f32) (h : Cert.Pre_sizes_fill.fn a0 a1 a2 a3 a4 = fun _ => 1#1)
    (w : ℕ → BitVec 32) (hw : ∀ n : Fin 16, a2 (ix1 n) = w n.val) : Fill w := by
  have andi_one (p q : BitVec 1) : IntOp.andi p q = 1#1 → p = 1#1 ∧ q = 1#1 := by revert p q; decide
  have ofBool_one (p : Bool) : BitVec.ofBool p = 1#1 → p = true := by cases p <;> decide
  have e := congrFun h ValueIdx.ix0
  simp only [Cert.Pre_sizes_fill.fn, andi] at e
  obtain ⟨e1, e3⟩ := andi_one _ _ e
  obtain ⟨e1, e2⟩ := andi_one _ _ e1
  haveI : Subsingleton Cert.Pre_sizes_fill.S_.Idx := ⟨fun a b => funext fun x => x.elim0⟩
  have hle : ∀ n, n < 16 → (w n).toNat ≤ 98304 := by
    intro n hn
    have h1 := Host.reduce_andi_all _ _ _ _ _ e1 (ix1 (⟨n, hn⟩ : Fin 16))
    have h2 := Host.reduce_andi_all _ _ _ _ _ e2 (ix1 (⟨n, hn⟩ : Fin 16))
    simp only [cmpi, broadcastInDim, constantI, IntOp.cmpi, hw] at h1 h2
    have h1 := ofBool_one _ h1
    have h2 := ofBool_one _ h2
    simp only [BitVec.sle, decide_eq_true_eq, BitVec.toInt, BitVec.toNat_ofNat] at h1 h2
    omega
  refine ⟨hle, ?_⟩
  have hs := Routing.reduce_sum a2 (fun n => (w n).toNat) (fun i => (hw i).trans (by rw [BitVec.ofNat_toNat, BitVec.setWidth_eq]))
    Cert.Pre_sizes_fill.Facts.reducesTo_S16_S_d0 Cert.Pre_sizes_fill.Facts.h_S_
  simp only [cmpi, IntOp.cmpi] at e3
  have e3 := ofBool_one _ e3
  have e4 := beq_iff_eq.mp e3
  have e5 := congrArg BitVec.toNat (hs.symm.trans e4)
  have hS : ((List.range 16).map fun n => (w n).toNat).sum = S w 16 := by
    unfold S; simp [Finset.sum_range_succ, List.range_succ, Nat.add_assoc]
  have hb : S w 16 ≤ 16 * 98304 := by
    unfold S
    calc _ ≤ ∑ j ∈ Finset.range 16, 98304 := Finset.sum_le_sum fun j hj => hle j (Finset.mem_range.mp hj)
      _ = _ := by simp
  rw [hS, BitVec.toNat_ofNat, Nat.mod_eq_of_lt (by omega)] at e5
  exact e5

end Cert.Groups
-- ==== Proof.KernelWords.lean ====
/- The words the kernel computes from the group sizes, in closed form: the group its offsets name, the groups its
   loop goes through, the 256-row piece a group starts in; and that under the sizes' condition (`Fill`) every side
   condition the kernel's text assumes of them holds. -/
module

public import proofs.«01_k».proof.Proof.Groups
public import proofs.«01_k».proof.Kernel

@[expose] public section

set_option maxRecDepth 16384

namespace Cert.Kernel.Words

open Idealize.ShloMosaic Cert.Kernel Cert.Groups

variable {w : ℕ → BitVec 32} (i : grid0.Coords)

/-- The first row of the tile at grid point `i`, as a word and as a number. -/
def row0 : BitVec 32 := Scalar.muli (BitVec.ofNat 32 (i 0).val) 2048#32

theorem i_lt : (i 0).val < 48 := (i 0).isLt

theorem row0_toNat : (row0 i).toNat = 2048 * (i 0).val := by
  have := i_lt i
  show (BitVec.ofNat 32 (i 0).val * 2048#32).toNat = _
  rw [BitVec.toNat_mul, BitVec.toNat_ofNat, show (2048#32).toNat = 2048 from rfl, Nat.mod_eq_of_lt (a := (i 0).val) (by omega)]
  omega

theorem off1_eq (c : BitVec 32) : k0_off1 i (w 0) (w 1) (w 2) (w 3) (w 4) (w 5) (w 6) (w 7) (w 8) (w 9) (w 10) (w 11) (w 12) (w 13) (w 14) c = ![(cnt w (Scalar.addi (row0 i) c) 15).toNat, 0, 0] := rfl
theorem off2_eq (c : BitVec 32) : k0_off2 i (w 0) (w 1) (w 2) (w 3) (w 4) (w 5) (w 6) (w 7) (w 8) (w 9) (w 10) (w 11) (w 12) (w 13) (w 14) c = ![(cnt w (Scalar.addi (row0 i) c) 15).toNat, 0] := rfl

/-- The first group the loop visits, as a word; the number of groups it visits. -/
def lb (w : ℕ → BitVec 32) : BitVec 32 := Scalar.addi (cnt w (row0 i) 15) 1#32
def span (w : ℕ → BitVec 32) : BitVec 32 :=
  Scalar.subi (Scalar.addi (cnt w (Scalar.subi (Scalar.addi (row0 i) 2048#32) 1#32) 15) 1#32) (lb i w)

theorem t1_eq : k0_t1_loop i (w 0) (w 1) (w 2) (w 3) (w 4) (w 5) (w 6) (w 7) (w 8) (w 9) (w 10) (w 11) (w 12) (w 13) (w 14) = ⟨lb i w, Scalar.addi (lb i w) (Scalar.muli (Scalar.divsi (span i w) 1#32) 1#32), 1#32⟩ := rfl
theorem t2_eq : k0_t2_loop i (w 0) (w 1) (w 2) (w 3) (w 4) (w 5) (w 6) (w 7) (w 8) (w 9) (w 10) (w 11) (w 12) (w 13) (w 14)
    = ⟨Scalar.addi (lb i w) (Scalar.muli (Scalar.divsi (span i w) 1#32) 1#32), Scalar.addi (lb i w) (span i w), 1#32⟩ := rfl

theorem off3_eq (k : Fin (k0_t1_loop i (w 0) (w 1) (w 2) (w 3) (w 4) (w 5) (w 6) (w 7) (w 8) (w 9) (w 10) (w 11) (w 12) (w 13) (w 14)).trips) : k0_off3 i (w 0) (w 1) (w 2) (w 3) (w 4) (w 5) (w 6) (w 7) (w 8) (w 9) (w 10) (w 11) (w 12) (w 13) (w 14) k = ![(Scf.iv (lb i w) 1#32 k.val).toNat] := rfl
theorem off5_eq (k : Fin (k0_t1_loop i (w 0) (w 1) (w 2) (w 3) (w 4) (w 5) (w 6) (w 7) (w 8) (w 9) (w 10) (w 11) (w 12) (w 13) (w 14)).trips) : k0_off5 i (w 0) (w 1) (w 2) (w 3) (w 4) (w 5) (w 6) (w 7) (w 8) (w 9) (w 10) (w 11) (w 12) (w 13) (w 14) k = ![(Scf.iv (lb i w) 1#32 k.val).toNat, 0, 0] := rfl
theorem off7_eq (k : Fin (k0_t1_loop i (w 0) (w 1) (w 2) (w 3) (w 4) (w 5) (w 6) (w 7) (w 8) (w 9) (w 10) (w 11) (w 12) (w 13) (w 14)).trips) : k0_off7 i (w 0) (w 1) (w 2) (w 3) (w 4) (w 5) (w 6) (w 7) (w 8) (w 9) (w 10) (w 11) (w 12) (w 13) (w 14) k = ![(Scf.iv (lb i w) 1#32 k.val).toNat, 0] := rfl

theorem mult1_eq (a : BitVec 32) : k0_mult1 i a = floor256 (Scalar.subi a (row0 i)) := rfl
theorem off4_eq (a : BitVec 32) : k0_off4 i a = ![(floor256 (Scalar.subi a (row0 i))).toNat, 0] := rfl
theorem off6_eq (a : BitVec 32) : k0_off6 i a = ![(floor256 (Scalar.subi a (row0 i))).toNat, 0] := rfl
theorem off8_eq (a : BitVec 32) : k0_off8 i a = ![(floor256 (Scalar.subi a (row0 i))).toNat, 0] := rfl

theorem cond1_eq (a s : BitVec 32) : k0_cond1 i a s
    = Scalar.cmpi .ne (Scalar.extui (Scalar.andi (Scalar.cmpi .sgt s 0#32) (mod256 (Scalar.subi a (row0 i))))) 0#32 := rfl

/-! ## Under the sizes' condition -/

/-- The group at the tile's first row. -/
abbrev gFirst (w : ℕ → BitVec 32) : ℕ := cN w (2048 * (i 0).val)
/-- The group at its last. -/
abbrev gLast (w : ℕ → BitVec 32) : ℕ := cN w (2048 * (i 0).val + 2047)

theorem gFirst_le : gFirst i w ≤ gLast i w := cN_mono (by omega)
theorem gLast_le : gLast i w ≤ 15 := cN_le _

variable (h : Fill w)
include h

theorem grp_toNat (c : BitVec 32) (hc : c.toNat < 2048) :
    (cnt w (Scalar.addi (row0 i) c) 15).toNat = cN w (2048 * (i 0).val + c.toNat) := by
  have := i_lt i
  have e := row0_toNat i
  have e' := addi_toNat (row0 i) c (by omega)
  rw [cnt15_toNat h _ (by omega), e', e]

theorem first_toNat : (cnt w (row0 i) 15).toNat = gFirst i w := by
  have := i_lt i
  have e := row0_toNat i
  rw [cnt15_toNat h _ (by omega), e]

theorem lb_toNat : (lb i w).toNat = gFirst i w + 1 := by
  have := cN_le (w := w) (2048 * (i 0).val)
  have e := first_toNat i h
  unfold lb
  rw [addi_toNat _ _ (by rw [e]; show gFirst i w + 1 < _; unfold gFirst; omega), e]; rfl

theorem last_toNat : (cnt w (Scalar.subi (Scalar.addi (row0 i) 2048#32) 1#32) 15).toNat = gLast i w := by
  have := i_lt i
  have e := row0_toNat i
  have e1 := addi_toNat (row0 i) 2048#32 (by rw [e]; show 2048 * (i 0).val + 2048 < _; omega)
  have e2 := subi_toNat (Scalar.addi (row0 i) 2048#32) 1#32 (by rw [e1, e]; show 1 ≤ 2048 * (i 0).val + 2048; omega)
  rw [e1, e] at e2
  have e3 : (Scalar.subi (Scalar.addi (row0 i) 2048#32) 1#32).toNat = 2048 * (i 0).val + 2047 := by
    rw [e2]; show 2048 * (i 0).val + 2048 - 1 = _; omega
  rw [cnt15_toNat h _ (by omega), e3]

theorem span_toNat : (span i w).toNat = gLast i w - gFirst i w := by
  have h1 := gFirst_le i (w := w)
  have h2 := gLast_le i (w := w)
  have e := lb_toNat i h
  have e' := last_toNat i h
  unfold span
  have e1 := addi_toNat (cnt w (Scalar.subi (Scalar.addi (row0 i) 2048#32) 1#32) 15) 1#32
    (by rw [e']; show gLast i w + 1 < _; omega)
  rw [e', show (1#32).toNat = 1 from rfl] at e1
  rw [subi_toNat _ _ (by rw [e, e1]; omega), e, e1]; omega

theorem ub_toNat : (Scalar.addi (lb i w) (Scalar.muli (Scalar.divsi (span i w) 1#32) 1#32)).toNat = gLast i w + 1 := by
  have h1 := gFirst_le i (w := w)
  have h2 := gLast_le i (w := w)
  have e := lb_toNat i h
  have e' := span_toNat i h
  rw [Scalar.muli_divsi_one, addi_toNat _ _ (by omega), e, e']; omega

/-- The loop visits the groups after the first one up to the last. -/
theorem trips_eq : (k0_t1_loop i (w 0) (w 1) (w 2) (w 3) (w 4) (w 5) (w 6) (w 7) (w 8) (w 9) (w 10) (w 11) (w 12) (w 13) (w 14)).trips = gLast i w - gFirst i w := by
  have h1 := gFirst_le i (w := w)
  have h2 := gLast_le i (w := w)
  have e := lb_toNat i h
  have e' := ub_toNat i h
  rw [t1_eq]
  show Scf.trips _ _ _ = _
  unfold Scf.trips
  rw [BitVec.toInt_eq_toNat_of_lt (by rw [e']; omega), BitVec.toInt_eq_toNat_of_lt (by rw [e]; omega), e, e']
  show ((((gLast i w + 1 : ℕ) : ℤ) - ((gFirst i w + 1 : ℕ) : ℤ) + 1 - 1) / 1).toNat = _
  omega

theorem t1_ok : (k0_t1_loop i (w 0) (w 1) (w 2) (w 3) (w 4) (w 5) (w 6) (w 7) (w 8) (w 9) (w 10) (w 11) (w 12) (w 13) (w 14)).OK := by
  have h1 := gFirst_le i (w := w)
  have h2 := gLast_le i (w := w)
  have e := lb_toNat i h
  have et := trips_eq i h
  refine ⟨by rw [t1_eq]; show (0 : ℤ) < 1; omega, ?_⟩
  show (lb i w).toInt + ((k0_t1_loop i (w 0) (w 1) (w 2) (w 3) (w 4) (w 5) (w 6) (w 7) (w 8) (w 9) (w 10) (w 11) (w 12) (w 13) (w 14)).trips : ℤ) * 1 < _
  rw [et, BitVec.toInt_eq_toNat_of_lt (by rw [e]; omega), e]
  show (((gFirst i w + 1 : ℕ) : ℤ) + ((gLast i w - gFirst i w : ℕ) : ℤ) * 1) < 2147483648
  omega

/-- The group visited at trip `k`. -/
theorem iv_toNat (k : ℕ) (hk : k ≤ gLast i w - gFirst i w) : (Scf.iv (lb i w) 1#32 k).toNat = gFirst i w + 1 + k := by
  have h1 := gFirst_le i (w := w)
  have h2 := gLast_le i (w := w)
  have e := lb_toNat i h
  unfold Scf.iv
  rw [BitVec.mul_one, BitVec.toNat_add, BitVec.toNat_ofNat, e]
  omega

theorem trip_lt (k : Fin (k0_t1_loop i (w 0) (w 1) (w 2) (w 3) (w 4) (w 5) (w 6) (w 7) (w 8) (w 9) (w 10) (w 11) (w 12) (w 13) (w 14)).trips) : k.val < gLast i w - gFirst i w :=
  lt_of_lt_of_eq k.isLt (trips_eq i h)

theorem iv_le (k : ℕ) (hk : k < gLast i w - gFirst i w) : (Scf.iv (lb i w) 1#32 k).toNat ≤ 15 := by
  have h2 := gLast_le i (w := w)
  rw [iv_toNat i h k (by omega)]; omega

omit h in
/-- The other loop, which would visit what division by the step leaves over, visits nothing. -/
theorem t2_trips : (k0_t2_loop i (w 0) (w 1) (w 2) (w 3) (w 4) (w 5) (w 6) (w 7) (w 8) (w 9) (w 10) (w 11) (w 12) (w 13) (w 14)).trips = 0 := Scf.rem_trips (lb i w) (span i w)

/-- The first side condition: every group an offset names is one of the sixteen, and the loops mean something. -/
theorem chk1 : k0_chk1 i (w 0) (w 1) (w 2) (w 3) (w 4) (w 5) (w 6) (w 7) (w 8) (w 9) (w 10) (w 11) (w 12) (w 13) (w 14) := by
  have hoff : ∀ r : Fin 8, (cnt w (Scalar.addi (row0 i) (BitVec.ofNat 32 (256 * r.val))) 15).toNat ≤ 15 := fun r => by
    have := r.isLt
    rw [grp_toNat i h _ (by rw [BitVec.toNat_ofNat]; omega)]; exact cN_le _
  refine ⟨fun r a => ?_, fun r a => ?_, t1_ok i h, fun k a => ?_, ?_, fun k => ?_⟩
  · rw [off1_eq]
    have := hoff r
    fin_cases a
    · show _ + 1 ≤ 16; exact Nat.succ_le_succ this
    · show 0 + 768 ≤ 768; omega
    · show 0 + 2048 ≤ 2048; omega
  · rw [off2_eq]
    have := hoff r
    fin_cases a
    · show _ + 1 ≤ 16; exact Nat.succ_le_succ this
    · show 0 + 2048 ≤ 2048; omega
  · rw [off3_eq]
    have := iv_le i h k.val (trip_lt i h k)
    fin_cases a
    show _ + 1 ≤ 16; exact Nat.succ_le_succ this
  · exact Scf.rem_ok (lb i w) (span i w)
  · exact (Scf.rem_no_trip (lb i w) (span i w) k).elim

/-- The start a trip carries, less the tile's first row, is a row of the tile. -/
theorem local_toNat (g : ℕ) (h1 : gFirst i w < g) (h2 : g ≤ gLast i w) (a : BitVec 32) (ha : a.toNat = S w g) :
    (Scalar.subi a (row0 i)).toNat = S w g - 2048 * (i 0).val ∧ 2048 * (i 0).val < S w g ∧ S w g < 2048 * (i 0).val + 2048 := by
  have hg := gLast_le i (w := w)
  have e := row0_toNat i
  have l1 : 2048 * (i 0).val < S w g := by
    by_contra hc
    have := (le_cN (w := w) (j := g) (by omega) (by omega) (2048 * (i 0).val)).mpr (by omega)
    exact absurd this (by unfold gFirst at h1; omega)
  have l2 : S w g ≤ 2048 * (i 0).val + 2047 := (le_cN (w := w) (j := g) (by omega) (by omega) _).mp h2
  refine ⟨?_, l1, by omega⟩
  rw [subi_toNat _ _ (by rw [e, ha]; omega), ha, e]

/-- The branch is taken exactly for a group which is not empty and does not start on a 256-row piece. -/
theorem cond1_iff (g : ℕ) (h1 : gFirst i w < g) (h2 : g ≤ gLast i w) (a : BitVec 32) (ha : a.toNat = S w g) (s : BitVec 32)
    (hs : s.toNat < 2 ^ 31) : k0_cond1 i a s = 1#1 ↔ 0 < s.toNat ∧ (S w g - 2048 * (i 0).val) % 256 ≠ 0 := by
  obtain ⟨e, l1, l2⟩ := local_toNat i h g h1 h2 a ha
  rw [cond1_eq, mod256_eq _ (by rw [e]; omega), e]
  show Scalar.cmpi .ne (Scalar.extui (Scalar.andi (BitVec.ofBool ((0#32).slt s)) _)) 0#32 = 1#1 ↔ _
  rw [slt_iff _ _ (by decide) hs, show (0#32).toNat = 0 from rfl]
  by_cases p : 0 < s.toNat <;> by_cases q : (S w g - 2048 * (i 0).val) % 256 ≠ 0 <;>
    simp only [p, q, decide_true, decide_false, and_true, and_false, true_and, false_and, iff_true, iff_false, ne_eq,
      not_true_eq_false, not_false_eq_true] <;> decide

/-- Where the branch's rows start in the tile. -/
theorem floor_toNat (g : ℕ) (h1 : gFirst i w < g) (h2 : g ≤ gLast i w) (a : BitVec 32) (ha : a.toNat = S w g) :
    (floor256 (Scalar.subi a (row0 i))).toNat = (S w g - 2048 * (i 0).val) / 256 * 256 := by
  obtain ⟨e, l1, l2⟩ := local_toNat i h g h1 h2 a ha
  rw [floor256_toNat _ (by rw [e]; omega), e]

/-- The second side condition, at the start of the group the trip visits. -/
theorem chk2 (k : Fin (k0_t1_loop i (w 0) (w 1) (w 2) (w 3) (w 4) (w 5) (w 6) (w 7) (w 8) (w 9) (w 10) (w 11) (w 12) (w 13) (w 14)).trips) (a s : BitVec 32) (ha : a.toNat = S w (gFirst i w + 1 + k.val)) :
    k0_chk2 i (w 0) (w 1) (w 2) (w 3) (w 4) (w 5) (w 6) (w 7) (w 8) (w 9) (w 10) (w 11) (w 12) (w 13) (w 14) k a s := by
  have fl : (floor256 (Scalar.subi a (row0 i))).toNat ≤ 1792 ∧ 256 ∣ (floor256 (Scalar.subi a (row0 i))).toNat := by
    have hk := trip_lt i h k
    generalize k.val = k' at ha hk
    obtain ⟨e, l1, l2⟩ := local_toNat i h _ (by omega) (by omega) a ha
    have f := floor_toNat i h _ (by omega) (by omega) a ha
    exact ⟨by rw [f]; omega, by rw [f]; exact Nat.dvd_mul_left ..⟩
  obtain ⟨fl, fd⟩ := fl
  have il := iv_le i h k.val (trip_lt i h k)
  refine ⟨fun _ => ?_, fun _ b => ?_, fun _ b => ?_, fun _ b => ?_, fun _ b => ?_, fun _ b => ?_, fun _ hinb => ?_⟩
  · rw [mult1_eq]; exact fd
  · rw [off4_eq]
    fin_cases b
    · show _ + 256 ≤ 2048; exact Nat.add_le_add_right fl 256
    · show 0 + 768 ≤ 768; omega
  · rw [off5_eq]
    fin_cases b
    · show _ + 1 ≤ 16; exact Nat.succ_le_succ il
    · show 0 + 768 ≤ 768; omega
    · show 0 + 2048 ≤ 2048; omega
  · rw [off6_eq]
    fin_cases b
    · show _ + 256 ≤ 2048; exact Nat.add_le_add_right fl 256
    · show 0 + 1 ≤ 1; omega
  · rw [off7_eq]
    fin_cases b
    · show _ + 1 ≤ 16; exact Nat.succ_le_succ il
    · show 0 + 2048 ≤ 2048; omega
  · rw [off8_eq]
    fin_cases b
    · show _ + 256 ≤ 2048; exact Nat.add_le_add_right fl 256
    · show 0 + 2048 ≤ 2048; omega
  · exact Affine.packed_dvd (by decide) (dvd_trans (by decide : (EltTy.packing .bf16) ∣ 256) (by rw [off8_eq]; exact fd)) (by decide)

end Cert.Kernel.Words

end
-- ==== Proof.KernelTile.lean ====
module

public import proofs.«01_k».proof.Proof.KernelWords
public import proofs.«01_k».proof.Proof.Gen.Kernel.Skeleton
public import Idealize.ShloMosaic.Lib.Pipeline.ValueKit.Tiles
public import Idealize.ShloMosaic.Lib.WritesUnit
public import Idealize.ShloMosaic.Lib.Pointwise
public import Idealize.ShloMosaic.Lib.Pipeline.Value
public import Idealize.ShloMosaic.Lib.ValueLayout

@[expose] public section

set_option maxRecDepth 16384

noncomputable section

namespace Cert.Kernel.Tile

open Idealize.ShloMosaic
open Cert.Kernel Cert.Kernel.Gen Cert.Kernel.Words Cert.Groups

variable {F : FTy → Type} [FloatOps F]

/-! What one grid point's 2048 output rows are: row `p` is the product of its row of `x` with the weights of its
group, times its row scale, times its group's column scale. The pieces are rows `o … o + 255` for one group. -/

/-- Rows `o … o + 255` of the block of `x`. -/
def rows (x : Vec F S2048x768 .fp8e4m3) (o : ℕ) : Vec F S256x768 .fp8e4m3 :=
  fun j => x (ix2 (⟨(o + (j 0).val) % 2048, Nat.mod_lt _ (by norm_num)⟩ : Fin 2048) (⟨(j 1).val, (j 1).isLt⟩ : Fin 768))

/-- The weights of group `g`. -/
def weights (x : Vec F S16x768x2048 .fp8e4m3) (g : ℕ) : Vec F S1x768x2048 .fp8e4m3 :=
  fun j => x (ix3 (⟨g % 16, Nat.mod_lt _ (by norm_num)⟩ : Fin 16) (⟨(j 1).val, (j 1).isLt⟩ : Fin 768) (⟨(j 2).val, (j 2).isLt⟩ : Fin 2048))

/-- The row scales of rows `o … o + 255`. -/
def rowScales (x : Vec F S2048x1 .f32) (o : ℕ) : Vec F S256x1 .f32 :=
  fun j => x (ix2 (⟨(o + (j 0).val) % 2048, Nat.mod_lt _ (by norm_num)⟩ : Fin 2048) (⟨(j 1).val, (j 1).isLt⟩ : Fin 1))

/-- The column scales of group `g`. -/
def colScales (x : Vec F S16x2048 .f32) (g : ℕ) : Vec F S1x2048 .f32 :=
  fun j => x (ix2 (⟨g % 16, Nat.mod_lt _ (by norm_num)⟩ : Fin 16) (⟨(j 1).val, (j 1).isLt⟩ : Fin 2048))

theorem ld_rows (x : Vec F S2048x768 .fp8e4m3) (o : ℕ) (ho : o ≤ 1792) (off : Fin 2 → ℕ) (h : off = ![o, 0]) (inb) :
    View.ld x (Rect.unit (s := S2048x768) off S256x768.size inb) = rows x o := by
  subst h
  funext j
  have hj : (j 0).val < 256 := (j 0).isLt
  exact View.ld_unit_apply_of x _ _ inb j _ (Fin.forall_fin_two.mpr ⟨Nat.mod_eq_of_lt (by omega), (Nat.zero_add _).symm⟩)

theorem ld_weights (x : Vec F S16x768x2048 .fp8e4m3) (g : ℕ) (hg : g ≤ 15) (off : Fin 3 → ℕ) (h : off = ![g, 0, 0]) (inb) :
    View.ld x (Rect.unit (s := S16x768x2048) off S1x768x2048.size inb) = weights x g := by
  subst h
  funext j
  have hj : (j 0).val < 1 := (j 0).isLt
  refine View.ld_unit_apply_of x _ _ inb j _ (Fin.forall_fin_succ.mpr ⟨?_, Fin.forall_fin_two.mpr ⟨(Nat.zero_add _).symm, (Nat.zero_add _).symm⟩⟩)
  show g % 16 = g + (j 0).val
  omega

theorem ld_rowScales (x : Vec F S2048x1 .f32) (o : ℕ) (ho : o ≤ 1792) (off : Fin 2 → ℕ) (h : off = ![o, 0]) (inb) :
    View.ld x (Rect.unit (s := S2048x1) off S256x1.size inb) = rowScales x o := by
  subst h
  funext j
  have hj : (j 0).val < 256 := (j 0).isLt
  exact View.ld_unit_apply_of x _ _ inb j _ (Fin.forall_fin_two.mpr ⟨Nat.mod_eq_of_lt (by omega), (Nat.zero_add _).symm⟩)

theorem ld_colScales (x : Vec F S16x2048 .f32) (g : ℕ) (hg : g ≤ 15) (off : Fin 2 → ℕ) (h : off = ![g, 0]) (inb) :
    View.ld x (Rect.unit (s := S16x2048) off S1x2048.size inb) = colScales x g := by
  subst h
  funext j
  have hj : (j 0).val < 1 := (j 0).isLt
  refine View.ld_unit_apply_of x _ _ inb j _ (Fin.forall_fin_two.mpr ⟨?_, (Nat.zero_add _).symm⟩)
  show g % 16 = g + (j 0).val
  omega

variable (x2 : Vec F S2048x768 .fp8e4m3) (x4 : Vec F S16x768x2048 .fp8e4m3) (x5 : Vec F S16x2048 .f32) (x7 : Vec F S2048x1 .f32)

/-- Rows `o … o + 255` of the output as group `g` would have them. -/
def part (o g : ℕ) : Vec F S256x2048 .bf16 := k0_pay22 (rows x2 o) (weights x4 g) (rowScales x7 o) (colScales x5 g)

/-- The masked payload: a row at or past the group's first row takes the new value, the others stay. -/
theorem pay1_apply (l : BitVec 32) (hl : l.toNat < 2048) (a : Vec F S256x768 .fp8e4m3) (b : Vec F S1x768x2048 .fp8e4m3) (cc : Vec F S256x1 .f32) (d : Vec F S1x2048 .f32)
    (y : Vec F S256x2048 .bf16) (j : S256x2048.Idx) :
    k0_pay1 l a b cc d y j = if l.toNat ≤ l.toNat / 256 * 256 + (j 0).val then k0_pay22 a b cc d j else y j := by
  have hj : (j 0).val < 256 := (j 0).isLt
  have e : k0_pay1 l a b cc d y j = Scalar.select (cmpi .sge (addi (broadcast S256x1 (floor256 l)) (iota .tc S256x1 32 [0] iota_S256x1_d0_w32)) (broadcast S256x1 l) (ix2 (⟨(j 0).val, hj⟩ : Fin 256) (0 : Fin 1)))
      (k0_pay22 a b cc d j) (y j) := by
    unfold k0_pay1
    dsimp only
    rw [shapeCast_self, shapeCast_self, ValueIdx.select_apply]
    congr 1
  rw [e]
  have hs : (Scalar.addi (floor256 l) (BitVec.ofNat 32 (j 0).val)).toNat = l.toNat / 256 * 256 + (j 0).val := by
    have f := floor256_toNat l hl
    have e2 : (BitVec.ofNat 32 (j 0).val).toNat = (j 0).val := by simp; omega
    rw [addi_toNat _ _ (by rw [f, e2]; omega), f, e2]
  have hc : cmpi .sge (addi (broadcast S256x1 (floor256 l)) (iota .tc S256x1 32 [0] iota_S256x1_d0_w32)) (broadcast S256x1 l) (ix2 (⟨(j 0).val, hj⟩ : Fin 256) (0 : Fin 1))
      = BitVec.ofBool (l.sle (Scalar.addi (floor256 l) (BitVec.ofNat 32 (j 0).val))) := by
    rw [show iota .tc S256x1 32 [0] iota_S256x1_d0_w32 = fun k => BitVec.ofNat 32 (k 0).val from funext fun k => by
      rw [iota_apply]; simp]
    rfl
  rw [hc]
  have := sle_iff (x := l) (y := Scalar.addi (floor256 l) (BitVec.ofNat 32 (j 0).val)) (by omega) (by omega)
  rw [hs] at this
  rw [this]
  by_cases hh : l.toNat ≤ l.toNat / 256 * 256 + (j 0).val
  · rw [if_pos hh, decide_eq_true hh]; rfl
  · rw [if_neg hh, decide_eq_false hh]; rfl

variable (w : ℕ → BitVec 32) (i : grid0.Coords)

/-- THE BLOCK: the 2048 output rows of grid point `i`. -/
def tile : Vec F S2048x2048 .bf16 :=
  fun y => part x2 x4 x5 x7 (256 * ((y 0).val / 256)) (cN w (2048 * (i 0).val + (y 0).val))
    (ix2 (⟨(y 0).val % 256, Nat.mod_lt _ (by norm_num)⟩ : Fin 256) (⟨(y 1).val, (y 1).isLt⟩ : Fin 2048))

/-- Before group `g`'s turn: the rows of the groups before `g` are final, and so are the rows of the group their
256-row piece begins in. -/
def Done (g : ℕ) (Y : Vec F S2048x2048 .bf16) : Prop :=
  ∀ y : S2048x2048.Idx, cN w (2048 * (i 0).val + (y 0).val) < g
      ∨ cN w (2048 * (i 0).val + (y 0).val) = cN w (2048 * (i 0).val + 256 * ((y 0).val / 256)) →
    Y y = tile x2 x4 x5 x7 w i y

variable {w}

/-- The first pass gives each piece the group it begins in; that is the state before the second group's turn. -/
theorem done_init (Y : Vec F S2048x2048 .bf16)
    (hY : ∀ y : S2048x2048.Idx, Y y = part x2 x4 x5 x7 (256 * ((y 0).val / 256)) (cN w (2048 * (i 0).val + 256 * ((y 0).val / 256)))
      (ix2 (⟨(y 0).val % 256, Nat.mod_lt _ (by norm_num)⟩ : Fin 256) (⟨(y 1).val, (y 1).isLt⟩ : Fin 2048))) :
    Done x2 x4 x5 x7 w i (gFirst i w + 1) Y := by
  intro y h
  have m1 : gFirst i w ≤ cN w (2048 * (i 0).val + 256 * ((y 0).val / 256)) := cN_mono (by omega)
  have m2 : cN w (2048 * (i 0).val + 256 * ((y 0).val / 256)) ≤ cN w (2048 * (i 0).val + (y 0).val) := cN_mono (by omega)
  have e : cN w (2048 * (i 0).val + (y 0).val) = cN w (2048 * (i 0).val + 256 * ((y 0).val / 256)) := by
    rcases h with h | h <;> omega
  rw [hY y]
  unfold tile
  rw [e]

/-- After the last group of the block every row is final. -/
theorem done_all (Y : Vec F S2048x2048 .bf16) (g : ℕ) (hg : g = gLast i w + 1) (hY : Done x2 x4 x5 x7 w i g Y) : Y = tile x2 x4 x5 x7 w i := by
  funext y
  have hy : (y 0).val < 2048 := (y 0).isLt
  refine hY y (Or.inl ?_)
  have : cN w (2048 * (i 0).val + (y 0).val) ≤ gLast i w := cN_mono (by omega)
  omega

/-- A turn: group `g` begins inside the block; the rows of the piece it begins in, from its first row on, take its
values — when it has a row and does not begin at a piece's first row. -/
theorem done_step (h : Fill w) (g : ℕ) (h1 : gFirst i w < g) (h2 : g ≤ gLast i w) (Y Y' : Vec F S2048x2048 .bf16) (hY : Done x2 x4 x5 x7 w i g Y)
    (hin : ∀ y : S2048x2048.Idx, 0 < (w g).toNat → (S w g - 2048 * (i 0).val) % 256 ≠ 0 → S w g - 2048 * (i 0).val ≤ (y 0).val →
      (y 0).val / 256 = (S w g - 2048 * (i 0).val) / 256 →
      Y' y = part x2 x4 x5 x7 (256 * ((y 0).val / 256)) g (ix2 (⟨(y 0).val % 256, Nat.mod_lt _ (by norm_num)⟩ : Fin 256) (⟨(y 1).val, (y 1).isLt⟩ : Fin 2048)))
    (hout : ∀ y : S2048x2048.Idx, ¬ (0 < (w g).toNat ∧ (S w g - 2048 * (i 0).val) % 256 ≠ 0 ∧ S w g - 2048 * (i 0).val ≤ (y 0).val ∧
      (y 0).val / 256 = (S w g - 2048 * (i 0).val) / 256) → Y' y = Y y) : Done x2 x4 x5 x7 w i (g + 1) Y' := by
  obtain ⟨-, l1, l2⟩ := local_toNat i h g h1 h2 (BitVec.ofNat 32 (S w g)) (by
    have := h.S_le (n := g) (by have := gLast_le i (w := w); omega)
    simp; omega)
  have hg := gLast_le i (w := w)
  intro y hy
  have hy0 : (y 0).val < 2048 := (y 0).isLt
  have hi := i_lt i
  have m2 : cN w (2048 * (i 0).val + 256 * ((y 0).val / 256)) ≤ cN w (2048 * (i 0).val + (y 0).val) := cN_mono (by omega)
  have c1 := le_cN (w := w) (j := g) (by omega) (by omega) (2048 * (i 0).val + (y 0).val)
  have c2 := le_cN (w := w) (j := g) (by omega) (by omega) (2048 * (i 0).val + 256 * ((y 0).val / 256))
  by_cases hc : 0 < (w g).toNat ∧ (S w g - 2048 * (i 0).val) % 256 ≠ 0 ∧ S w g - 2048 * (i 0).val ≤ (y 0).val ∧
      (y 0).val / 256 = (S w g - 2048 * (i 0).val) / 256
  · obtain ⟨a1, a2, a3, a4⟩ := hc
    rw [hin y a1 a2 a3 a4]
    have e : cN w (2048 * (i 0).val + (y 0).val) = g := by
      generalize cN w (2048 * (i 0).val + (y 0).val) = G at *
      generalize cN w (2048 * (i 0).val + 256 * ((y 0).val / 256)) = B at *
      have : g ≤ G := c1.mpr (by omega)
      have : ¬ g ≤ B := fun hb => by have := c2.mp hb; omega
      omega
    unfold tile
    rw [e]
  · rw [hout y hc]
    refine hY y ?_
    by_contra hn
    have hu := lt_S_cN h (r := 2048 * (i 0).val + (y 0).val) (by omega)
    have e : cN w (2048 * (i 0).val + (y 0).val) = g := by omega
    rw [e, S_succ] at hu
    have : S w g ≤ 2048 * (i 0).val + (y 0).val := c1.mp (by omega)
    have : ¬ S w g ≤ 2048 * (i 0).val + 256 * ((y 0).val / 256) := fun hb => by have := c2.mpr hb; omega
    exact hc ⟨by omega, by omega, by omega, by omega⟩

/-- Rows `o … o + 255` of the output block. -/
def outRows (Y : Vec F S2048x2048 .bf16) (o : ℕ) : Vec F S256x2048 .bf16 :=
  fun j => Y (ix2 (⟨(o + (j 0).val) % 2048, Nat.mod_lt _ (by norm_num)⟩ : Fin 2048) (⟨(j 1).val, (j 1).isLt⟩ : Fin 2048))

theorem ld_outRows (x : Vec F S2048x2048 .bf16) (o : ℕ) (ho : o ≤ 1792) (off : Fin 2 → ℕ) (h : off = ![o, 0]) (inb) :
    View.ld x (Rect.unit (s := S2048x2048) off S256x2048.size inb) = outRows x o := by
  subst h
  funext j
  have hj : (j 0).val < 256 := (j 0).isLt
  exact View.ld_unit_apply_of x _ _ inb j _ (Fin.forall_fin_two.mpr ⟨Nat.mod_eq_of_lt (by omega), (Nat.zero_add _).symm⟩)

/-- The turn's conditional store, read back: the state before the next group's turn. -/
theorem turn_step (h : Fill w) (g : ℕ) (h1 : gFirst i w < g) (h2 : g ≤ gLast i w) (acc s : BitVec 32) (ha : acc.toNat = S w g) (hs : s = w g)
    (arg6 : Memref sig .tc .vmem S2048x2048 .bf16) (f6 : arg6.view.ty.Contents (Elt F))
    (inb : k0_cond1 i acc s = 1#1 → ∀ a, k0_off8 i acc a + S256x2048.size a ≤ S2048x2048.size a)
    (P : k0_cond1 i acc s = 1#1 → Vec F S256x2048 .bf16)
    (hP : ∀ hc, P hc = k0_pay1 (Scalar.subi acc (row0 i)) (rows x2 ((S w g - 2048 * (i 0).val) / 256 * 256)) (weights x4 g)
      (rowScales x7 ((S w g - 2048 * (i 0).val) / 256 * 256)) (colScales x5 g) (outRows (arg6.view.read (Elt F) f6) ((S w g - 2048 * (i 0).val) / 256 * 256)))
    (hY : Done x2 x4 x5 x7 w i g (arg6.view.read (Elt F) f6)) :
    Done x2 x4 x5 x7 w i (g + 1) (arg6.view.read (Elt F) (if hc : k0_cond1 i acc s = 1#1 then
      arg6.view.writes (Elt F) f6 [⟨Rect.unit (s := S2048x2048) (k0_off8 i acc) S256x2048.size (inb hc), P hc⟩] else f6)) := by
  obtain ⟨e1, l1, l2⟩ := local_toNat i h g h1 h2 acc ha
  have hfl := floor_toNat i h g h1 h2 acc ha
  have hgl := gLast_le i (w := w)
  have hsz : s.toNat < 2 ^ 31 := by
    have := h.le g (by omega)
    rw [hs]
    omega
  have hcd := cond1_iff i h g h1 h2 acc ha s hsz
  have hoff : k0_off8 i acc = ![(S w g - 2048 * (i 0).val) / 256 * 256, 0] := by rw [off8_eq, hfl]
  rw [hs] at hcd
  refine done_step _ _ _ _ i h g h1 h2 _ _ hY ?_ ?_
  · intro y a1 a2 a3 a4
    have hy0 : (y 0).val < 2048 := (y 0).isLt
    have hc : k0_cond1 i acc s = 1#1 := by rw [hs]; exact hcd.mpr ⟨a1, a2⟩
    rw [dif_pos hc]
    refine (View.read_writes_cons_rows_of_mem (size := S256x2048.size) (o := (S w g - 2048 * (i 0).val) / 256 * 256) arg6.view f6 _ _ [] y
      (ix2 (⟨(y 0).val % 256, Nat.mod_lt _ (by norm_num)⟩ : Fin 256) (⟨(y 1).val, (y 1).isLt⟩ : Fin 2048)) hoff (by
        show (y 0).val = _ + (y 0).val % 256
        omega) rfl).trans ?_
    rw [hP hc, pay1_apply _ (by omega), if_pos]
    · unfold part
      rw [show 256 * ((y 0).val / 256) = (S w g - 2048 * (i 0).val) / 256 * 256 from by omega]
    · show _ ≤ _ + (y 0).val % 256
      omega
  · intro y hy
    have hy0 : (y 0).val < 2048 := (y 0).isLt
    by_cases hc : k0_cond1 i acc s = 1#1
    · rw [dif_pos hc]
      have hc' := hc
      rw [hs] at hc'
      obtain ⟨a1, a2⟩ := hcd.mp hc'
      by_cases hin : (y 0).val / 256 = (S w g - 2048 * (i 0).val) / 256
      · refine (View.read_writes_cons_rows_of_mem (size := S256x2048.size) (o := (S w g - 2048 * (i 0).val) / 256 * 256) arg6.view f6 _ _ [] y
          (ix2 (⟨(y 0).val % 256, Nat.mod_lt _ (by norm_num)⟩ : Fin 256) (⟨(y 1).val, (y 1).isLt⟩ : Fin 2048)) hoff (by
            show (y 0).val = _ + (y 0).val % 256
            omega) rfl).trans ?_
        rw [hP hc, pay1_apply _ (by omega), if_neg]
        · show arg6.view.read (Elt F) f6 _ = _
          congr 1
          funext a
          refine Fin.ext ?_
          revert a
          refine Fin.forall_fin_two.mpr ⟨?_, rfl⟩
          show ((S w g - 2048 * (i 0).val) / 256 * 256 + (y 0).val % 256) % 2048 = (y 0).val
          omega
        · show ¬ _ ≤ _ + (y 0).val % 256
          intro hh
          exact hy ⟨a1, a2, by omega, hin⟩
      · exact View.read_writes_cons_rows_of_not_mem (size := S256x2048.size) (o := (S w g - 2048 * (i 0).val) / 256 * 256) (W := 256) arg6.view f6 _ _ [] y hoff rfl (by omega)
    · rw [dif_neg hc]

end Cert.Kernel.Tile

end
-- ==== Proof.KernelLoop.lean ====
module

public import proofs.«01_k».proof.Proof.KernelTile
public import proofs.«01_k».proof.Proof.Gen.Kernel.Loops
public import proofs.«01_k».proof.Proof.Gen.Kernel.Frame

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Kernel Cert.Kernel.Gen Cert.Kernel.Words Cert.Kernel.Tile Cert.Groups

variable {F : FTy → Type} [FloatOps F]
local notation "𝕄" => MT nD τ sig Unit (Elt F) ℕ (UR sig nD τ) ℕ

/-! One turn of the loop over the groups that begin inside the block, and the loop's invariant. -/

/-- The whole of a buffer held at the contents `f`. -/
abbrev pt (c : Dev nD) {sp : Space} {s : Shape} {d : EltTy} (a : Memref sig .tc sp s d) (f : Buf (Elt F) (a.view.loc (c : Thread nD τ))) : sProp 𝕄 :=
  a.view.loc (c : Thread nD τ) ↦[a.view.set]{fullShare} f

/-- The sixteen words of the group sizes. -/
def words (X : Vec F S16 .i32) (n : ℕ) : BitVec 32 := if h : n < 16 then X (ix1 (⟨n, h⟩ : Fin 16)) else 0#32

theorem readAt_word (arg1 : Memref sig .tc .smem S16 .i32) (f1 : arg1.view.ty.Contents (Elt F)) (n : ℕ) (hn : n < 16) (off : Fin 1 → ℕ) (ho : off = ![n]) (inb)
    (x : (Rect.unit (s := S16) off S1.size inb).toLoadRect.shape.Idx) :
    arg1.view.readAt (Elt F) (Rect.unit (s := S16) off S1.size inb).toLoadRect f1 x = words (arg1.view.read (Elt F) f1) n := by
  subst ho
  have hx : (x 0).val < 1 := (x 0).isLt
  unfold words
  rw [dif_pos hn]
  refine View.ld_unit_apply_of (arg1.view.read (Elt F) f1) _ _ inb x _ fun a => ?_
  obtain rfl : a = 0 := Subsingleton.elim _ _
  show n = n + (x 0).val
  omega

/-- Adding a group's size to where it starts gives where the next one starts. -/
theorem start_next {w : ℕ → BitVec 32} (h : Fill w) (g : ℕ) (hg : g ≤ 15) (acc s : BitVec 32) (ha : acc.toNat = S w g) (hs : s = w g) :
    (Scalar.addi acc s).toNat = S w (g + 1) := by
  subst hs
  have e := S_succ (w := w) g
  have l := h.S_le (n := g + 1) (by omega)
  rw [addi_toNat, ha]
  · exact e.symm
  · rw [ha]; omega

section Trip

variable (c : Dev nD) (i : grid0.Coords) (arg1 : Memref sig .tc .smem S16 .i32) (harg1 : arg1.IsWhole) (arg2 : Memref sig .tc .vmem S2048x768 .fp8e4m3) (harg2 : arg2.IsWhole) (arg3 : Memref sig .tc .vmem S1x16x128 .f32) (harg3 : arg3.IsWhole) (arg4 : Memref sig .tc .vmem S16x768x2048 .fp8e4m3) (harg4 : arg4.IsWhole) (arg5 : Memref sig .tc .vmem S16x2048 .f32) (harg5 : arg5.IsWhole) (arg6 : Memref sig .tc .vmem S2048x2048 .bf16) (harg6 : arg6.IsWhole) (arg7 : Memref sig .tc .vmem S2048x1 .f32) (harg7 : arg7.IsWhole)
  (f1 : Buf (Elt F) (arg1.view.loc (c : Thread nD τ))) (f2 : Buf (Elt F) (arg2.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ)))

/-- What the loop's parameters are: the words read before it. -/
def Entry (X : Vec F S16 .i32) (v0 : BitVec 32) (v1 v3 v5 v7 v9 v11 v13 v15 v17 v19 v21 v23 v25 v27 v29 : BitVec 32) (v715 : BitVec 32) : Prop :=
  Fill (words X) ∧ v0 = row0 i ∧ (v1 = words X 0 ∧ v3 = words X 1 ∧ v5 = words X 2 ∧ v7 = words X 3 ∧ v9 = words X 4 ∧ v11 = words X 5 ∧ v13 = words X 6 ∧ v15 = words X 7 ∧ v17 = words X 8 ∧ v19 = words X 9 ∧ v21 = words X 10 ∧ v23 = words X 11 ∧ v25 = words X 12 ∧ v27 = words X 13 ∧ v29 = words X 14) ∧ v715 = lb i (words X)

/-- The state before turn `k`: the carried word is where that turn's group starts, and the output block is done up to it. -/
abbrev Turn (k : ℕ) (acc : BitVec 32) (f1 : Buf (Elt F) (arg1.view.loc (c : Thread nD τ))) (f2 : Buf (Elt F) (arg2.view.loc (c : Thread nD τ))) (f4 : Buf (Elt F) (arg4.view.loc (c : Thread nD τ))) (f5 : Buf (Elt F) (arg5.view.loc (c : Thread nD τ))) (f7 : Buf (Elt F) (arg7.view.loc (c : Thread nD τ))) (f6 : Buf (Elt F) (arg6.view.loc (c : Thread nD τ))) : Prop :=
  (k < gLast i (words (arg1.view.read (Elt F) f1)) - gFirst i (words (arg1.view.read (Elt F) f1)) → acc.toNat = S (words (arg1.view.read (Elt F) f1)) (gFirst i (words (arg1.view.read (Elt F) f1)) + 1 + k))
    ∧ Done (arg2.view.read (Elt F) f2) (arg4.view.read (Elt F) f4) (arg5.view.read (Elt F) f5) (arg7.view.read (Elt F) f7) (words (arg1.view.read (Elt F) f1)) i (gFirst i (words (arg1.view.read (Elt F) f1)) + 1 + k) (arg6.view.read (Elt F) f6)

/-- The arithmetic of one turn: from the state before it to the state after it, given what the turn loads and stores. -/
theorem turn_next (hF : Fill (words (arg1.view.read (Elt F) f1))) (m : ℕ)
    (hm : m < gLast i (words (arg1.view.read (Elt F) f1)) - gFirst i (words (arg1.view.read (Elt F) f1))) (acc s : BitVec 32)
    (hs : s = words (arg1.view.read (Elt F) f1) (gFirst i (words (arg1.view.read (Elt F) f1)) + 1 + m))
    (hT : Turn c i arg1 arg2 arg4 arg5 arg6 arg7 m acc f1 f2 f4 f5 f7 f6)
    (o5 : Fin 3 → ℕ) (h5 : o5 = ![gFirst i (words (arg1.view.read (Elt F) f1)) + 1 + m, 0, 0])
    (o7 : Fin 2 → ℕ) (h7 : o7 = ![gFirst i (words (arg1.view.read (Elt F) f1)) + 1 + m, 0])
    (i4 : k0_cond1 i acc s = 1#1 → ∀ a, k0_off4 i acc a + S256x768.size a ≤ S2048x768.size a)
    (i5 : k0_cond1 i acc s = 1#1 → ∀ a, o5 a + S1x768x2048.size a ≤ S16x768x2048.size a)
    (i6 : k0_cond1 i acc s = 1#1 → ∀ a, k0_off6 i acc a + S256x1.size a ≤ S2048x1.size a)
    (i7 : k0_cond1 i acc s = 1#1 → ∀ a, o7 a + S1x2048.size a ≤ S16x2048.size a)
    (i8 : k0_cond1 i acc s = 1#1 → ∀ a, k0_off8 i acc a + S256x2048.size a ≤ S2048x2048.size a) :
    Turn c i arg1 arg2 arg4 arg5 arg6 arg7 (m + 1) (Scalar.addi acc s) f1 f2 f4 f5 f7
      (if hc : k0_cond1 i acc s = 1#1 then
        arg6.view.writes (Elt F) f6 [⟨Rect.unit (s := S2048x2048) (k0_off8 i acc) S256x2048.size (i8 hc),
          k0_pay1 (Scalar.subi acc (row0 i))
            (arg2.view.readAt (Elt F) (Rect.unit (s := S2048x768) (k0_off4 i acc) S256x768.size (i4 hc)).toLoadRect f2)
            (arg4.view.readAt (Elt F) (Rect.unit (s := S16x768x2048) o5 S1x768x2048.size (i5 hc)).toLoadRect f4)
            (arg7.view.readAt (Elt F) (Rect.unit (s := S2048x1) (k0_off6 i acc) S256x1.size (i6 hc)).toLoadRect f7)
            (arg5.view.readAt (Elt F) (Rect.unit (s := S16x2048) o7 S1x2048.size (i7 hc)).toLoadRect f5)
            (arg6.view.readAt (Elt F) (Rect.unit (s := S2048x2048) (k0_off8 i acc) S256x2048.size (i8 hc)).toLoadRect f6)⟩]
      else f6) := by
  obtain ⟨hT1, hT2⟩ := hT
  have ha := hT1 hm
  clear hT1
  have hl := gLast_le i (w := words (arg1.view.read (Elt F) f1))
  have h1 : gFirst i (words (arg1.view.read (Elt F) f1)) < gFirst i (words (arg1.view.read (Elt F) f1)) + 1 + m := by omega
  have h2 : gFirst i (words (arg1.view.read (Elt F) f1)) + 1 + m ≤ gLast i (words (arg1.view.read (Elt F) f1)) := by omega
  have h3 : gFirst i (words (arg1.view.read (Elt F) f1)) + 1 + m ≤ 15 := by omega
  have hfl := floor_toNat i hF _ h1 h2 acc ha
  have ho : (S (words (arg1.view.read (Elt F) f1)) (gFirst i (words (arg1.view.read (Elt F) f1)) + 1 + m) - 2048 * (i 0).val) / 256 * 256 ≤ 1792 := by
    obtain ⟨e1, l1, l2⟩ := local_toNat i hF _ h1 h2 acc ha
    generalize S (words (arg1.view.read (Elt F) f1)) (gFirst i (words (arg1.view.read (Elt F) f1)) + 1 + m) = A at *
    omega
  refine ⟨fun hn => ?_, ?_⟩
  · rw [← Nat.add_assoc]
    exact start_next hF _ h3 acc s ha hs
  · rw [← Nat.add_assoc]
    refine turn_step _ _ _ _ i hF _ h1 h2 acc s ha hs arg6 f6 i8 _ (fun hc => ?_) hT2
    rw [← ld_rows (arg2.view.read (Elt F) f2) _ ho (k0_off4 i acc) (by rw [off4_eq, hfl]) (i4 hc)]
    rw [← ld_weights (arg4.view.read (Elt F) f4) _ h3 o5 h5 (i5 hc)]
    rw [← ld_rowScales (arg7.view.read (Elt F) f7) _ ho (k0_off6 i acc) (by rw [off6_eq, hfl]) (i6 hc)]
    rw [← ld_colScales (arg5.view.read (Elt F) f5) _ h3 o7 h7 (i7 hc)]
    rw [← ld_outRows (arg6.view.read (Elt F) f6) _ ho (k0_off8 i acc) (by rw [off8_eq, hfl]) (i8 hc)]
    rfl

set_option maxHeartbeats 1000000 in
/-- ONE TURN. -/
theorem trip (hF : Fill (words (arg1.view.read (Elt F) f1)))
    (hw1 : k0_chk1 i (words (arg1.view.read (Elt F) f1) 0) (words (arg1.view.read (Elt F) f1) 1) (words (arg1.view.read (Elt F) f1) 2) (words (arg1.view.read (Elt F) f1) 3) (words (arg1.view.read (Elt F) f1) 4) (words (arg1.view.read (Elt F) f1) 5) (words (arg1.view.read (Elt F) f1) 6) (words (arg1.view.read (Elt F) f1) 7) (words (arg1.view.read (Elt F) f1) 8) (words (arg1.view.read (Elt F) f1) 9) (words (arg1.view.read (Elt F) f1) 10) (words (arg1.view.read (Elt F) f1) 11) (words (arg1.view.read (Elt F) f1) 12) (words (arg1.view.read (Elt F) f1) 13) (words (arg1.view.read (Elt F) f1) 14)) (k : Fin (k0_t1_loop i (words (arg1.view.read (Elt F) f1) 0) (words (arg1.view.read (Elt F) f1) 1) (words (arg1.view.read (Elt F) f1) 2) (words (arg1.view.read (Elt F) f1) 3) (words (arg1.view.read (Elt F) f1) 4) (words (arg1.view.read (Elt F) f1) 5) (words (arg1.view.read (Elt F) f1) 6) (words (arg1.view.read (Elt F) f1) 7) (words (arg1.view.read (Elt F) f1) 8) (words (arg1.view.read (Elt F) f1) 9) (words (arg1.view.read (Elt F) f1) 10) (words (arg1.view.read (Elt F) f1) 11) (words (arg1.view.read (Elt F) f1) 12) (words (arg1.view.read (Elt F) f1) 13) (words (arg1.view.read (Elt F) f1) 14)).trips) (acc : BitVec 32)
    (hT : Turn c i arg1 arg2 arg4 arg5 arg6 arg7 k.val acc f1 f2 f4 f5 f7 f6) :
    iprop(pt c arg1 f1 ∗ pt c arg2 f2 ∗ pt c arg4 f4 ∗ pt c arg5 f5 ∗ pt c arg6 f6 ∗ pt c arg7 f7)
      ⊢ wp frame (wpE (defs₀ (F := F)) Variants.none (c : Thread nD τ) none) Set.univ (k0_t1_body (F := F) i arg1 harg1 arg2 harg2 arg3 harg3 arg4 harg4 arg5 harg5 arg6 harg6 arg7 harg7 (row0 i) (words (arg1.view.read (Elt F) f1) 0) (words (arg1.view.read (Elt F) f1) 1) (words (arg1.view.read (Elt F) f1) 2) (words (arg1.view.read (Elt F) f1) 3) (words (arg1.view.read (Elt F) f1) 4) (words (arg1.view.read (Elt F) f1) 5) (words (arg1.view.read (Elt F) f1) 6) (words (arg1.view.read (Elt F) f1) 7) (words (arg1.view.read (Elt F) f1) 8) (words (arg1.view.read (Elt F) f1) 9) (words (arg1.view.read (Elt F) f1) 10) (words (arg1.view.read (Elt F) f1) 11) (words (arg1.view.read (Elt F) f1) 12) (words (arg1.view.read (Elt F) f1) 13) (words (arg1.view.read (Elt F) f1) 14) hw1 (lb i (words (arg1.view.read (Elt F) f1))) k acc)
        (fun acc' => iprop(pt c arg1 f1 ∗ pt c arg2 f2 ∗ pt c arg4 f4 ∗ pt c arg5 f5 ∗ pt c arg7 f7 ∗ ∃ f6', pt c arg6 f6' ∗ ⌜Turn c i arg1 arg2 arg4 arg5 arg6 arg7 (k.val + 1) acc' f1 f2 f4 f5 f7 f6'⌝)) := by
  have ha := hT.1 (trip_lt i hF k)
  unfold k0_t1_body
  have hchk2 := fun s => Words.chk2 i hF k acc s ha
  unfold pt
  iintro ⟨H1, H2, H4, H5, H6, H7⟩
  sl_exec
  sl_step
  isplitl [H1]; · iexact H1
  isplitl [H2]; · iexact H2
  isplitl [H4]; · iexact H4
  isplitl [H5]; · iexact H5
  isplitl [H7]; · iexact H7
  iexists _
  isplitl [H6]; · iexact H6
  ipureintro
  have hk := trip_lt i hF k
  have hl := gLast_le i (w := words (arg1.view.read (Elt F) f1))
  obtain ⟨m, hm, hk'⟩ : ∃ m, k.val = m ∧ m < gLast i (words (arg1.view.read (Elt F) f1)) - gFirst i (words (arg1.view.read (Elt F) f1)) := ⟨_, rfl, hk⟩
  have hiv := iv_toNat i hF m (by clear hT hchk2 ha; omega)
  have hlt : gFirst i (words (arg1.view.read (Elt F) f1)) + 1 + m < 16 := by clear hT hchk2 ha; omega
  rw [← hm] at hiv hlt
  have hs : trip.sl.r c i arg1 f1 hw1 k = words (arg1.view.read (Elt F) f1) (gFirst i (words (arg1.view.read (Elt F) f1)) + 1 + k.val) := by
    unfold trip.sl.r trip.sl.f
    exact readAt_word arg1 f1 _ hlt _ (by rw [off3_eq, hiv]) _ _
  unfold trip.sl.v742 trip.sl.r_1 trip.sl.v726 trip.sl.v768 trip.sl.v770 trip.sl.v774 trip.sl.v778 trip.sl.v783
  exact turn_next c i arg1 arg2 arg4 arg5 arg6 arg7 f1 f2 f4 f5 f6 f7 hF k.val hk acc (trip.sl.r c i arg1 f1 hw1 k) hs hT
    (k0_off5 i (words (arg1.view.read (Elt F) f1) 0) (words (arg1.view.read (Elt F) f1) 1) (words (arg1.view.read (Elt F) f1) 2) (words (arg1.view.read (Elt F) f1) 3) (words (arg1.view.read (Elt F) f1) 4) (words (arg1.view.read (Elt F) f1) 5) (words (arg1.view.read (Elt F) f1) 6) (words (arg1.view.read (Elt F) f1) 7) (words (arg1.view.read (Elt F) f1) 8) (words (arg1.view.read (Elt F) f1) 9) (words (arg1.view.read (Elt F) f1) 10) (words (arg1.view.read (Elt F) f1) 11) (words (arg1.view.read (Elt F) f1) 12) (words (arg1.view.read (Elt F) f1) 13) (words (arg1.view.read (Elt F) f1) 14) k) (by rw [off5_eq, hiv])
    (k0_off7 i (words (arg1.view.read (Elt F) f1) 0) (words (arg1.view.read (Elt F) f1) 1) (words (arg1.view.read (Elt F) f1) 2) (words (arg1.view.read (Elt F) f1) 3) (words (arg1.view.read (Elt F) f1) 4) (words (arg1.view.read (Elt F) f1) 5) (words (arg1.view.read (Elt F) f1) 6) (words (arg1.view.read (Elt F) f1) 7) (words (arg1.view.read (Elt F) f1) 8) (words (arg1.view.read (Elt F) f1) 9) (words (arg1.view.read (Elt F) f1) 10) (words (arg1.view.read (Elt F) f1) 11) (words (arg1.view.read (Elt F) f1) 12) (words (arg1.view.read (Elt F) f1) 13) (words (arg1.view.read (Elt F) f1) 14) k) (by rw [off7_eq, hiv]) _ _ _ _ _

end Trip

end Cert.Kernel.Body

end
-- ==== Proof.KernelInv.lean ====
module

public import proofs.«01_k».proof.Proof.KernelLoop

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Kernel Cert.Kernel.Gen Cert.Kernel.Words Cert.Kernel.Tile Cert.Groups

variable {F : FTy → Type} [FloatOps F]
local notation "𝕄" => MT nD τ sig Unit (Elt F) ℕ (UR sig nD τ) ℕ

/-! The whole body of a grid point. -/

set_option warn.classDefReducibility false in
set_option maxHeartbeats 1000000 in
/-- The invariant of the loop over the groups that begin inside the block. -/
@[sl_loop] def loopInv_t1 (c : Dev nD) (i : grid0.Coords) (arg1 : Memref sig .tc .smem S16 .i32) (harg1 : arg1.IsWhole) (arg2 : Memref sig .tc .vmem S2048x768 .fp8e4m3) (harg2 : arg2.IsWhole) (arg3 : Memref sig .tc .vmem S1x16x128 .f32) (harg3 : arg3.IsWhole) (arg4 : Memref sig .tc .vmem S16x768x2048 .fp8e4m3) (harg4 : arg4.IsWhole) (arg5 : Memref sig .tc .vmem S16x2048 .f32) (harg5 : arg5.IsWhole) (arg6 : Memref sig .tc .vmem S2048x2048 .bf16) (harg6 : arg6.IsWhole) (arg7 : Memref sig .tc .vmem S2048x1 .f32) (harg7 : arg7.IsWhole)
    (f1 : Buf (Elt F) (arg1.view.loc (c : Thread nD τ))) (f2 : Buf (Elt F) (arg2.view.loc (c : Thread nD τ))) (f4 : Buf (Elt F) (arg4.view.loc (c : Thread nD τ))) (f5 : Buf (Elt F) (arg5.view.loc (c : Thread nD τ))) (f7 : Buf (Elt F) (arg7.view.loc (c : Thread nD τ))) (v0 : BitVec 32) (v1 : Elt F .i32) (v3 : Elt F .i32) (v5 : Elt F .i32) (v7 : Elt F .i32) (v9 : Elt F .i32) (v11 : Elt F .i32) (v13 : Elt F .i32) (v15 : Elt F .i32) (v17 : Elt F .i32) (v19 : Elt F .i32) (v21 : Elt F .i32) (v23 : Elt F .i32) (v25 : Elt F .i32) (v27 : Elt F .i32) (v29 : Elt F .i32) (hw1 : k0_chk1 i v1 v3 v5 v7 v9 v11 v13 v15 v17 v19 v21 v23 v25 v27 v29) (v715 init : BitVec 32) :
    LoopInvTy_k0_t1 (F := F) Unit ℕ (UR sig nD τ) ℕ Variants.none c none Set.univ i arg1 harg1 arg2 harg2 arg3 harg3 arg4 harg4 arg5 harg5 arg6 harg6 arg7 harg7 v0 v1 v3 v5 v7 v9 v11 v13 v15 v17 v19 v21 v23 v25 v27 v29 hw1 v715 init where
  inv k acc := iprop(⌜Entry i (arg1.view.read (Elt F) f1) v0 v1 v3 v5 v7 v9 v11 v13 v15 v17 v19 v21 v23 v25 v27 v29 v715⌝ ∗ pt c arg1 f1 ∗ pt c arg2 f2 ∗ pt c arg4 f4 ∗ pt c arg5 f5 ∗ pt c arg7 f7 ∗ ∃ f6, pt c arg6 f6 ∗ ⌜Turn c i arg1 arg2 arg4 arg5 arg6 arg7 k acc f1 f2 f4 f5 f7 f6⌝)
  step k acc := by
    iintro ⟨%hE, H1, H2, H4, H5, H7, ⟨%f6, H6, %hT⟩⟩
    obtain ⟨hF, rfl, ⟨rfl, rfl, rfl, rfl, rfl, rfl, rfl, rfl, rfl, rfl, rfl, rfl, rfl, rfl, rfl⟩, rfl⟩ := hE
    iapply (wp_wand_r Idealize.ShloMosaic.frame (wpE (defs₀ (F := F)) Variants.none (c : Thread nD τ) none) Set.univ)
    isplitl [H1 H2 H4 H5 H6 H7]
    · iapply (trip c i arg1 harg1 arg2 harg2 arg3 harg3 arg4 harg4 arg5 harg5 arg6 harg6 arg7 harg7 f1 f2 f4 f5 f6 f7 hF hw1 k acc hT)
      isplitl [H1]; · iexact H1
      isplitl [H2]; · iexact H2
      isplitl [H4]; · iexact H4
      isplitl [H5]; · iexact H5
      isplitl [H6]; · iexact H6
      iexact H7
    · iintro %acc' ⟨H1, H2, H4, H5, H7, H6⟩
      isplitr
      · ipureintro
        exact ⟨hF, rfl, ⟨rfl, rfl, rfl, rfl, rfl, rfl, rfl, rfl, rfl, rfl, rfl, rfl, rfl, rfl, rfl⟩, rfl⟩
      isplitl [H1]; · iexact H1
      isplitl [H2]; · iexact H2
      isplitl [H4]; · iexact H4
      isplitl [H5]; · iexact H5
      isplitl [H7]; · iexact H7
      iexact H6

end Cert.Kernel.Body

end
-- ==== Proof.KernelPieces.lean ====
module

public import proofs.«01_k».proof.Proof.KernelTile

@[expose] public section

set_option maxRecDepth 16384

noncomputable section

namespace Cert.Kernel.Tile

open Idealize.ShloMosaic
open Cert.Kernel Cert.Kernel.Gen Cert.Kernel.Words Cert.Groups

variable {F : FTy → Type} [FloatOps F]

/-! What the stores before the loop leave: the row scales laid out as one column, and the first pass over the block. -/

/-- The row scales of the block, as one column. -/
def column (x3 : Vec F S1x16x128 .f32) : Vec F S2048x1 .f32 :=
  fun y => x3 (ix3 (0 : Fin 1) (⟨(y 0).val / 128 % 16, Nat.mod_lt _ (by norm_num)⟩ : Fin 16) (⟨(y 0).val % 128, Nat.mod_lt _ (by norm_num)⟩ : Fin 128))

/-- The sixteen stores of the column, newest first. -/
def columnPieces (x3 : Vec F S1x16x128 .f32) : List (View.Piece (Elt F) S2048x1 .f32) :=
  [⟨Rect.unit (s := S2048x1) ![1920, 0] S128x1.size inb_S2048x1_S128x1_1920_0, k0_pay21 (k0_pay3 x3)⟩,
    ⟨Rect.unit (s := S2048x1) ![1792, 0] S128x1.size inb_S2048x1_S128x1_1792_0, k0_pay20 (k0_pay3 x3)⟩,
    ⟨Rect.unit (s := S2048x1) ![1664, 0] S128x1.size inb_S2048x1_S128x1_1664_0, k0_pay19 (k0_pay3 x3)⟩,
    ⟨Rect.unit (s := S2048x1) ![1536, 0] S128x1.size inb_S2048x1_S128x1_1536_0, k0_pay18 (k0_pay3 x3)⟩,
    ⟨Rect.unit (s := S2048x1) ![1408, 0] S128x1.size inb_S2048x1_S128x1_1408_0, k0_pay17 (k0_pay3 x3)⟩,
    ⟨Rect.unit (s := S2048x1) ![1280, 0] S128x1.size inb_S2048x1_S128x1_1280_0, k0_pay16 (k0_pay3 x3)⟩,
    ⟨Rect.unit (s := S2048x1) ![1152, 0] S128x1.size inb_S2048x1_S128x1_1152_0, k0_pay15 (k0_pay14 (k0_pay3 x3))⟩,
    ⟨Rect.unit (s := S2048x1) ![1024, 0] S128x1.size inb_S2048x1_S128x1_1024_0, k0_pay13 (k0_pay3 x3)⟩,
    ⟨Rect.unit (s := S2048x1) ![896, 0] S128x1.size inb_S2048x1_S128x1_896_0, k0_pay12 (k0_pay3 x3)⟩,
    ⟨Rect.unit (s := S2048x1) ![768, 0] S128x1.size inb_S2048x1_S128x1_768_0, k0_pay11 (k0_pay3 x3)⟩,
    ⟨Rect.unit (s := S2048x1) ![640, 0] S128x1.size inb_S2048x1_S128x1_640_0, k0_pay10 (k0_pay3 x3)⟩,
    ⟨Rect.unit (s := S2048x1) ![512, 0] S128x1.size inb_S2048x1_S128x1_512_0, k0_pay9 (k0_pay3 x3)⟩,
    ⟨Rect.unit (s := S2048x1) ![384, 0] S128x1.size inb_S2048x1_S128x1_384_0, k0_pay8 (k0_pay3 x3)⟩,
    ⟨Rect.unit (s := S2048x1) ![256, 0] S128x1.size inb_S2048x1_S128x1_256_0, k0_pay7 (k0_pay3 x3)⟩,
    ⟨Rect.unit (s := S2048x1) ![128, 0] S128x1.size inb_S2048x1_S128x1_128_0, k0_pay6 (k0_pay3 x3)⟩,
    ⟨Rect.unit (s := S2048x1) ![0, 0] S128x1.size inb_S2048x1_S128x1_0_0, k0_pay5 (k0_pay4 x3)⟩]

/-- Column `j` of the transposed block, stored as rows `128 j … 128 j + 127`. -/
theorem pay_column (x3 : Vec F S1x16x128 .f32) (j : Fin 16) (hs : S128x16.Slices ![0, j.val] S128x1) (y : S128x1.Idx) :
    extractStridedSlice S128x1 ![0, j.val] (k0_pay3 x3) hs y = x3 (ix3 (0 : Fin 1) j (⟨(y 0).val, (y 0).isLt⟩ : Fin 128)) := by
  have hy : (y 1).val < 1 := (y 1).isLt
  rw [extractStridedSlice_apply _ _ _ y (ix2 (⟨(y 0).val, (y 0).isLt⟩ : Fin 128) j)
    (Fin.forall_fin_two.mpr ⟨(Nat.zero_add _).symm, by show j.val = j.val + (y 1).val; omega⟩)]
  unfold k0_pay3
  refine (transpose_apply _ _ _ _ (ix2 j (⟨(y 0).val, (y 0).isLt⟩ : Fin 128)) (by intro b; fin_cases b <;> rfl)).trans ?_
  exact ValueIdx.shapeCast_1ab_ab_apply x3 _ j _

def columnPay (x3 : Vec F S1x16x128 .f32) : Fin 16 → (⟨2, S128x1.size⟩ : Shape).Idx → Elt F .f32 :=
  ![k0_pay5 (k0_pay4 x3), k0_pay6 (k0_pay3 x3), k0_pay7 (k0_pay3 x3), k0_pay8 (k0_pay3 x3), k0_pay9 (k0_pay3 x3), k0_pay10 (k0_pay3 x3), k0_pay11 (k0_pay3 x3), k0_pay12 (k0_pay3 x3), k0_pay13 (k0_pay3 x3), k0_pay15 (k0_pay14 (k0_pay3 x3)), k0_pay16 (k0_pay3 x3), k0_pay17 (k0_pay3 x3), k0_pay18 (k0_pay3 x3), k0_pay19 (k0_pay3 x3), k0_pay20 (k0_pay3 x3), k0_pay21 (k0_pay3 x3)]

theorem columnPay_apply (x3 : Vec F S1x16x128 .f32) (j : Fin 16) (y : S128x1.Idx) :
    columnPay x3 j y = x3 (ix3 (0 : Fin 1) j (⟨(y 0).val, (y 0).isLt⟩ : Fin 128)) := by
  fin_cases j
  · exact (congrFun (shapeCast_self _ _) y).trans (pay_column x3 0 slices_S128x16_o0_0_S128x1 y)
  · exact (congrFun (shapeCast_self _ _) y).trans (pay_column x3 1 slices_S128x16_o0_1_S128x1 y)
  · exact (congrFun (shapeCast_self _ _) y).trans (pay_column x3 2 slices_S128x16_o0_2_S128x1 y)
  · exact (congrFun (shapeCast_self _ _) y).trans (pay_column x3 3 slices_S128x16_o0_3_S128x1 y)
  · exact (congrFun (shapeCast_self _ _) y).trans (pay_column x3 4 slices_S128x16_o0_4_S128x1 y)
  · exact (congrFun (shapeCast_self _ _) y).trans (pay_column x3 5 slices_S128x16_o0_5_S128x1 y)
  · exact (congrFun (shapeCast_self _ _) y).trans (pay_column x3 6 slices_S128x16_o0_6_S128x1 y)
  · exact (congrFun (shapeCast_self _ _) y).trans (pay_column x3 7 slices_S128x16_o0_7_S128x1 y)
  · exact (congrFun (shapeCast_self _ _) y).trans (pay_column x3 8 slices_S128x16_o0_8_S128x1 y)
  · exact (congrFun (shapeCast_self _ _) y).trans (pay_column x3 9 slices_S128x16_o0_9_S128x1 y)
  · exact (congrFun (shapeCast_self _ _) y).trans (pay_column x3 10 slices_S128x16_o0_10_S128x1 y)
  · exact (congrFun (shapeCast_self _ _) y).trans (pay_column x3 11 slices_S128x16_o0_11_S128x1 y)
  · exact (congrFun (shapeCast_self _ _) y).trans (pay_column x3 12 slices_S128x16_o0_12_S128x1 y)
  · exact (congrFun (shapeCast_self _ _) y).trans (pay_column x3 13 slices_S128x16_o0_13_S128x1 y)
  · exact (congrFun (shapeCast_self _ _) y).trans (pay_column x3 14 slices_S128x16_o0_14_S128x1 y)
  · exact (congrFun (shapeCast_self _ _) y).trans (pay_column x3 15 slices_S128x16_o0_15_S128x1 y)

theorem columnPieces_eq (x3 : Vec F S1x16x128 .f32) : columnPieces x3
    = View.tilePieces (s := S2048x1) (NT := 16) S128x1.size (fun j => ![128 * j.val, 0]) (fun j => Fin.forall_fin_two.mpr ⟨by show 128 * j.val + 128 ≤ 2048; omega, le_of_eq (Nat.zero_add _)⟩) (columnPay x3) 16 le_rfl := rfl

theorem read_column {sp : Space} (m : Memref sig .tc sp S2048x1 .f32) (f : m.view.ty.Contents (Elt F)) (x3 : Vec F S1x16x128 .f32) :
    m.view.read (Elt F) (m.view.writes (Elt F) f (columnPieces x3)) = column x3 := by
  funext y
  have hy : (y 0).val < 2048 := (y 0).isLt
  rw [columnPieces_eq, View.read_tilePieces m.view f _ _ _ _ 16 le_rfl y (⟨(y 0).val / 128, by omega⟩ : Fin 16) (by show (y 0).val / 128 < 16; omega)
    (ix2 (⟨(y 0).val % 128, Nat.mod_lt _ (by norm_num)⟩ : Fin 128) (⟨(y 1).val, (y 1).isLt⟩ : Fin 1)) (Fin.forall_fin_two.mpr ⟨by show (y 0).val = 128 * ((y 0).val / 128) + (y 0).val % 128; omega, (Nat.zero_add _).symm⟩)
    (0 : Fin 2) (fun i' hi' => by
      have : i'.val ≠ (y 0).val / 128 := fun h => hi' (Fin.ext h)
      show (y 0).val < 128 * i'.val ∨ 128 * i'.val + 128 ≤ (y 0).val
      omega)]
  refine (columnPay_apply x3 _ _).trans ?_
  unfold column
  congr 2
  refine Fin.ext ?_
  show (y 0).val / 128 = (y 0).val / 128 % 16
  omega

variable (x2 : Vec F S2048x768 .fp8e4m3) (x4 : Vec F S16x768x2048 .fp8e4m3) (x5 : Vec F S16x2048 .f32) (x7 : Vec F S2048x1 .f32) (i : grid0.Coords) (w : ℕ → BitVec 32)
  (hw : k0_chk1 i (w 0) (w 1) (w 2) (w 3) (w 4) (w 5) (w 6) (w 7) (w 8) (w 9) (w 10) (w 11) (w 12) (w 13) (w 14))

/-- The eight stores of the first pass, newest first: each piece of 256 rows takes the group of its first row. -/
def firstPieces : List (View.Piece (Elt F) S2048x2048 .bf16) :=
  [⟨Rect.unit (s := S2048x2048) ![1792, 0] S256x2048.size inb_S2048x2048_S256x2048_1792_0, k0_pay32 (View.ld x2 (Rect.unit (s := S2048x768) ![1792, 0] S256x768.size inb_S2048x768_S256x768_1792_0)) (View.ld x4 (Rect.unit (s := S16x768x2048) (k0_off1 i (w 0) (w 1) (w 2) (w 3) (w 4) (w 5) (w 6) (w 7) (w 8) (w 9) (w 10) (w 11) (w 12) (w 13) (w 14) 1792#32) S1x768x2048.size (k0_off1_inb i (w 0) (w 1) (w 2) (w 3) (w 4) (w 5) (w 6) (w 7) (w 8) (w 9) (w 10) (w 11) (w 12) (w 13) (w 14) hw 7))) (View.ld x7 (Rect.unit (s := S2048x1) ![1792, 0] S256x1.size inb_S2048x1_S256x1_1792_0)) (View.ld x5 (Rect.unit (s := S16x2048) (k0_off2 i (w 0) (w 1) (w 2) (w 3) (w 4) (w 5) (w 6) (w 7) (w 8) (w 9) (w 10) (w 11) (w 12) (w 13) (w 14) 1792#32) S1x2048.size (k0_off2_inb i (w 0) (w 1) (w 2) (w 3) (w 4) (w 5) (w 6) (w 7) (w 8) (w 9) (w 10) (w 11) (w 12) (w 13) (w 14) hw 7)))⟩,
    ⟨Rect.unit (s := S2048x2048) ![1536, 0] S256x2048.size inb_S2048x2048_S256x2048_1536_0, k0_pay31 (View.ld x2 (Rect.unit (s := S2048x768) ![1536, 0] S256x768.size inb_S2048x768_S256x768_1536_0)) (View.ld x4 (Rect.unit (s := S16x768x2048) (k0_off1 i (w 0) (w 1) (w 2) (w 3) (w 4) (w 5) (w 6) (w 7) (w 8) (w 9) (w 10) (w 11) (w 12) (w 13) (w 14) 1536#32) S1x768x2048.size (k0_off1_inb i (w 0) (w 1) (w 2) (w 3) (w 4) (w 5) (w 6) (w 7) (w 8) (w 9) (w 10) (w 11) (w 12) (w 13) (w 14) hw 6))) (View.ld x7 (Rect.unit (s := S2048x1) ![1536, 0] S256x1.size inb_S2048x1_S256x1_1536_0)) (View.ld x5 (Rect.unit (s := S16x2048) (k0_off2 i (w 0) (w 1) (w 2) (w 3) (w 4) (w 5) (w 6) (w 7) (w 8) (w 9) (w 10) (w 11) (w 12) (w 13) (w 14) 1536#32) S1x2048.size (k0_off2_inb i (w 0) (w 1) (w 2) (w 3) (w 4) (w 5) (w 6) (w 7) (w 8) (w 9) (w 10) (w 11) (w 12) (w 13) (w 14) hw 6)))⟩,
    ⟨Rect.unit (s := S2048x2048) ![1280, 0] S256x2048.size inb_S2048x2048_S256x2048_1280_0, k0_pay30 (k0_pay28 (View.ld x2 (Rect.unit (s := S2048x768) ![1280, 0] S256x768.size inb_S2048x768_S256x768_1280_0)) (View.ld x4 (Rect.unit (s := S16x768x2048) (k0_off1 i (w 0) (w 1) (w 2) (w 3) (w 4) (w 5) (w 6) (w 7) (w 8) (w 9) (w 10) (w 11) (w 12) (w 13) (w 14) 1280#32) S1x768x2048.size (k0_off1_inb i (w 0) (w 1) (w 2) (w 3) (w 4) (w 5) (w 6) (w 7) (w 8) (w 9) (w 10) (w 11) (w 12) (w 13) (w 14) hw 5))) (View.ld x7 (Rect.unit (s := S2048x1) ![1280, 0] S256x1.size inb_S2048x1_S256x1_1280_0))) (k0_pay29 (View.ld x5 (Rect.unit (s := S16x2048) (k0_off2 i (w 0) (w 1) (w 2) (w 3) (w 4) (w 5) (w 6) (w 7) (w 8) (w 9) (w 10) (w 11) (w 12) (w 13) (w 14) 1280#32) S1x2048.size (k0_off2_inb i (w 0) (w 1) (w 2) (w 3) (w 4) (w 5) (w 6) (w 7) (w 8) (w 9) (w 10) (w 11) (w 12) (w 13) (w 14) hw 5))))⟩,
    ⟨Rect.unit (s := S2048x2048) ![1024, 0] S256x2048.size inb_S2048x2048_S256x2048_1024_0, k0_pay27 (View.ld x2 (Rect.unit (s := S2048x768) ![1024, 0] S256x768.size inb_S2048x768_S256x768_1024_0)) (View.ld x4 (Rect.unit (s := S16x768x2048) (k0_off1 i (w 0) (w 1) (w 2) (w 3) (w 4) (w 5) (w 6) (w 7) (w 8) (w 9) (w 10) (w 11) (w 12) (w 13) (w 14) 1024#32) S1x768x2048.size (k0_off1_inb i (w 0) (w 1) (w 2) (w 3) (w 4) (w 5) (w 6) (w 7) (w 8) (w 9) (w 10) (w 11) (w 12) (w 13) (w 14) hw 4))) (View.ld x7 (Rect.unit (s := S2048x1) ![1024, 0] S256x1.size inb_S2048x1_S256x1_1024_0)) (View.ld x5 (Rect.unit (s := S16x2048) (k0_off2 i (w 0) (w 1) (w 2) (w 3) (w 4) (w 5) (w 6) (w 7) (w 8) (w 9) (w 10) (w 11) (w 12) (w 13) (w 14) 1024#32) S1x2048.size (k0_off2_inb i (w 0) (w 1) (w 2) (w 3) (w 4) (w 5) (w 6) (w 7) (w 8) (w 9) (w 10) (w 11) (w 12) (w 13) (w 14) hw 4)))⟩,
    ⟨Rect.unit (s := S2048x2048) ![768, 0] S256x2048.size inb_S2048x2048_S256x2048_768_0, k0_pay26 (View.ld x2 (Rect.unit (s := S2048x768) ![768, 0] S256x768.size inb_S2048x768_S256x768_768_0)) (View.ld x4 (Rect.unit (s := S16x768x2048) (k0_off1 i (w 0) (w 1) (w 2) (w 3) (w 4) (w 5) (w 6) (w 7) (w 8) (w 9) (w 10) (w 11) (w 12) (w 13) (w 14) 768#32) S1x768x2048.size (k0_off1_inb i (w 0) (w 1) (w 2) (w 3) (w 4) (w 5) (w 6) (w 7) (w 8) (w 9) (w 10) (w 11) (w 12) (w 13) (w 14) hw 3))) (View.ld x7 (Rect.unit (s := S2048x1) ![768, 0] S256x1.size inb_S2048x1_S256x1_768_0)) (View.ld x5 (Rect.unit (s := S16x2048) (k0_off2 i (w 0) (w 1) (w 2) (w 3) (w 4) (w 5) (w 6) (w 7) (w 8) (w 9) (w 10) (w 11) (w 12) (w 13) (w 14) 768#32) S1x2048.size (k0_off2_inb i (w 0) (w 1) (w 2) (w 3) (w 4) (w 5) (w 6) (w 7) (w 8) (w 9) (w 10) (w 11) (w 12) (w 13) (w 14) hw 3)))⟩,
    ⟨Rect.unit (s := S2048x2048) ![512, 0] S256x2048.size inb_S2048x2048_S256x2048_512_0, k0_pay25 (View.ld x2 (Rect.unit (s := S2048x768) ![512, 0] S256x768.size inb_S2048x768_S256x768_512_0)) (View.ld x4 (Rect.unit (s := S16x768x2048) (k0_off1 i (w 0) (w 1) (w 2) (w 3) (w 4) (w 5) (w 6) (w 7) (w 8) (w 9) (w 10) (w 11) (w 12) (w 13) (w 14) 512#32) S1x768x2048.size (k0_off1_inb i (w 0) (w 1) (w 2) (w 3) (w 4) (w 5) (w 6) (w 7) (w 8) (w 9) (w 10) (w 11) (w 12) (w 13) (w 14) hw 2))) (View.ld x7 (Rect.unit (s := S2048x1) ![512, 0] S256x1.size inb_S2048x1_S256x1_512_0)) (View.ld x5 (Rect.unit (s := S16x2048) (k0_off2 i (w 0) (w 1) (w 2) (w 3) (w 4) (w 5) (w 6) (w 7) (w 8) (w 9) (w 10) (w 11) (w 12) (w 13) (w 14) 512#32) S1x2048.size (k0_off2_inb i (w 0) (w 1) (w 2) (w 3) (w 4) (w 5) (w 6) (w 7) (w 8) (w 9) (w 10) (w 11) (w 12) (w 13) (w 14) hw 2)))⟩,
    ⟨Rect.unit (s := S2048x2048) ![256, 0] S256x2048.size inb_S2048x2048_S256x2048_256_0, k0_pay24 (k0_pay23 (View.ld x2 (Rect.unit (s := S2048x768) ![256, 0] S256x768.size inb_S2048x768_S256x768_256_0)) (View.ld x4 (Rect.unit (s := S16x768x2048) (k0_off1 i (w 0) (w 1) (w 2) (w 3) (w 4) (w 5) (w 6) (w 7) (w 8) (w 9) (w 10) (w 11) (w 12) (w 13) (w 14) 256#32) S1x768x2048.size (k0_off1_inb i (w 0) (w 1) (w 2) (w 3) (w 4) (w 5) (w 6) (w 7) (w 8) (w 9) (w 10) (w 11) (w 12) (w 13) (w 14) hw 1)))) (View.ld x7 (Rect.unit (s := S2048x1) ![256, 0] S256x1.size inb_S2048x1_S256x1_256_0)) (View.ld x5 (Rect.unit (s := S16x2048) (k0_off2 i (w 0) (w 1) (w 2) (w 3) (w 4) (w 5) (w 6) (w 7) (w 8) (w 9) (w 10) (w 11) (w 12) (w 13) (w 14) 256#32) S1x2048.size (k0_off2_inb i (w 0) (w 1) (w 2) (w 3) (w 4) (w 5) (w 6) (w 7) (w 8) (w 9) (w 10) (w 11) (w 12) (w 13) (w 14) hw 1)))⟩,
    ⟨Rect.unit (s := S2048x2048) ![0, 0] S256x2048.size inb_S2048x2048_S256x2048_0_0, k0_pay22 (View.ld x2 (Rect.unit (s := S2048x768) ![0, 0] S256x768.size inb_S2048x768_S256x768_0_0)) (View.ld x4 (Rect.unit (s := S16x768x2048) (k0_off1 i (w 0) (w 1) (w 2) (w 3) (w 4) (w 5) (w 6) (w 7) (w 8) (w 9) (w 10) (w 11) (w 12) (w 13) (w 14) 0#32) S1x768x2048.size (k0_off1_inb i (w 0) (w 1) (w 2) (w 3) (w 4) (w 5) (w 6) (w 7) (w 8) (w 9) (w 10) (w 11) (w 12) (w 13) (w 14) hw 0))) (View.ld x7 (Rect.unit (s := S2048x1) ![0, 0] S256x1.size inb_S2048x1_S256x1_0_0)) (View.ld x5 (Rect.unit (s := S16x2048) (k0_off2 i (w 0) (w 1) (w 2) (w 3) (w 4) (w 5) (w 6) (w 7) (w 8) (w 9) (w 10) (w 11) (w 12) (w 13) (w 14) 0#32) S1x2048.size (k0_off2_inb i (w 0) (w 1) (w 2) (w 3) (w 4) (w 5) (w 6) (w 7) (w 8) (w 9) (w 10) (w 11) (w 12) (w 13) (w 14) hw 0)))⟩]

def firstPay (r : Fin 8) : (⟨2, S256x2048.size⟩ : Shape).Idx → Elt F .bf16 :=
  k0_pay22 (View.ld x2 (Rect.unit (s := S2048x768) ![256 * r.val, 0] S256x768.size (Fin.forall_fin_two.mpr ⟨by show 256 * r.val + 256 ≤ 2048; omega, le_of_eq (Nat.zero_add _)⟩)))
    (View.ld x4 (Rect.unit (s := S16x768x2048) (k0_off1 i (w 0) (w 1) (w 2) (w 3) (w 4) (w 5) (w 6) (w 7) (w 8) (w 9) (w 10) (w 11) (w 12) (w 13) (w 14) (BitVec.ofNat 32 (256 * r.val))) S1x768x2048.size (k0_off1_inb i (w 0) (w 1) (w 2) (w 3) (w 4) (w 5) (w 6) (w 7) (w 8) (w 9) (w 10) (w 11) (w 12) (w 13) (w 14) hw r)))
    (View.ld x7 (Rect.unit (s := S2048x1) ![256 * r.val, 0] S256x1.size (Fin.forall_fin_two.mpr ⟨by show 256 * r.val + 256 ≤ 2048; omega, le_of_eq (Nat.zero_add _)⟩)))
    (View.ld x5 (Rect.unit (s := S16x2048) (k0_off2 i (w 0) (w 1) (w 2) (w 3) (w 4) (w 5) (w 6) (w 7) (w 8) (w 9) (w 10) (w 11) (w 12) (w 13) (w 14) (BitVec.ofNat 32 (256 * r.val))) S1x2048.size (k0_off2_inb i (w 0) (w 1) (w 2) (w 3) (w 4) (w 5) (w 6) (w 7) (w 8) (w 9) (w 10) (w 11) (w 12) (w 13) (w 14) hw r)))

theorem firstPieces_eq : firstPieces x2 x4 x5 x7 i w hw
    = View.tilePieces (s := S2048x2048) (NT := 8) S256x2048.size (fun r => ![256 * r.val, 0]) (fun r => Fin.forall_fin_two.mpr ⟨by show 256 * r.val + 256 ≤ 2048; omega, le_of_eq (Nat.zero_add _)⟩) (firstPay x2 x4 x5 x7 i w hw) 8 le_rfl := rfl

theorem firstPay_eq (h : Fill w) (r : Fin 8) : firstPay x2 x4 x5 x7 i w hw r = part x2 x4 x5 x7 (256 * r.val) (cN w (2048 * (i 0).val + 256 * r.val)) := by
  have hr := r.isLt
  have hc : (BitVec.ofNat 32 (256 * r.val)).toNat = 256 * r.val := by rw [BitVec.toNat_ofNat]; omega
  have hg := grp_toNat i h (BitVec.ofNat 32 (256 * r.val)) (by omega)
  rw [hc] at hg
  unfold firstPay part
  rw [ld_rows _ (256 * r.val) (by omega) _ rfl, ld_rowScales _ (256 * r.val) (by omega) _ rfl,
    ld_weights _ _ (cN_le _) _ (by rw [off1_eq, hg]), ld_colScales _ _ (cN_le _) _ (by rw [off2_eq, hg])]

theorem done_first (h : Fill w) {sp : Space} (m : Memref sig .tc sp S2048x2048 .bf16) (f : m.view.ty.Contents (Elt F)) :
    Done x2 x4 x5 x7 w i (gFirst i w + 1) (m.view.read (Elt F) (m.view.writes (Elt F) f (firstPieces x2 x4 x5 x7 i w hw))) := by
  refine done_init _ _ _ _ i _ fun y => ?_
  have hy : (y 0).val < 2048 := (y 0).isLt
  rw [firstPieces_eq, View.read_tilePieces m.view f _ _ _ _ 8 le_rfl y (⟨(y 0).val / 256, by omega⟩ : Fin 8) (by show (y 0).val / 256 < 8; omega)
    (ix2 (⟨(y 0).val % 256, Nat.mod_lt _ (by norm_num)⟩ : Fin 256) (⟨(y 1).val, (y 1).isLt⟩ : Fin 2048)) (Fin.forall_fin_two.mpr ⟨by show (y 0).val = 256 * ((y 0).val / 256) + (y 0).val % 256; omega, (Nat.zero_add _).symm⟩)
    (0 : Fin 2) (fun i' hi' => by
      have : i'.val ≠ (y 0).val / 256 := fun h => hi' (Fin.ext h)
      show (y 0).val < 256 * i'.val ∨ 256 * i'.val + 256 ≤ (y 0).val
      omega), firstPay_eq x2 x4 x5 x7 i w hw h]

end Cert.Kernel.Tile

end
-- ==== Proof.KernelRun.lean ====
module

public import proofs.«01_k».proof.Proof.KernelInv
public import proofs.«01_k».proof.Proof.KernelPieces

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Kernel Cert.Kernel.Gen Cert.Kernel.Words Cert.Kernel.Tile Cert.Groups

variable {F : FTy → Type} [FloatOps F]
local notation "𝕄" => MT nD τ sig Unit (Elt F) ℕ (UR sig nD τ) ℕ

/-! The whole body of a grid point. -/

/-- The words as the body reads them, one by one. -/
def raw (arg1 : Memref sig .tc .smem S16 .i32) (f1 : arg1.view.ty.Contents (Elt F)) : ℕ → BitVec 32
  | 0 => arg1.view.readAt (Elt F) (Rect.unit (s := S16) ![0] S1.size inb_S16_S1_0).toLoadRect f1 (Shape.Idx.first (Nat.one_pos.trans_eq numel1_S1.symm))
  | 1 => arg1.view.readAt (Elt F) (Rect.unit (s := S16) ![1] S1.size inb_S16_S1_1).toLoadRect f1 (Shape.Idx.first (Nat.one_pos.trans_eq numel1_S1.symm))
  | 2 => arg1.view.readAt (Elt F) (Rect.unit (s := S16) ![2] S1.size inb_S16_S1_2).toLoadRect f1 (Shape.Idx.first (Nat.one_pos.trans_eq numel1_S1.symm))
  | 3 => arg1.view.readAt (Elt F) (Rect.unit (s := S16) ![3] S1.size inb_S16_S1_3).toLoadRect f1 (Shape.Idx.first (Nat.one_pos.trans_eq numel1_S1.symm))
  | 4 => arg1.view.readAt (Elt F) (Rect.unit (s := S16) ![4] S1.size inb_S16_S1_4).toLoadRect f1 (Shape.Idx.first (Nat.one_pos.trans_eq numel1_S1.symm))
  | 5 => arg1.view.readAt (Elt F) (Rect.unit (s := S16) ![5] S1.size inb_S16_S1_5).toLoadRect f1 (Shape.Idx.first (Nat.one_pos.trans_eq numel1_S1.symm))
  | 6 => arg1.view.readAt (Elt F) (Rect.unit (s := S16) ![6] S1.size inb_S16_S1_6).toLoadRect f1 (Shape.Idx.first (Nat.one_pos.trans_eq numel1_S1.symm))
  | 7 => arg1.view.readAt (Elt F) (Rect.unit (s := S16) ![7] S1.size inb_S16_S1_7).toLoadRect f1 (Shape.Idx.first (Nat.one_pos.trans_eq numel1_S1.symm))
  | 8 => arg1.view.readAt (Elt F) (Rect.unit (s := S16) ![8] S1.size inb_S16_S1_8).toLoadRect f1 (Shape.Idx.first (Nat.one_pos.trans_eq numel1_S1.symm))
  | 9 => arg1.view.readAt (Elt F) (Rect.unit (s := S16) ![9] S1.size inb_S16_S1_9).toLoadRect f1 (Shape.Idx.first (Nat.one_pos.trans_eq numel1_S1.symm))
  | 10 => arg1.view.readAt (Elt F) (Rect.unit (s := S16) ![10] S1.size inb_S16_S1_10).toLoadRect f1 (Shape.Idx.first (Nat.one_pos.trans_eq numel1_S1.symm))
  | 11 => arg1.view.readAt (Elt F) (Rect.unit (s := S16) ![11] S1.size inb_S16_S1_11).toLoadRect f1 (Shape.Idx.first (Nat.one_pos.trans_eq numel1_S1.symm))
  | 12 => arg1.view.readAt (Elt F) (Rect.unit (s := S16) ![12] S1.size inb_S16_S1_12).toLoadRect f1 (Shape.Idx.first (Nat.one_pos.trans_eq numel1_S1.symm))
  | 13 => arg1.view.readAt (Elt F) (Rect.unit (s := S16) ![13] S1.size inb_S16_S1_13).toLoadRect f1 (Shape.Idx.first (Nat.one_pos.trans_eq numel1_S1.symm))
  | 14 => arg1.view.readAt (Elt F) (Rect.unit (s := S16) ![14] S1.size inb_S16_S1_14).toLoadRect f1 (Shape.Idx.first (Nat.one_pos.trans_eq numel1_S1.symm))
  | n => words (arg1.view.read (Elt F) f1) n

theorem raw_eq (arg1 : Memref sig .tc .smem S16 .i32) (f1 : arg1.view.ty.Contents (Elt F)) : raw arg1 f1 = words (arg1.view.read (Elt F) f1) := by
  funext n
  unfold raw
  split
  · exact readAt_word arg1 f1 0 (by omega) _ rfl _ _
  · exact readAt_word arg1 f1 1 (by omega) _ rfl _ _
  · exact readAt_word arg1 f1 2 (by omega) _ rfl _ _
  · exact readAt_word arg1 f1 3 (by omega) _ rfl _ _
  · exact readAt_word arg1 f1 4 (by omega) _ rfl _ _
  · exact readAt_word arg1 f1 5 (by omega) _ rfl _ _
  · exact readAt_word arg1 f1 6 (by omega) _ rfl _ _
  · exact readAt_word arg1 f1 7 (by omega) _ rfl _ _
  · exact readAt_word arg1 f1 8 (by omega) _ rfl _ _
  · exact readAt_word arg1 f1 9 (by omega) _ rfl _ _
  · exact readAt_word arg1 f1 10 (by omega) _ rfl _ _
  · exact readAt_word arg1 f1 11 (by omega) _ rfl _ _
  · exact readAt_word arg1 f1 12 (by omega) _ rfl _ _
  · exact readAt_word arg1 f1 13 (by omega) _ rfl _ _
  · exact readAt_word arg1 f1 14 (by omega) _ rfl _ _
  · rfl

/-- What holds before the loop: the sum up to the next group, and the first pass. -/
theorem turn_first (c : Dev nD) (i : grid0.Coords) (arg1 : Memref sig .tc .smem S16 .i32) (harg1 : arg1.IsWhole) (arg2 : Memref sig .tc .vmem S2048x768 .fp8e4m3) (harg2 : arg2.IsWhole) (arg3 : Memref sig .tc .vmem S1x16x128 .f32) (harg3 : arg3.IsWhole) (arg4 : Memref sig .tc .vmem S16x768x2048 .fp8e4m3) (harg4 : arg4.IsWhole) (arg5 : Memref sig .tc .vmem S16x2048 .f32) (harg5 : arg5.IsWhole) (arg6 : Memref sig .tc .vmem S2048x2048 .bf16) (harg6 : arg6.IsWhole) (arg7 : Memref sig .tc .vmem S2048x1 .f32) (harg7 : arg7.IsWhole)
    (f1 : Buf (Elt F) (arg1.view.loc (c : Thread nD τ))) (f2 : Buf (Elt F) (arg2.view.loc (c : Thread nD τ))) (f4 : Buf (Elt F) (arg4.view.loc (c : Thread nD τ))) (f5 : Buf (Elt F) (arg5.view.loc (c : Thread nD τ))) (f7 : Buf (Elt F) (arg7.view.loc (c : Thread nD τ))) (f : Buf (Elt F) (arg6.view.loc (c : Thread nD τ))) (hF : Fill (words (arg1.view.read (Elt F) f1))) (hw : k0_chk1 i ((raw arg1 f1) 0) ((raw arg1 f1) 1) ((raw arg1 f1) 2) ((raw arg1 f1) 3) ((raw arg1 f1) 4) ((raw arg1 f1) 5) ((raw arg1 f1) 6) ((raw arg1 f1) 7) ((raw arg1 f1) 8) ((raw arg1 f1) 9) ((raw arg1 f1) 10) ((raw arg1 f1) 11) ((raw arg1 f1) 12) ((raw arg1 f1) 13) ((raw arg1 f1) 14)) :
    Turn c i arg1 arg2 arg4 arg5 arg6 arg7 0 (pick (raw arg1 f1) (lb i (raw arg1 f1)) 0#32 15) f1 f2 f4 f5 f7
      (arg6.view.writes (Elt F) f (firstPieces (arg2.view.read (Elt F) f2) (arg4.view.read (Elt F) f4) (arg5.view.read (Elt F) f5) (arg7.view.read (Elt F) f7) i (raw arg1 f1) hw)) := by
  have hR : Fill (raw arg1 f1) := by rw [raw_eq]; exact hF
  have hd := done_first (arg2.view.read (Elt F) f2) (arg4.view.read (Elt F) f4) (arg5.view.read (Elt F) f5) (arg7.view.read (Elt F) f7) i (raw arg1 f1) hw hR arg6 f
  have e := lb_toNat i hR
  have g2 := gLast_le i (w := (raw arg1 f1))
  have ha : 0 < gLast i (raw arg1 f1) - gFirst i (raw arg1 f1) → (pick (raw arg1 f1) (lb i (raw arg1 f1)) 0#32 15).toNat = S (raw arg1 f1) (gFirst i (raw arg1 f1) + 1) := by
    intro hk
    rw [pick_eq (lb i (raw arg1 f1)) 0#32 (n := 15) (by norm_num) (by omega) (by omega), psum_toNat hR (by omega), e]
  rw [raw_eq] at ha
  refine ⟨?_, ?_⟩
  · rw [raw_eq]; exact ha
  · have h0 : gFirst i (words (arg1.view.read (Elt F) f1)) + 1 + 0 = gFirst i (raw arg1 f1) + 1 := by rw [raw_eq, Nat.add_zero]
    rw [h0, ← raw_eq]
    exact hd

theorem read_whole (arg3 : Memref sig .tc .vmem S1x16x128 .f32) (f3 : arg3.view.ty.Contents (Elt F)) : (arg3.view.readAt (Elt F) (Rect.unit (s := S1x16x128) ![0, 0, 0] S1x16x128.size inb_S1x16x128_S1x16x128_0_0_0).toLoadRect f3) = (arg3.view.read (Elt F) f3) := by
  funext j
  exact View.ld_unit_apply_of (arg3.view.read (Elt F) f3) _ _ _ j j (by intro a; fin_cases a <;> exact (Nat.zero_add _).symm)

/-- What holds after the last turn is the whole tile. -/
theorem tile_of_turn (c : Dev nD) (i : grid0.Coords) (arg1 : Memref sig .tc .smem S16 .i32) (harg1 : arg1.IsWhole) (arg2 : Memref sig .tc .vmem S2048x768 .fp8e4m3) (harg2 : arg2.IsWhole) (arg3 : Memref sig .tc .vmem S1x16x128 .f32) (harg3 : arg3.IsWhole) (arg4 : Memref sig .tc .vmem S16x768x2048 .fp8e4m3) (harg4 : arg4.IsWhole) (arg5 : Memref sig .tc .vmem S16x2048 .f32) (harg5 : arg5.IsWhole) (arg6 : Memref sig .tc .vmem S2048x2048 .bf16) (harg6 : arg6.IsWhole) (arg7 : Memref sig .tc .vmem S2048x1 .f32) (harg7 : arg7.IsWhole)
    (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f : Buf (Elt F) (arg7.view.loc (c : Thread nD τ))) (hF : Fill (words (arg1.view.read (Elt F) f1))) (acc : BitVec 32)
    (n : ℕ) (hn : n = (k0_t1_loop i ((raw arg1 f1) 0) ((raw arg1 f1) 1) ((raw arg1 f1) 2) ((raw arg1 f1) 3) ((raw arg1 f1) 4) ((raw arg1 f1) 5) ((raw arg1 f1) 6) ((raw arg1 f1) 7) ((raw arg1 f1) 8) ((raw arg1 f1) 9) ((raw arg1 f1) 10) ((raw arg1 f1) 11) ((raw arg1 f1) 12) ((raw arg1 f1) 13) ((raw arg1 f1) 14)).trips)
    (hT : Turn c i arg1 arg2 arg4 arg5 arg6 arg7 n acc f1 f2 f4 f5 (arg7.view.writes (Elt F) f (columnPieces (arg3.view.readAt (Elt F) (Rect.unit (s := S1x16x128) ![0, 0, 0] S1x16x128.size inb_S1x16x128_S1x16x128_0_0_0).toLoadRect f3))) f6) :
    (arg6.view.read (Elt F) f6) = tile (arg2.view.read (Elt F) f2) (arg4.view.read (Elt F) f4) (arg5.view.read (Elt F) f5) (column (arg3.view.read (Elt F) f3)) (words (arg1.view.read (Elt F) f1)) i := by
  have hR : Fill (raw arg1 f1) := by rw [raw_eq]; exact hF
  have e := trips_eq i hR
  rw [← hn] at e
  have h := hT.2
  rw [read_column, read_whole] at h
  rw [raw_eq] at e
  exact done_all _ _ _ _ i _ _ (by have := gFirst_le i (w := words (arg1.view.read (Elt F) f1)); omega) h

set_option maxHeartbeats 8000000 in
/-- The whole body of a grid point: it leaves the operand blocks, and the output block holds `tile`. -/
theorem run (c : Dev nD) (i : grid0.Coords) (arg1 : Memref sig .tc .smem S16 .i32) (harg1 : arg1.IsWhole) (arg2 : Memref sig .tc .vmem S2048x768 .fp8e4m3) (harg2 : arg2.IsWhole) (arg3 : Memref sig .tc .vmem S1x16x128 .f32) (harg3 : arg3.IsWhole) (arg4 : Memref sig .tc .vmem S16x768x2048 .fp8e4m3) (harg4 : arg4.IsWhole) (arg5 : Memref sig .tc .vmem S16x2048 .f32) (harg5 : arg5.IsWhole) (arg6 : Memref sig .tc .vmem S2048x2048 .bf16) (harg6 : arg6.IsWhole) (arg7 : Memref sig .tc .vmem S2048x1 .f32) (harg7 : arg7.IsWhole)
    (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (hF : Fill (words (arg1.view.read (Elt F) f1))) (K : PUnit → sProp 𝕄) :
    iprop(pt c arg1 f1 ∗ pt c arg2 f2 ∗ pt c arg3 f3 ∗ pt c arg4 f4 ∗ pt c arg5 f5 ∗ pt c arg6 f6 ∗ pt c arg7 f7
      ∗ (∀ f6' f7', ⌜arg6.view.read (Elt F) f6' = tile (arg2.view.read (Elt F) f2) (arg4.view.read (Elt F) f4) (arg5.view.read (Elt F) f5) (column (arg3.view.read (Elt F) f3)) (words (arg1.view.read (Elt F) f1)) i⌝ ∗ pt c arg1 f1 ∗ pt c arg2 f2 ∗ pt c arg3 f3 ∗ pt c arg4 f4 ∗ pt c arg5 f5 ∗ pt c arg6 f6' ∗ pt c arg7 f7' -∗ K ⟨⟩))
      ⊢ wp frame (wpE (defs₀ (F := F)) Variants.none (c : Thread nD τ) none) Set.univ (cc0_grouped_fp8_dot i arg1 harg1 arg2 harg2 arg3 harg3 arg4 harg4 arg5 harg5 arg6 harg6 arg7 harg7) K := by
  simp only [cc0_grouped_fp8_dot_eq_skeleton]; unfold cc0_grouped_fp8_dot_skel
  have hR : Fill (raw arg1 f1) := by rw [raw_eq]; exact hF
  have hchk1 := Words.chk1 i hR
  have htr := Words.t2_trips i (w := (raw arg1 f1))
  have hE : Entry i (arg1.view.read (Elt F) f1) (row0 i) ((raw arg1 f1) 0) ((raw arg1 f1) 1) ((raw arg1 f1) 2) ((raw arg1 f1) 3) ((raw arg1 f1) 4) ((raw arg1 f1) 5) ((raw arg1 f1) 6) ((raw arg1 f1) 7) ((raw arg1 f1) 8) ((raw arg1 f1) 9) ((raw arg1 f1) 10) ((raw arg1 f1) 11) ((raw arg1 f1) 12) ((raw arg1 f1) 13) ((raw arg1 f1) 14) (lb i (raw arg1 f1)) := by
    rw [raw_eq]; exact ⟨hF, rfl, ⟨rfl, rfl, rfl, rfl, rfl, rfl, rfl, rfl, rfl, rfl, rfl, rfl, rfl, rfl, rfl⟩, rfl⟩
  have hT0 := turn_first c i arg1 harg1 arg2 harg2 arg3 harg3 arg4 harg4 arg5 harg5 arg6 harg6 arg7 harg7 f1 f2 f4 f5 (arg7.view.writes (Elt F) arg7.view.junk (columnPieces (arg3.view.readAt (Elt F) (Rect.unit (s := S1x16x128) ![0, 0, 0] S1x16x128.size inb_S1x16x128_S1x16x128_0_0_0).toLoadRect f3))) arg6.view.junk hF hchk1
  unfold pt
  iintro ⟨H1, H2, H3, H4, H5, H6, H7, Hk⟩
  sl_exec
  sl_step
  iapply Hk $$ %f6L0 %_
  isplitr
  · ipureintro
    exact tile_of_turn c i arg1 harg1 arg2 harg2 arg3 harg3 arg4 harg4 arg5 harg5 arg6 harg6 arg7 harg7 f1 f2 f3 f4 f5 f6L0 arg7.view.junk hF _ _ rfl hL7
  isplitl [H1]; · iexact H1
  isplitl [H2]; · iexact H2
  isplitl [H3]; · iexact H3
  isplitl [H4]; · iexact H4
  isplitl [H5]; · iexact H5
  isplitl [H6]; · iexact H6
  iexact H7

end Cert.Kernel.Body

end
-- ==== Proof.KernelLaunch.lean ====
/- The kernel's run and its frame, from the body of one grid point: what each staging buffer holds before and after it. -/
module

public import proofs.«01_k».proof.Proof.KernelRun
public import proofs.«01_k».proof.Proof.Gen.Kernel.Frame
public import Idealize.ShloMosaic.Lib.Pipeline.ValueKit
public import Idealize.ShloMosaic.Lib.Claim

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Tile Cert.Groups

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body on staging memrefs held at read contents: the operands are left, the output memref is left at `tile`. -/
theorem sound_kernel (c : Dev nD) (i : grid0.Coords) (arg1 : Memref sig .tc .smem S16 .i32) (harg1 : arg1.IsWhole) (arg2 : Memref sig .tc .vmem S2048x768 .fp8e4m3) (harg2 : arg2.IsWhole) (arg3 : Memref sig .tc .vmem S1x16x128 .f32) (harg3 : arg3.IsWhole) (arg4 : Memref sig .tc .vmem S16x768x2048 .fp8e4m3) (harg4 : arg4.IsWhole) (arg5 : Memref sig .tc .vmem S16x2048 .f32) (harg5 : arg5.IsWhole) (arg6 : Memref sig .tc .vmem S2048x2048 .bf16) (harg6 : arg6.IsWhole) (arg7 : Memref sig .tc .vmem S2048x1 .f32) (harg7 : arg7.IsWhole)
    (x1 : Vec F S16 .i32) (x2 : Vec F S2048x768 .fp8e4m3) (x3 : Vec F S1x16x128 .f32) (x4 : Vec F S16x768x2048 .fp8e4m3) (x5 : Vec F S16x2048 .f32) (hF : Fill (words x1)) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (tile x2 x4 x5 (column x3) (words x1) i) ∗ (∃ d, owns (c : Thread nD τ) arg7 fullShare d)) -∗ K ⟨⟩))
      ⊢ wp frame (wpE (defs₀ (F := F)) Variants.none (c : Thread nD τ) none) Set.univ (cc0_grouped_fp8_dot i arg1 harg1 arg2 harg2 arg3 harg3 arg4 harg4 arg5 harg5 arg6 harg6 arg7 harg7) K := by
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  iapply (run c i arg1 harg1 arg2 harg2 arg3 harg3 arg4 harg4 arg5 harg5 arg6 harg6 arg7 harg7 f1 f2 f3 f4 f5 f6 f7 hF K)
  unfold pt
  isplitl [H1]; · iexact H1
  isplitl [H2]; · iexact H2
  isplitl [H3]; · iexact H3
  isplitl [H4]; · iexact H4
  isplitl [H5]; · iexact H5
  isplitl [H6]; · iexact H6
  isplitl [H7]; · iexact H7
  iintro %f6' %f7' ⟨%h6, H1, H2, H3, H4, H5, H6, H7⟩
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6'; isplitr; · ipureintro; exact h6
    iexact H6
  iexists _; iexists f7'; isplitr
  swap; · iexact H7
  ipureintro; rfl

/-! ## The pipeline's proof data -/

/-- What the output block of point `t` holds: the tile of the operand blocks. -/
def outBlock (c : Dev nD) (t : Fin cfg0.N) : Vec F S2048x2048 .bf16 :=
  tile (F := F) (iblk m c 1 t) (iblk m c 3 t) (iblk m c 4 t) (column (F := F) (iblk m c 2 t)) (words (F := F) (iblk m c 0 t)) (grid0.coords t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outBlock m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The block of the group sizes is the whole array. -/
theorem iblk_sizes (c : Dev nD) (t : Fin cfg0.N) : (iblk m c 0 t : Vec F S16 .i32) = m ((c : Thread nD τ).loc main_arg2) := by
  rw [← V_main_arg2 m c]
  funext y
  have hi : ∀ t : Fin cfg0.N, win0_0.index t = ![0] := (by decide +kernel : ∀ t : Fin grid0.N, win0_0.index t = ![0])
  blk_simp [iblk, hi]
  blk_ext [hi]

/-! ## The body obligation, at a generic point -/

/-- The group sizes of every device fill the tokens. -/
def Filled : Prop := ∀ c : Dev nD, Fill (words (F := F) (m ((c : Thread nD τ).loc main_arg2)))

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The scratch buffer, held whole, is the scratch memref owned, -/
theorem scratch_owns (c : Dev nD) (g : Buf (Elt F) ((c : Thread nD τ).loc cc0_scratch0)) :
    (((c : Thread nD τ).loc cc0_scratch0) ↦{fullShare} g : sProp 𝕄) ⊢ iprop(∃ d, owns (c : Thread nD τ) (Memref.whole cc0_scratch0) fullShare d) := by
  iintro H
  iexists g
  rw [owns_whole]
  iexact H

/-- and back. -/
theorem owns_scratch (c : Dev nD) (d) :
    (owns (c : Thread nD τ) (Memref.whole cc0_scratch0) fullShare d : sProp 𝕄) ⊢ iprop(∃ f : Buf (Elt F) ((c : Thread nD τ).loc cc0_scratch0), ((c : Thread nD τ).loc cc0_scratch0) ↦{fullShare} f) := by
  rw [owns_whole]
  iintro H
  iexists d
  iexact H

set_option maxHeartbeats 1000000 in
theorem sound_body (hF : Filled m) (c : Dev nD) (t : Fin cfg0.N) :
    bodyPre m c t ⊢ wp frame (wpE (defs₀ (F := F)) Variants.none c none) Set.univ (bodyAt0 t) (fun _ => bodyPost m c t) := by
  have hf : Fill (words (F := F) (iblk m c 0 t)) := by rw [iblk_sizes]; exact hF c
  unfold bodyPre bodyPost bodyAt0
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5]
  unfold Pipeline.ΦA
  rw [scopedRest0_eq]
  iintro ⟨⟨⟨%g, Hg⟩, Hr⟩, Ho, ⟨%d0, H0⟩, ⟨%d1, H1⟩, ⟨%d2, H2⟩, ⟨%d3, H3⟩, ⟨%d4, H4⟩, ⟨%d5, H5⟩⟩
  iapply (sound_kernel c (grid0.coords t) _ _ _ _ _ _ _ _ _ _ _ _ (Memref.whole cc0_scratch0) (Memref.isWhole_whole _) (iblk m c 0 t) (iblk m c 1 t) (iblk m c 2 t) (iblk m c 3 t) (iblk m c 4 t) hf _)
  isplitl [H0]; · iexact H0
  isplitl [H1]; · iexact H1
  isplitl [H2]; · iexact H2
  isplitl [H3]; · iexact H3
  isplitl [H4]; · iexact H4
  isplitl [H5]; · iexists _; iexact H5
  isplitl [Hg]
  · iapply (scratch_owns c g); iexact Hg
  iintro ⟨H0, H1, H2, H3, H4, H5, ⟨%d7, Hg⟩⟩
  isplitl [Hg Hr]
  · isplitl [Hg]
    · iapply (owns_scratch c d7); iexact Hg
    iexact Hr
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (hF : Filled m) (c : Dev nD) : BodyObligation (dats (F := F) m 0 c) (defs₀ (F := F)) Variants.none () Set.univ := fun t => by
  rw [bigSep_W0, bigSep_W0, defs₀_row]
  exact triple_restated (sound_body m hF c t) rfl .rfl fun _ => .rfl

/-! ## The run and the frame -/

set_option backward.isDefEq.respectTransparency.types false in
set_option maxHeartbeats 800000 in
/-- The launch: it terminates, the arrays end at what the proof data say, and every semaphore counter at zero. -/
theorem run_main_quiescent (hF : Filled m) : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m hF c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main (hF : Filled m) : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ hF)

/-- The argument arrays end unchanged. -/
theorem unchanged (hF : Filled m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ hF)

/-- The frame: the kernel terminates without a fault, leaves its arguments, and every semaphore counter ends at zero. -/
theorem frame_all (hF : Filled m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hF) ((θ_run defs _ _).mono (fun _ h => h.2) (run_main_quiescent m ρ hF))

end Cert.Kernel.Body

end
-- ==== Proof.KernelIdealWords.lean ====
/- The words the kernel computes from the group sizes, in closed form: the group its offsets name, the groups its
   loop goes through, the 256-row piece a group starts in; and that under the sizes' condition (`Fill`) every side
   condition the kernel's text assumes of them holds. -/
module

public import proofs.«01_k».proof.Proof.Groups
public import proofs.«01_k».proof.KernelIdeal

@[expose] public section

set_option maxRecDepth 16384

namespace Cert.KernelIdeal.Words

open Idealize.ShloMosaic Cert.KernelIdeal Cert.Groups

variable {w : ℕ → BitVec 32} (i : grid0.Coords)

/-- The first row of the tile at grid point `i`, as a word and as a number. -/
def row0 : BitVec 32 := Scalar.muli (BitVec.ofNat 32 (i 0).val) 2048#32

theorem i_lt : (i 0).val < 48 := (i 0).isLt

theorem row0_toNat : (row0 i).toNat = 2048 * (i 0).val := by
  have := i_lt i
  show (BitVec.ofNat 32 (i 0).val * 2048#32).toNat = _
  rw [BitVec.toNat_mul, BitVec.toNat_ofNat, show (2048#32).toNat = 2048 from rfl, Nat.mod_eq_of_lt (a := (i 0).val) (by omega)]
  omega

theorem off1_eq (c : BitVec 32) : k0_off1 i (w 0) (w 1) (w 2) (w 3) (w 4) (w 5) (w 6) (w 7) (w 8) (w 9) (w 10) (w 11) (w 12) (w 13) (w 14) c = ![(cnt w (Scalar.addi (row0 i) c) 15).toNat, 0, 0] := rfl
theorem off2_eq (c : BitVec 32) : k0_off2 i (w 0) (w 1) (w 2) (w 3) (w 4) (w 5) (w 6) (w 7) (w 8) (w 9) (w 10) (w 11) (w 12) (w 13) (w 14) c = ![(cnt w (Scalar.addi (row0 i) c) 15).toNat, 0] := rfl

/-- The first group the loop visits, as a word; the number of groups it visits. -/
def lb (w : ℕ → BitVec 32) : BitVec 32 := Scalar.addi (cnt w (row0 i) 15) 1#32
def span (w : ℕ → BitVec 32) : BitVec 32 :=
  Scalar.subi (Scalar.addi (cnt w (Scalar.subi (Scalar.addi (row0 i) 2048#32) 1#32) 15) 1#32) (lb i w)

theorem t1_eq : k0_t1_loop i (w 0) (w 1) (w 2) (w 3) (w 4) (w 5) (w 6) (w 7) (w 8) (w 9) (w 10) (w 11) (w 12) (w 13) (w 14) = ⟨lb i w, Scalar.addi (lb i w) (Scalar.muli (Scalar.divsi (span i w) 1#32) 1#32), 1#32⟩ := rfl
theorem t2_eq : k0_t2_loop i (w 0) (w 1) (w 2) (w 3) (w 4) (w 5) (w 6) (w 7) (w 8) (w 9) (w 10) (w 11) (w 12) (w 13) (w 14)
    = ⟨Scalar.addi (lb i w) (Scalar.muli (Scalar.divsi (span i w) 1#32) 1#32), Scalar.addi (lb i w) (span i w), 1#32⟩ := rfl

theorem off3_eq (k : Fin (k0_t1_loop i (w 0) (w 1) (w 2) (w 3) (w 4) (w 5) (w 6) (w 7) (w 8) (w 9) (w 10) (w 11) (w 12) (w 13) (w 14)).trips) : k0_off3 i (w 0) (w 1) (w 2) (w 3) (w 4) (w 5) (w 6) (w 7) (w 8) (w 9) (w 10) (w 11) (w 12) (w 13) (w 14) k = ![(Scf.iv (lb i w) 1#32 k.val).toNat] := rfl
theorem off5_eq (k : Fin (k0_t1_loop i (w 0) (w 1) (w 2) (w 3) (w 4) (w 5) (w 6) (w 7) (w 8) (w 9) (w 10) (w 11) (w 12) (w 13) (w 14)).trips) : k0_off5 i (w 0) (w 1) (w 2) (w 3) (w 4) (w 5) (w 6) (w 7) (w 8) (w 9) (w 10) (w 11) (w 12) (w 13) (w 14) k = ![(Scf.iv (lb i w) 1#32 k.val).toNat, 0, 0] := rfl
theorem off7_eq (k : Fin (k0_t1_loop i (w 0) (w 1) (w 2) (w 3) (w 4) (w 5) (w 6) (w 7) (w 8) (w 9) (w 10) (w 11) (w 12) (w 13) (w 14)).trips) : k0_off7 i (w 0) (w 1) (w 2) (w 3) (w 4) (w 5) (w 6) (w 7) (w 8) (w 9) (w 10) (w 11) (w 12) (w 13) (w 14) k = ![(Scf.iv (lb i w) 1#32 k.val).toNat, 0] := rfl

theorem mult1_eq (a : BitVec 32) : k0_mult1 i a = floor256 (Scalar.subi a (row0 i)) := rfl
theorem off4_eq (a : BitVec 32) : k0_off4 i a = ![(floor256 (Scalar.subi a (row0 i))).toNat, 0] := rfl
theorem off6_eq (a : BitVec 32) : k0_off6 i a = ![(floor256 (Scalar.subi a (row0 i))).toNat, 0] := rfl
theorem off8_eq (a : BitVec 32) : k0_off8 i a = ![(floor256 (Scalar.subi a (row0 i))).toNat, 0] := rfl

theorem cond1_eq (a s : BitVec 32) : k0_cond1 i a s
    = Scalar.cmpi .ne (Scalar.extui (Scalar.andi (Scalar.cmpi .sgt s 0#32) (mod256 (Scalar.subi a (row0 i))))) 0#32 := rfl

/-! ## Under the sizes' condition -/

/-- The group at the tile's first row. -/
abbrev gFirst (w : ℕ → BitVec 32) : ℕ := cN w (2048 * (i 0).val)
/-- The group at its last. -/
abbrev gLast (w : ℕ → BitVec 32) : ℕ := cN w (2048 * (i 0).val + 2047)

theorem gFirst_le : gFirst i w ≤ gLast i w := cN_mono (by omega)
theorem gLast_le : gLast i w ≤ 15 := cN_le _

variable (h : Fill w)
include h

theorem grp_toNat (c : BitVec 32) (hc : c.toNat < 2048) :
    (cnt w (Scalar.addi (row0 i) c) 15).toNat = cN w (2048 * (i 0).val + c.toNat) := by
  have := i_lt i
  have e := row0_toNat i
  have e' := addi_toNat (row0 i) c (by omega)
  rw [cnt15_toNat h _ (by omega), e', e]

theorem first_toNat : (cnt w (row0 i) 15).toNat = gFirst i w := by
  have := i_lt i
  have e := row0_toNat i
  rw [cnt15_toNat h _ (by omega), e]

theorem lb_toNat : (lb i w).toNat = gFirst i w + 1 := by
  have := cN_le (w := w) (2048 * (i 0).val)
  have e := first_toNat i h
  unfold lb
  rw [addi_toNat _ _ (by rw [e]; show gFirst i w + 1 < _; unfold gFirst; omega), e]; rfl

theorem last_toNat : (cnt w (Scalar.subi (Scalar.addi (row0 i) 2048#32) 1#32) 15).toNat = gLast i w := by
  have := i_lt i
  have e := row0_toNat i
  have e1 := addi_toNat (row0 i) 2048#32 (by rw [e]; show 2048 * (i 0).val + 2048 < _; omega)
  have e2 := subi_toNat (Scalar.addi (row0 i) 2048#32) 1#32 (by rw [e1, e]; show 1 ≤ 2048 * (i 0).val + 2048; omega)
  rw [e1, e] at e2
  have e3 : (Scalar.subi (Scalar.addi (row0 i) 2048#32) 1#32).toNat = 2048 * (i 0).val + 2047 := by
    rw [e2]; show 2048 * (i 0).val + 2048 - 1 = _; omega
  rw [cnt15_toNat h _ (by omega), e3]

theorem span_toNat : (span i w).toNat = gLast i w - gFirst i w := by
  have h1 := gFirst_le i (w := w)
  have h2 := gLast_le i (w := w)
  have e := lb_toNat i h
  have e' := last_toNat i h
  unfold span
  have e1 := addi_toNat (cnt w (Scalar.subi (Scalar.addi (row0 i) 2048#32) 1#32) 15) 1#32
    (by rw [e']; show gLast i w + 1 < _; omega)
  rw [e', show (1#32).toNat = 1 from rfl] at e1
  rw [subi_toNat _ _ (by rw [e, e1]; omega), e, e1]; omega

theorem ub_toNat : (Scalar.addi (lb i w) (Scalar.muli (Scalar.divsi (span i w) 1#32) 1#32)).toNat = gLast i w + 1 := by
  have h1 := gFirst_le i (w := w)
  have h2 := gLast_le i (w := w)
  have e := lb_toNat i h
  have e' := span_toNat i h
  rw [Scalar.muli_divsi_one, addi_toNat _ _ (by omega), e, e']; omega

/-- The loop visits the groups after the first one up to the last. -/
theorem trips_eq : (k0_t1_loop i (w 0) (w 1) (w 2) (w 3) (w 4) (w 5) (w 6) (w 7) (w 8) (w 9) (w 10) (w 11) (w 12) (w 13) (w 14)).trips = gLast i w - gFirst i w := by
  have h1 := gFirst_le i (w := w)
  have h2 := gLast_le i (w := w)
  have e := lb_toNat i h
  have e' := ub_toNat i h
  rw [t1_eq]
  show Scf.trips _ _ _ = _
  unfold Scf.trips
  rw [BitVec.toInt_eq_toNat_of_lt (by rw [e']; omega), BitVec.toInt_eq_toNat_of_lt (by rw [e]; omega), e, e']
  show ((((gLast i w + 1 : ℕ) : ℤ) - ((gFirst i w + 1 : ℕ) : ℤ) + 1 - 1) / 1).toNat = _
  omega

theorem t1_ok : (k0_t1_loop i (w 0) (w 1) (w 2) (w 3) (w 4) (w 5) (w 6) (w 7) (w 8) (w 9) (w 10) (w 11) (w 12) (w 13) (w 14)).OK := by
  have h1 := gFirst_le i (w := w)
  have h2 := gLast_le i (w := w)
  have e := lb_toNat i h
  have et := trips_eq i h
  refine ⟨by rw [t1_eq]; show (0 : ℤ) < 1; omega, ?_⟩
  show (lb i w).toInt + ((k0_t1_loop i (w 0) (w 1) (w 2) (w 3) (w 4) (w 5) (w 6) (w 7) (w 8) (w 9) (w 10) (w 11) (w 12) (w 13) (w 14)).trips : ℤ) * 1 < _
  rw [et, BitVec.toInt_eq_toNat_of_lt (by rw [e]; omega), e]
  show (((gFirst i w + 1 : ℕ) : ℤ) + ((gLast i w - gFirst i w : ℕ) : ℤ) * 1) < 2147483648
  omega

/-- The group visited at trip `k`. -/
theorem iv_toNat (k : ℕ) (hk : k ≤ gLast i w - gFirst i w) : (Scf.iv (lb i w) 1#32 k).toNat = gFirst i w + 1 + k := by
  have h1 := gFirst_le i (w := w)
  have h2 := gLast_le i (w := w)
  have e := lb_toNat i h
  unfold Scf.iv
  rw [BitVec.mul_one, BitVec.toNat_add, BitVec.toNat_ofNat, e]
  omega

theorem trip_lt (k : Fin (k0_t1_loop i (w 0) (w 1) (w 2) (w 3) (w 4) (w 5) (w 6) (w 7) (w 8) (w 9) (w 10) (w 11) (w 12) (w 13) (w 14)).trips) : k.val < gLast i w - gFirst i w :=
  lt_of_lt_of_eq k.isLt (trips_eq i h)

theorem iv_le (k : ℕ) (hk : k < gLast i w - gFirst i w) : (Scf.iv (lb i w) 1#32 k).toNat ≤ 15 := by
  have h2 := gLast_le i (w := w)
  rw [iv_toNat i h k (by omega)]; omega

omit h in
/-- The other loop, which would visit what division by the step leaves over, visits nothing. -/
theorem t2_trips : (k0_t2_loop i (w 0) (w 1) (w 2) (w 3) (w 4) (w 5) (w 6) (w 7) (w 8) (w 9) (w 10) (w 11) (w 12) (w 13) (w 14)).trips = 0 := Scf.rem_trips (lb i w) (span i w)

/-- The first side condition: every group an offset names is one of the sixteen, and the loops mean something. -/
theorem chk1 : k0_chk1 i (w 0) (w 1) (w 2) (w 3) (w 4) (w 5) (w 6) (w 7) (w 8) (w 9) (w 10) (w 11) (w 12) (w 13) (w 14) := by
  have hoff : ∀ r : Fin 8, (cnt w (Scalar.addi (row0 i) (BitVec.ofNat 32 (256 * r.val))) 15).toNat ≤ 15 := fun r => by
    have := r.isLt
    rw [grp_toNat i h _ (by rw [BitVec.toNat_ofNat]; omega)]; exact cN_le _
  refine ⟨fun r a => ?_, fun r a => ?_, t1_ok i h, fun k a => ?_, ?_, fun k => ?_⟩
  · rw [off1_eq]
    have := hoff r
    fin_cases a
    · show _ + 1 ≤ 16; exact Nat.succ_le_succ this
    · show 0 + 768 ≤ 768; omega
    · show 0 + 2048 ≤ 2048; omega
  · rw [off2_eq]
    have := hoff r
    fin_cases a
    · show _ + 1 ≤ 16; exact Nat.succ_le_succ this
    · show 0 + 2048 ≤ 2048; omega
  · rw [off3_eq]
    have := iv_le i h k.val (trip_lt i h k)
    fin_cases a
    show _ + 1 ≤ 16; exact Nat.succ_le_succ this
  · exact Scf.rem_ok (lb i w) (span i w)
  · exact (Scf.rem_no_trip (lb i w) (span i w) k).elim

/-- The start a trip carries, less the tile's first row, is a row of the tile. -/
theorem local_toNat (g : ℕ) (h1 : gFirst i w < g) (h2 : g ≤ gLast i w) (a : BitVec 32) (ha : a.toNat = S w g) :
    (Scalar.subi a (row0 i)).toNat = S w g - 2048 * (i 0).val ∧ 2048 * (i 0).val < S w g ∧ S w g < 2048 * (i 0).val + 2048 := by
  have hg := gLast_le i (w := w)
  have e := row0_toNat i
  have l1 : 2048 * (i 0).val < S w g := by
    by_contra hc
    have := (le_cN (w := w) (j := g) (by omega) (by omega) (2048 * (i 0).val)).mpr (by omega)
    exact absurd this (by unfold gFirst at h1; omega)
  have l2 : S w g ≤ 2048 * (i 0).val + 2047 := (le_cN (w := w) (j := g) (by omega) (by omega) _).mp h2
  refine ⟨?_, l1, by omega⟩
  rw [subi_toNat _ _ (by rw [e, ha]; omega), ha, e]

/-- The branch is taken exactly for a group which is not empty and does not start on a 256-row piece. -/
theorem cond1_iff (g : ℕ) (h1 : gFirst i w < g) (h2 : g ≤ gLast i w) (a : BitVec 32) (ha : a.toNat = S w g) (s : BitVec 32)
    (hs : s.toNat < 2 ^ 31) : k0_cond1 i a s = 1#1 ↔ 0 < s.toNat ∧ (S w g - 2048 * (i 0).val) % 256 ≠ 0 := by
  obtain ⟨e, l1, l2⟩ := local_toNat i h g h1 h2 a ha
  rw [cond1_eq, mod256_eq _ (by rw [e]; omega), e]
  show Scalar.cmpi .ne (Scalar.extui (Scalar.andi (BitVec.ofBool ((0#32).slt s)) _)) 0#32 = 1#1 ↔ _
  rw [slt_iff _ _ (by decide) hs, show (0#32).toNat = 0 from rfl]
  by_cases p : 0 < s.toNat <;> by_cases q : (S w g - 2048 * (i 0).val) % 256 ≠ 0 <;>
    simp only [p, q, decide_true, decide_false, and_true, and_false, true_and, false_and, iff_true, iff_false, ne_eq,
      not_true_eq_false, not_false_eq_true] <;> decide

/-- Where the branch's rows start in the tile. -/
theorem floor_toNat (g : ℕ) (h1 : gFirst i w < g) (h2 : g ≤ gLast i w) (a : BitVec 32) (ha : a.toNat = S w g) :
    (floor256 (Scalar.subi a (row0 i))).toNat = (S w g - 2048 * (i 0).val) / 256 * 256 := by
  obtain ⟨e, l1, l2⟩ := local_toNat i h g h1 h2 a ha
  rw [floor256_toNat _ (by rw [e]; omega), e]

/-- The second side condition, at the start of the group the trip visits. -/
theorem chk2 (k : Fin (k0_t1_loop i (w 0) (w 1) (w 2) (w 3) (w 4) (w 5) (w 6) (w 7) (w 8) (w 9) (w 10) (w 11) (w 12) (w 13) (w 14)).trips) (a s : BitVec 32) (ha : a.toNat = S w (gFirst i w + 1 + k.val)) :
    k0_chk2 i (w 0) (w 1) (w 2) (w 3) (w 4) (w 5) (w 6) (w 7) (w 8) (w 9) (w 10) (w 11) (w 12) (w 13) (w 14) k a s := by
  have fl : (floor256 (Scalar.subi a (row0 i))).toNat ≤ 1792 ∧ 256 ∣ (floor256 (Scalar.subi a (row0 i))).toNat := by
    have hk := trip_lt i h k
    generalize k.val = k' at ha hk
    obtain ⟨e, l1, l2⟩ := local_toNat i h _ (by omega) (by omega) a ha
    have f := floor_toNat i h _ (by omega) (by omega) a ha
    exact ⟨by rw [f]; omega, by rw [f]; exact Nat.dvd_mul_left ..⟩
  obtain ⟨fl, fd⟩ := fl
  have il := iv_le i h k.val (trip_lt i h k)
  refine ⟨fun _ => ?_, fun _ b => ?_, fun _ b => ?_, fun _ b => ?_, fun _ b => ?_, fun _ b => ?_, fun _ hinb => ?_⟩
  · rw [mult1_eq]; exact fd
  · rw [off4_eq]
    fin_cases b
    · show _ + 256 ≤ 2048; exact Nat.add_le_add_right fl 256
    · show 0 + 768 ≤ 768; omega
  · rw [off5_eq]
    fin_cases b
    · show _ + 1 ≤ 16; exact Nat.succ_le_succ il
    · show 0 + 768 ≤ 768; omega
    · show 0 + 2048 ≤ 2048; omega
  · rw [off6_eq]
    fin_cases b
    · show _ + 256 ≤ 2048; exact Nat.add_le_add_right fl 256
    · show 0 + 1 ≤ 1; omega
  · rw [off7_eq]
    fin_cases b
    · show _ + 1 ≤ 16; exact Nat.succ_le_succ il
    · show 0 + 2048 ≤ 2048; omega
  · rw [off8_eq]
    fin_cases b
    · show _ + 256 ≤ 2048; exact Nat.add_le_add_right fl 256
    · show 0 + 2048 ≤ 2048; omega
  · exact Affine.packed_dvd (by decide) (dvd_trans (by decide : (EltTy.packing .bf16) ∣ 256) (by rw [off8_eq]; exact fd)) (by decide)

end Cert.KernelIdeal.Words

end
-- ==== Proof.KernelIdealTile.lean ====
module

public import proofs.«01_k».proof.Proof.KernelIdealWords
public import proofs.«01_k».proof.Proof.Gen.KernelIdeal.Skeleton
public import Idealize.ShloMosaic.Lib.Pipeline.ValueKit.Tiles
public import Idealize.ShloMosaic.Lib.WritesUnit
public import Idealize.ShloMosaic.Lib.Pointwise
public import Idealize.ShloMosaic.Lib.Pipeline.Value
public import Idealize.ShloMosaic.Lib.ValueLayout

@[expose] public section

set_option maxRecDepth 16384

noncomputable section

namespace Cert.KernelIdeal.Tile

open Idealize.ShloMosaic
open Cert.KernelIdeal Cert.KernelIdeal.Gen Cert.KernelIdeal.Words Cert.Groups

variable {F : FTy → Type} [FloatOps F]

/-! What one grid point's 2048 output rows are: row `p` is the product of its row of `x` with the weights of its
group, times its row scale, times its group's column scale. The pieces are rows `o … o + 255` for one group. -/

/-- Rows `o … o + 255` of the block of `x`. -/
def rows (x : Vec F S2048x768 .fp8e4m3) (o : ℕ) : Vec F S256x768 .fp8e4m3 :=
  fun j => x (ix2 (⟨(o + (j 0).val) % 2048, Nat.mod_lt _ (by norm_num)⟩ : Fin 2048) (⟨(j 1).val, (j 1).isLt⟩ : Fin 768))

/-- The weights of group `g`. -/
def weights (x : Vec F S16x768x2048 .fp8e4m3) (g : ℕ) : Vec F S1x768x2048 .fp8e4m3 :=
  fun j => x (ix3 (⟨g % 16, Nat.mod_lt _ (by norm_num)⟩ : Fin 16) (⟨(j 1).val, (j 1).isLt⟩ : Fin 768) (⟨(j 2).val, (j 2).isLt⟩ : Fin 2048))

/-- The row scales of rows `o … o + 255`. -/
def rowScales (x : Vec F S2048x1 .f32) (o : ℕ) : Vec F S256x1 .f32 :=
  fun j => x (ix2 (⟨(o + (j 0).val) % 2048, Nat.mod_lt _ (by norm_num)⟩ : Fin 2048) (⟨(j 1).val, (j 1).isLt⟩ : Fin 1))

/-- The column scales of group `g`. -/
def colScales (x : Vec F S16x2048 .f32) (g : ℕ) : Vec F S1x2048 .f32 :=
  fun j => x (ix2 (⟨g % 16, Nat.mod_lt _ (by norm_num)⟩ : Fin 16) (⟨(j 1).val, (j 1).isLt⟩ : Fin 2048))

theorem ld_rows (x : Vec F S2048x768 .fp8e4m3) (o : ℕ) (ho : o ≤ 1792) (off : Fin 2 → ℕ) (h : off = ![o, 0]) (inb) :
    View.ld x (Rect.unit (s := S2048x768) off S256x768.size inb) = rows x o := by
  subst h
  funext j
  have hj : (j 0).val < 256 := (j 0).isLt
  exact View.ld_unit_apply_of x _ _ inb j _ (Fin.forall_fin_two.mpr ⟨Nat.mod_eq_of_lt (by omega), (Nat.zero_add _).symm⟩)

theorem ld_weights (x : Vec F S16x768x2048 .fp8e4m3) (g : ℕ) (hg : g ≤ 15) (off : Fin 3 → ℕ) (h : off = ![g, 0, 0]) (inb) :
    View.ld x (Rect.unit (s := S16x768x2048) off S1x768x2048.size inb) = weights x g := by
  subst h
  funext j
  have hj : (j 0).val < 1 := (j 0).isLt
  refine View.ld_unit_apply_of x _ _ inb j _ (Fin.forall_fin_succ.mpr ⟨?_, Fin.forall_fin_two.mpr ⟨(Nat.zero_add _).symm, (Nat.zero_add _).symm⟩⟩)
  show g % 16 = g + (j 0).val
  omega

theorem ld_rowScales (x : Vec F S2048x1 .f32) (o : ℕ) (ho : o ≤ 1792) (off : Fin 2 → ℕ) (h : off = ![o, 0]) (inb) :
    View.ld x (Rect.unit (s := S2048x1) off S256x1.size inb) = rowScales x o := by
  subst h
  funext j
  have hj : (j 0).val < 256 := (j 0).isLt
  exact View.ld_unit_apply_of x _ _ inb j _ (Fin.forall_fin_two.mpr ⟨Nat.mod_eq_of_lt (by omega), (Nat.zero_add _).symm⟩)

theorem ld_colScales (x : Vec F S16x2048 .f32) (g : ℕ) (hg : g ≤ 15) (off : Fin 2 → ℕ) (h : off = ![g, 0]) (inb) :
    View.ld x (Rect.unit (s := S16x2048) off S1x2048.size inb) = colScales x g := by
  subst h
  funext j
  have hj : (j 0).val < 1 := (j 0).isLt
  refine View.ld_unit_apply_of x _ _ inb j _ (Fin.forall_fin_two.mpr ⟨?_, (Nat.zero_add _).symm⟩)
  show g % 16 = g + (j 0).val
  omega

variable (x2 : Vec F S2048x768 .fp8e4m3) (x4 : Vec F S16x768x2048 .fp8e4m3) (x5 : Vec F S16x2048 .f32) (x7 : Vec F S2048x1 .f32)

/-- Rows `o … o + 255` of the output as group `g` would have them. -/
def part (o g : ℕ) : Vec F S256x2048 .bf16 := k0_pay22 (rows x2 o) (weights x4 g) (rowScales x7 o) (colScales x5 g)

/-- The masked payload: a row at or past the group's first row takes the new value, the others stay. -/
theorem pay1_apply (l : BitVec 32) (hl : l.toNat < 2048) (a : Vec F S256x768 .fp8e4m3) (b : Vec F S1x768x2048 .fp8e4m3) (cc : Vec F S256x1 .f32) (d : Vec F S1x2048 .f32)
    (y : Vec F S256x2048 .bf16) (j : S256x2048.Idx) :
    k0_pay1 l a b cc d y j = if l.toNat ≤ l.toNat / 256 * 256 + (j 0).val then k0_pay22 a b cc d j else y j := by
  have hj : (j 0).val < 256 := (j 0).isLt
  have e : k0_pay1 l a b cc d y j = Scalar.select (cmpi .sge (addi (broadcast S256x1 (floor256 l)) (iota .tc S256x1 32 [0] iota_S256x1_d0_w32)) (broadcast S256x1 l) (ix2 (⟨(j 0).val, hj⟩ : Fin 256) (0 : Fin 1)))
      (k0_pay22 a b cc d j) (y j) := by
    unfold k0_pay1
    dsimp only
    rw [shapeCast_self, shapeCast_self, ValueIdx.select_apply]
    congr 1
  rw [e]
  have hs : (Scalar.addi (floor256 l) (BitVec.ofNat 32 (j 0).val)).toNat = l.toNat / 256 * 256 + (j 0).val := by
    have f := floor256_toNat l hl
    have e2 : (BitVec.ofNat 32 (j 0).val).toNat = (j 0).val := by simp; omega
    rw [addi_toNat _ _ (by rw [f, e2]; omega), f, e2]
  have hc : cmpi .sge (addi (broadcast S256x1 (floor256 l)) (iota .tc S256x1 32 [0] iota_S256x1_d0_w32)) (broadcast S256x1 l) (ix2 (⟨(j 0).val, hj⟩ : Fin 256) (0 : Fin 1))
      = BitVec.ofBool (l.sle (Scalar.addi (floor256 l) (BitVec.ofNat 32 (j 0).val))) := by
    rw [show iota .tc S256x1 32 [0] iota_S256x1_d0_w32 = fun k => BitVec.ofNat 32 (k 0).val from funext fun k => by
      rw [iota_apply]; simp]
    rfl
  rw [hc]
  have := sle_iff (x := l) (y := Scalar.addi (floor256 l) (BitVec.ofNat 32 (j 0).val)) (by omega) (by omega)
  rw [hs] at this
  rw [this]
  by_cases hh : l.toNat ≤ l.toNat / 256 * 256 + (j 0).val
  · rw [if_pos hh, decide_eq_true hh]; rfl
  · rw [if_neg hh, decide_eq_false hh]; rfl

variable (w : ℕ → BitVec 32) (i : grid0.Coords)

/-- THE BLOCK: the 2048 output rows of grid point `i`. -/
def tile : Vec F S2048x2048 .bf16 :=
  fun y => part x2 x4 x5 x7 (256 * ((y 0).val / 256)) (cN w (2048 * (i 0).val + (y 0).val))
    (ix2 (⟨(y 0).val % 256, Nat.mod_lt _ (by norm_num)⟩ : Fin 256) (⟨(y 1).val, (y 1).isLt⟩ : Fin 2048))

/-- Before group `g`'s turn: the rows of the groups before `g` are final, and so are the rows of the group their
256-row piece begins in. -/
def Done (g : ℕ) (Y : Vec F S2048x2048 .bf16) : Prop :=
  ∀ y : S2048x2048.Idx, cN w (2048 * (i 0).val + (y 0).val) < g
      ∨ cN w (2048 * (i 0).val + (y 0).val) = cN w (2048 * (i 0).val + 256 * ((y 0).val / 256)) →
    Y y = tile x2 x4 x5 x7 w i y

variable {w}

/-- The first pass gives each piece the group it begins in; that is the state before the second group's turn. -/
theorem done_init (Y : Vec F S2048x2048 .bf16)
    (hY : ∀ y : S2048x2048.Idx, Y y = part x2 x4 x5 x7 (256 * ((y 0).val / 256)) (cN w (2048 * (i 0).val + 256 * ((y 0).val / 256)))
      (ix2 (⟨(y 0).val % 256, Nat.mod_lt _ (by norm_num)⟩ : Fin 256) (⟨(y 1).val, (y 1).isLt⟩ : Fin 2048))) :
    Done x2 x4 x5 x7 w i (gFirst i w + 1) Y := by
  intro y h
  have m1 : gFirst i w ≤ cN w (2048 * (i 0).val + 256 * ((y 0).val / 256)) := cN_mono (by omega)
  have m2 : cN w (2048 * (i 0).val + 256 * ((y 0).val / 256)) ≤ cN w (2048 * (i 0).val + (y 0).val) := cN_mono (by omega)
  have e : cN w (2048 * (i 0).val + (y 0).val) = cN w (2048 * (i 0).val + 256 * ((y 0).val / 256)) := by
    rcases h with h | h <;> omega
  rw [hY y]
  unfold tile
  rw [e]

/-- After the last group of the block every row is final. -/
theorem done_all (Y : Vec F S2048x2048 .bf16) (g : ℕ) (hg : g = gLast i w + 1) (hY : Done x2 x4 x5 x7 w i g Y) : Y = tile x2 x4 x5 x7 w i := by
  funext y
  have hy : (y 0).val < 2048 := (y 0).isLt
  refine hY y (Or.inl ?_)
  have : cN w (2048 * (i 0).val + (y 0).val) ≤ gLast i w := cN_mono (by omega)
  omega

/-- A turn: group `g` begins inside the block; the rows of the piece it begins in, from its first row on, take its
values — when it has a row and does not begin at a piece's first row. -/
theorem done_step (h : Fill w) (g : ℕ) (h1 : gFirst i w < g) (h2 : g ≤ gLast i w) (Y Y' : Vec F S2048x2048 .bf16) (hY : Done x2 x4 x5 x7 w i g Y)
    (hin : ∀ y : S2048x2048.Idx, 0 < (w g).toNat → (S w g - 2048 * (i 0).val) % 256 ≠ 0 → S w g - 2048 * (i 0).val ≤ (y 0).val →
      (y 0).val / 256 = (S w g - 2048 * (i 0).val) / 256 →
      Y' y = part x2 x4 x5 x7 (256 * ((y 0).val / 256)) g (ix2 (⟨(y 0).val % 256, Nat.mod_lt _ (by norm_num)⟩ : Fin 256) (⟨(y 1).val, (y 1).isLt⟩ : Fin 2048)))
    (hout : ∀ y : S2048x2048.Idx, ¬ (0 < (w g).toNat ∧ (S w g - 2048 * (i 0).val) % 256 ≠ 0 ∧ S w g - 2048 * (i 0).val ≤ (y 0).val ∧
      (y 0).val / 256 = (S w g - 2048 * (i 0).val) / 256) → Y' y = Y y) : Done x2 x4 x5 x7 w i (g + 1) Y' := by
  obtain ⟨-, l1, l2⟩ := local_toNat i h g h1 h2 (BitVec.ofNat 32 (S w g)) (by
    have := h.S_le (n := g) (by have := gLast_le i (w := w); omega)
    simp; omega)
  have hg := gLast_le i (w := w)
  intro y hy
  have hy0 : (y 0).val < 2048 := (y 0).isLt
  have hi := i_lt i
  have m2 : cN w (2048 * (i 0).val + 256 * ((y 0).val / 256)) ≤ cN w (2048 * (i 0).val + (y 0).val) := cN_mono (by omega)
  have c1 := le_cN (w := w) (j := g) (by omega) (by omega) (2048 * (i 0).val + (y 0).val)
  have c2 := le_cN (w := w) (j := g) (by omega) (by omega) (2048 * (i 0).val + 256 * ((y 0).val / 256))
  by_cases hc : 0 < (w g).toNat ∧ (S w g - 2048 * (i 0).val) % 256 ≠ 0 ∧ S w g - 2048 * (i 0).val ≤ (y 0).val ∧
      (y 0).val / 256 = (S w g - 2048 * (i 0).val) / 256
  · obtain ⟨a1, a2, a3, a4⟩ := hc
    rw [hin y a1 a2 a3 a4]
    have e : cN w (2048 * (i 0).val + (y 0).val) = g := by
      generalize cN w (2048 * (i 0).val + (y 0).val) = G at *
      generalize cN w (2048 * (i 0).val + 256 * ((y 0).val / 256)) = B at *
      have : g ≤ G := c1.mpr (by omega)
      have : ¬ g ≤ B := fun hb => by have := c2.mp hb; omega
      omega
    unfold tile
    rw [e]
  · rw [hout y hc]
    refine hY y ?_
    by_contra hn
    have hu := lt_S_cN h (r := 2048 * (i 0).val + (y 0).val) (by omega)
    have e : cN w (2048 * (i 0).val + (y 0).val) = g := by omega
    rw [e, S_succ] at hu
    have : S w g ≤ 2048 * (i 0).val + (y 0).val := c1.mp (by omega)
    have : ¬ S w g ≤ 2048 * (i 0).val + 256 * ((y 0).val / 256) := fun hb => by have := c2.mpr hb; omega
    exact hc ⟨by omega, by omega, by omega, by omega⟩

/-- Rows `o … o + 255` of the output block. -/
def outRows (Y : Vec F S2048x2048 .bf16) (o : ℕ) : Vec F S256x2048 .bf16 :=
  fun j => Y (ix2 (⟨(o + (j 0).val) % 2048, Nat.mod_lt _ (by norm_num)⟩ : Fin 2048) (⟨(j 1).val, (j 1).isLt⟩ : Fin 2048))

theorem ld_outRows (x : Vec F S2048x2048 .bf16) (o : ℕ) (ho : o ≤ 1792) (off : Fin 2 → ℕ) (h : off = ![o, 0]) (inb) :
    View.ld x (Rect.unit (s := S2048x2048) off S256x2048.size inb) = outRows x o := by
  subst h
  funext j
  have hj : (j 0).val < 256 := (j 0).isLt
  exact View.ld_unit_apply_of x _ _ inb j _ (Fin.forall_fin_two.mpr ⟨Nat.mod_eq_of_lt (by omega), (Nat.zero_add _).symm⟩)

/-- The turn's conditional store, read back: the state before the next group's turn. -/
theorem turn_step (h : Fill w) (g : ℕ) (h1 : gFirst i w < g) (h2 : g ≤ gLast i w) (acc s : BitVec 32) (ha : acc.toNat = S w g) (hs : s = w g)
    (arg6 : Memref sig .tc .vmem S2048x2048 .bf16) (f6 : arg6.view.ty.Contents (Elt F))
    (inb : k0_cond1 i acc s = 1#1 → ∀ a, k0_off8 i acc a + S256x2048.size a ≤ S2048x2048.size a)
    (P : k0_cond1 i acc s = 1#1 → Vec F S256x2048 .bf16)
    (hP : ∀ hc, P hc = k0_pay1 (Scalar.subi acc (row0 i)) (rows x2 ((S w g - 2048 * (i 0).val) / 256 * 256)) (weights x4 g)
      (rowScales x7 ((S w g - 2048 * (i 0).val) / 256 * 256)) (colScales x5 g) (outRows (arg6.view.read (Elt F) f6) ((S w g - 2048 * (i 0).val) / 256 * 256)))
    (hY : Done x2 x4 x5 x7 w i g (arg6.view.read (Elt F) f6)) :
    Done x2 x4 x5 x7 w i (g + 1) (arg6.view.read (Elt F) (if hc : k0_cond1 i acc s = 1#1 then
      arg6.view.writes (Elt F) f6 [⟨Rect.unit (s := S2048x2048) (k0_off8 i acc) S256x2048.size (inb hc), P hc⟩] else f6)) := by
  obtain ⟨e1, l1, l2⟩ := local_toNat i h g h1 h2 acc ha
  have hfl := floor_toNat i h g h1 h2 acc ha
  have hgl := gLast_le i (w := w)
  have hsz : s.toNat < 2 ^ 31 := by
    have := h.le g (by omega)
    rw [hs]
    omega
  have hcd := cond1_iff i h g h1 h2 acc ha s hsz
  have hoff : k0_off8 i acc = ![(S w g - 2048 * (i 0).val) / 256 * 256, 0] := by rw [off8_eq, hfl]
  rw [hs] at hcd
  refine done_step _ _ _ _ i h g h1 h2 _ _ hY ?_ ?_
  · intro y a1 a2 a3 a4
    have hy0 : (y 0).val < 2048 := (y 0).isLt
    have hc : k0_cond1 i acc s = 1#1 := by rw [hs]; exact hcd.mpr ⟨a1, a2⟩
    rw [dif_pos hc]
    refine (View.read_writes_cons_rows_of_mem (size := S256x2048.size) (o := (S w g - 2048 * (i 0).val) / 256 * 256) arg6.view f6 _ _ [] y
      (ix2 (⟨(y 0).val % 256, Nat.mod_lt _ (by norm_num)⟩ : Fin 256) (⟨(y 1).val, (y 1).isLt⟩ : Fin 2048)) hoff (by
        show (y 0).val = _ + (y 0).val % 256
        omega) rfl).trans ?_
    rw [hP hc, pay1_apply _ (by omega), if_pos]
    · unfold part
      rw [show 256 * ((y 0).val / 256) = (S w g - 2048 * (i 0).val) / 256 * 256 from by omega]
    · show _ ≤ _ + (y 0).val % 256
      omega
  · intro y hy
    have hy0 : (y 0).val < 2048 := (y 0).isLt
    by_cases hc : k0_cond1 i acc s = 1#1
    · rw [dif_pos hc]
      have hc' := hc
      rw [hs] at hc'
      obtain ⟨a1, a2⟩ := hcd.mp hc'
      by_cases hin : (y 0).val / 256 = (S w g - 2048 * (i 0).val) / 256
      · refine (View.read_writes_cons_rows_of_mem (size := S256x2048.size) (o := (S w g - 2048 * (i 0).val) / 256 * 256) arg6.view f6 _ _ [] y
          (ix2 (⟨(y 0).val % 256, Nat.mod_lt _ (by norm_num)⟩ : Fin 256) (⟨(y 1).val, (y 1).isLt⟩ : Fin 2048)) hoff (by
            show (y 0).val = _ + (y 0).val % 256
            omega) rfl).trans ?_
        rw [hP hc, pay1_apply _ (by omega), if_neg]
        · show arg6.view.read (Elt F) f6 _ = _
          congr 1
          funext a
          refine Fin.ext ?_
          revert a
          refine Fin.forall_fin_two.mpr ⟨?_, rfl⟩
          show ((S w g - 2048 * (i 0).val) / 256 * 256 + (y 0).val % 256) % 2048 = (y 0).val
          omega
        · show ¬ _ ≤ _ + (y 0).val % 256
          intro hh
          exact hy ⟨a1, a2, by omega, hin⟩
      · exact View.read_writes_cons_rows_of_not_mem (size := S256x2048.size) (o := (S w g - 2048 * (i 0).val) / 256 * 256) (W := 256) arg6.view f6 _ _ [] y hoff rfl (by omega)
    · rw [dif_neg hc]

end Cert.KernelIdeal.Tile

end
-- ==== Proof.KernelIdealLoop.lean ====
module

public import proofs.«01_k».proof.Proof.KernelIdealTile
public import proofs.«01_k».proof.Proof.Gen.KernelIdeal.Loops
public import proofs.«01_k».proof.Proof.Gen.KernelIdeal.Frame

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.KernelIdeal Cert.KernelIdeal.Gen Cert.KernelIdeal.Words Cert.KernelIdeal.Tile Cert.Groups

variable {F : FTy → Type} [FloatOps F]
local notation "𝕄" => MT nD τ sig Unit (Elt F) ℕ (UR sig nD τ) ℕ

/-! One turn of the loop over the groups that begin inside the block, and the loop's invariant. -/

/-- The whole of a buffer held at the contents `f`. -/
abbrev pt (c : Dev nD) {sp : Space} {s : Shape} {d : EltTy} (a : Memref sig .tc sp s d) (f : Buf (Elt F) (a.view.loc (c : Thread nD τ))) : sProp 𝕄 :=
  a.view.loc (c : Thread nD τ) ↦[a.view.set]{fullShare} f

/-- The sixteen words of the group sizes. -/
def words (X : Vec F S16 .i32) (n : ℕ) : BitVec 32 := if h : n < 16 then X (ix1 (⟨n, h⟩ : Fin 16)) else 0#32

theorem readAt_word (arg1 : Memref sig .tc .smem S16 .i32) (f1 : arg1.view.ty.Contents (Elt F)) (n : ℕ) (hn : n < 16) (off : Fin 1 → ℕ) (ho : off = ![n]) (inb)
    (x : (Rect.unit (s := S16) off S1.size inb).toLoadRect.shape.Idx) :
    arg1.view.readAt (Elt F) (Rect.unit (s := S16) off S1.size inb).toLoadRect f1 x = words (arg1.view.read (Elt F) f1) n := by
  subst ho
  have hx : (x 0).val < 1 := (x 0).isLt
  unfold words
  rw [dif_pos hn]
  refine View.ld_unit_apply_of (arg1.view.read (Elt F) f1) _ _ inb x _ fun a => ?_
  obtain rfl : a = 0 := Subsingleton.elim _ _
  show n = n + (x 0).val
  omega

/-- Adding a group's size to where it starts gives where the next one starts. -/
theorem start_next {w : ℕ → BitVec 32} (h : Fill w) (g : ℕ) (hg : g ≤ 15) (acc s : BitVec 32) (ha : acc.toNat = S w g) (hs : s = w g) :
    (Scalar.addi acc s).toNat = S w (g + 1) := by
  subst hs
  have e := S_succ (w := w) g
  have l := h.S_le (n := g + 1) (by omega)
  rw [addi_toNat, ha]
  · exact e.symm
  · rw [ha]; omega

section Trip

variable (c : Dev nD) (i : grid0.Coords) (arg1 : Memref sig .tc .smem S16 .i32) (harg1 : arg1.IsWhole) (arg2 : Memref sig .tc .vmem S2048x768 .fp8e4m3) (harg2 : arg2.IsWhole) (arg3 : Memref sig .tc .vmem S1x16x128 .f32) (harg3 : arg3.IsWhole) (arg4 : Memref sig .tc .vmem S16x768x2048 .fp8e4m3) (harg4 : arg4.IsWhole) (arg5 : Memref sig .tc .vmem S16x2048 .f32) (harg5 : arg5.IsWhole) (arg6 : Memref sig .tc .vmem S2048x2048 .bf16) (harg6 : arg6.IsWhole) (arg7 : Memref sig .tc .vmem S2048x1 .f32) (harg7 : arg7.IsWhole)
  (f1 : Buf (Elt F) (arg1.view.loc (c : Thread nD τ))) (f2 : Buf (Elt F) (arg2.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ)))

/-- What the loop's parameters are: the words read before it. -/
def Entry (X : Vec F S16 .i32) (v0 : BitVec 32) (v1 v3 v5 v7 v9 v11 v13 v15 v17 v19 v21 v23 v25 v27 v29 : BitVec 32) (v715 : BitVec 32) : Prop :=
  Fill (words X) ∧ v0 = row0 i ∧ (v1 = words X 0 ∧ v3 = words X 1 ∧ v5 = words X 2 ∧ v7 = words X 3 ∧ v9 = words X 4 ∧ v11 = words X 5 ∧ v13 = words X 6 ∧ v15 = words X 7 ∧ v17 = words X 8 ∧ v19 = words X 9 ∧ v21 = words X 10 ∧ v23 = words X 11 ∧ v25 = words X 12 ∧ v27 = words X 13 ∧ v29 = words X 14) ∧ v715 = lb i (words X)

/-- The state before turn `k`: the carried word is where that turn's group starts, and the output block is done up to it. -/
abbrev Turn (k : ℕ) (acc : BitVec 32) (f1 : Buf (Elt F) (arg1.view.loc (c : Thread nD τ))) (f2 : Buf (Elt F) (arg2.view.loc (c : Thread nD τ))) (f4 : Buf (Elt F) (arg4.view.loc (c : Thread nD τ))) (f5 : Buf (Elt F) (arg5.view.loc (c : Thread nD τ))) (f7 : Buf (Elt F) (arg7.view.loc (c : Thread nD τ))) (f6 : Buf (Elt F) (arg6.view.loc (c : Thread nD τ))) : Prop :=
  (k < gLast i (words (arg1.view.read (Elt F) f1)) - gFirst i (words (arg1.view.read (Elt F) f1)) → acc.toNat = S (words (arg1.view.read (Elt F) f1)) (gFirst i (words (arg1.view.read (Elt F) f1)) + 1 + k))
    ∧ Done (arg2.view.read (Elt F) f2) (arg4.view.read (Elt F) f4) (arg5.view.read (Elt F) f5) (arg7.view.read (Elt F) f7) (words (arg1.view.read (Elt F) f1)) i (gFirst i (words (arg1.view.read (Elt F) f1)) + 1 + k) (arg6.view.read (Elt F) f6)

/-- The arithmetic of one turn: from the state before it to the state after it, given what the turn loads and stores. -/
theorem turn_next (hF : Fill (words (arg1.view.read (Elt F) f1))) (m : ℕ)
    (hm : m < gLast i (words (arg1.view.read (Elt F) f1)) - gFirst i (words (arg1.view.read (Elt F) f1))) (acc s : BitVec 32)
    (hs : s = words (arg1.view.read (Elt F) f1) (gFirst i (words (arg1.view.read (Elt F) f1)) + 1 + m))
    (hT : Turn c i arg1 arg2 arg4 arg5 arg6 arg7 m acc f1 f2 f4 f5 f7 f6)
    (o5 : Fin 3 → ℕ) (h5 : o5 = ![gFirst i (words (arg1.view.read (Elt F) f1)) + 1 + m, 0, 0])
    (o7 : Fin 2 → ℕ) (h7 : o7 = ![gFirst i (words (arg1.view.read (Elt F) f1)) + 1 + m, 0])
    (i4 : k0_cond1 i acc s = 1#1 → ∀ a, k0_off4 i acc a + S256x768.size a ≤ S2048x768.size a)
    (i5 : k0_cond1 i acc s = 1#1 → ∀ a, o5 a + S1x768x2048.size a ≤ S16x768x2048.size a)
    (i6 : k0_cond1 i acc s = 1#1 → ∀ a, k0_off6 i acc a + S256x1.size a ≤ S2048x1.size a)
    (i7 : k0_cond1 i acc s = 1#1 → ∀ a, o7 a + S1x2048.size a ≤ S16x2048.size a)
    (i8 : k0_cond1 i acc s = 1#1 → ∀ a, k0_off8 i acc a + S256x2048.size a ≤ S2048x2048.size a) :
    Turn c i arg1 arg2 arg4 arg5 arg6 arg7 (m + 1) (Scalar.addi acc s) f1 f2 f4 f5 f7
      (if hc : k0_cond1 i acc s = 1#1 then
        arg6.view.writes (Elt F) f6 [⟨Rect.unit (s := S2048x2048) (k0_off8 i acc) S256x2048.size (i8 hc),
          k0_pay1 (Scalar.subi acc (row0 i))
            (arg2.view.readAt (Elt F) (Rect.unit (s := S2048x768) (k0_off4 i acc) S256x768.size (i4 hc)).toLoadRect f2)
            (arg4.view.readAt (Elt F) (Rect.unit (s := S16x768x2048) o5 S1x768x2048.size (i5 hc)).toLoadRect f4)
            (arg7.view.readAt (Elt F) (Rect.unit (s := S2048x1) (k0_off6 i acc) S256x1.size (i6 hc)).toLoadRect f7)
            (arg5.view.readAt (Elt F) (Rect.unit (s := S16x2048) o7 S1x2048.size (i7 hc)).toLoadRect f5)
            (arg6.view.readAt (Elt F) (Rect.unit (s := S2048x2048) (k0_off8 i acc) S256x2048.size (i8 hc)).toLoadRect f6)⟩]
      else f6) := by
  obtain ⟨hT1, hT2⟩ := hT
  have ha := hT1 hm
  clear hT1
  have hl := gLast_le i (w := words (arg1.view.read (Elt F) f1))
  have h1 : gFirst i (words (arg1.view.read (Elt F) f1)) < gFirst i (words (arg1.view.read (Elt F) f1)) + 1 + m := by omega
  have h2 : gFirst i (words (arg1.view.read (Elt F) f1)) + 1 + m ≤ gLast i (words (arg1.view.read (Elt F) f1)) := by omega
  have h3 : gFirst i (words (arg1.view.read (Elt F) f1)) + 1 + m ≤ 15 := by omega
  have hfl := floor_toNat i hF _ h1 h2 acc ha
  have ho : (S (words (arg1.view.read (Elt F) f1)) (gFirst i (words (arg1.view.read (Elt F) f1)) + 1 + m) - 2048 * (i 0).val) / 256 * 256 ≤ 1792 := by
    obtain ⟨e1, l1, l2⟩ := local_toNat i hF _ h1 h2 acc ha
    generalize S (words (arg1.view.read (Elt F) f1)) (gFirst i (words (arg1.view.read (Elt F) f1)) + 1 + m) = A at *
    omega
  refine ⟨fun hn => ?_, ?_⟩
  · rw [← Nat.add_assoc]
    exact start_next hF _ h3 acc s ha hs
  · rw [← Nat.add_assoc]
    refine turn_step _ _ _ _ i hF _ h1 h2 acc s ha hs arg6 f6 i8 _ (fun hc => ?_) hT2
    rw [← ld_rows (arg2.view.read (Elt F) f2) _ ho (k0_off4 i acc) (by rw [off4_eq, hfl]) (i4 hc)]
    rw [← ld_weights (arg4.view.read (Elt F) f4) _ h3 o5 h5 (i5 hc)]
    rw [← ld_rowScales (arg7.view.read (Elt F) f7) _ ho (k0_off6 i acc) (by rw [off6_eq, hfl]) (i6 hc)]
    rw [← ld_colScales (arg5.view.read (Elt F) f5) _ h3 o7 h7 (i7 hc)]
    rw [← ld_outRows (arg6.view.read (Elt F) f6) _ ho (k0_off8 i acc) (by rw [off8_eq, hfl]) (i8 hc)]
    rfl

set_option maxHeartbeats 1000000 in
/-- ONE TURN. -/
theorem trip (hF : Fill (words (arg1.view.read (Elt F) f1)))
    (hw1 : k0_chk1 i (words (arg1.view.read (Elt F) f1) 0) (words (arg1.view.read (Elt F) f1) 1) (words (arg1.view.read (Elt F) f1) 2) (words (arg1.view.read (Elt F) f1) 3) (words (arg1.view.read (Elt F) f1) 4) (words (arg1.view.read (Elt F) f1) 5) (words (arg1.view.read (Elt F) f1) 6) (words (arg1.view.read (Elt F) f1) 7) (words (arg1.view.read (Elt F) f1) 8) (words (arg1.view.read (Elt F) f1) 9) (words (arg1.view.read (Elt F) f1) 10) (words (arg1.view.read (Elt F) f1) 11) (words (arg1.view.read (Elt F) f1) 12) (words (arg1.view.read (Elt F) f1) 13) (words (arg1.view.read (Elt F) f1) 14)) (k : Fin (k0_t1_loop i (words (arg1.view.read (Elt F) f1) 0) (words (arg1.view.read (Elt F) f1) 1) (words (arg1.view.read (Elt F) f1) 2) (words (arg1.view.read (Elt F) f1) 3) (words (arg1.view.read (Elt F) f1) 4) (words (arg1.view.read (Elt F) f1) 5) (words (arg1.view.read (Elt F) f1) 6) (words (arg1.view.read (Elt F) f1) 7) (words (arg1.view.read (Elt F) f1) 8) (words (arg1.view.read (Elt F) f1) 9) (words (arg1.view.read (Elt F) f1) 10) (words (arg1.view.read (Elt F) f1) 11) (words (arg1.view.read (Elt F) f1) 12) (words (arg1.view.read (Elt F) f1) 13) (words (arg1.view.read (Elt F) f1) 14)).trips) (acc : BitVec 32)
    (hT : Turn c i arg1 arg2 arg4 arg5 arg6 arg7 k.val acc f1 f2 f4 f5 f7 f6) :
    iprop(pt c arg1 f1 ∗ pt c arg2 f2 ∗ pt c arg4 f4 ∗ pt c arg5 f5 ∗ pt c arg6 f6 ∗ pt c arg7 f7)
      ⊢ wp frame (wpE (defs₀ (F := F)) Variants.none (c : Thread nD τ) none) Set.univ (k0_t1_body (F := F) i arg1 harg1 arg2 harg2 arg3 harg3 arg4 harg4 arg5 harg5 arg6 harg6 arg7 harg7 (row0 i) (words (arg1.view.read (Elt F) f1) 0) (words (arg1.view.read (Elt F) f1) 1) (words (arg1.view.read (Elt F) f1) 2) (words (arg1.view.read (Elt F) f1) 3) (words (arg1.view.read (Elt F) f1) 4) (words (arg1.view.read (Elt F) f1) 5) (words (arg1.view.read (Elt F) f1) 6) (words (arg1.view.read (Elt F) f1) 7) (words (arg1.view.read (Elt F) f1) 8) (words (arg1.view.read (Elt F) f1) 9) (words (arg1.view.read (Elt F) f1) 10) (words (arg1.view.read (Elt F) f1) 11) (words (arg1.view.read (Elt F) f1) 12) (words (arg1.view.read (Elt F) f1) 13) (words (arg1.view.read (Elt F) f1) 14) hw1 (lb i (words (arg1.view.read (Elt F) f1))) k acc)
        (fun acc' => iprop(pt c arg1 f1 ∗ pt c arg2 f2 ∗ pt c arg4 f4 ∗ pt c arg5 f5 ∗ pt c arg7 f7 ∗ ∃ f6', pt c arg6 f6' ∗ ⌜Turn c i arg1 arg2 arg4 arg5 arg6 arg7 (k.val + 1) acc' f1 f2 f4 f5 f7 f6'⌝)) := by
  have ha := hT.1 (trip_lt i hF k)
  unfold k0_t1_body
  have hchk2 := fun s => Words.chk2 i hF k acc s ha
  unfold pt
  iintro ⟨H1, H2, H4, H5, H6, H7⟩
  sl_exec
  sl_step
  isplitl [H1]; · iexact H1
  isplitl [H2]; · iexact H2
  isplitl [H4]; · iexact H4
  isplitl [H5]; · iexact H5
  isplitl [H7]; · iexact H7
  iexists _
  isplitl [H6]; · iexact H6
  ipureintro
  have hk := trip_lt i hF k
  have hl := gLast_le i (w := words (arg1.view.read (Elt F) f1))
  obtain ⟨m, hm, hk'⟩ : ∃ m, k.val = m ∧ m < gLast i (words (arg1.view.read (Elt F) f1)) - gFirst i (words (arg1.view.read (Elt F) f1)) := ⟨_, rfl, hk⟩
  have hiv := iv_toNat i hF m (by clear hT hchk2 ha; omega)
  have hlt : gFirst i (words (arg1.view.read (Elt F) f1)) + 1 + m < 16 := by clear hT hchk2 ha; omega
  rw [← hm] at hiv hlt
  have hs : trip.sl.r c i arg1 f1 hw1 k = words (arg1.view.read (Elt F) f1) (gFirst i (words (arg1.view.read (Elt F) f1)) + 1 + k.val) := by
    unfold trip.sl.r trip.sl.f
    exact readAt_word arg1 f1 _ hlt _ (by rw [off3_eq, hiv]) _ _
  unfold trip.sl.v742 trip.sl.r_1 trip.sl.v726 trip.sl.v768 trip.sl.v770 trip.sl.v774 trip.sl.v778 trip.sl.v783
  exact turn_next c i arg1 arg2 arg4 arg5 arg6 arg7 f1 f2 f4 f5 f6 f7 hF k.val hk acc (trip.sl.r c i arg1 f1 hw1 k) hs hT
    (k0_off5 i (words (arg1.view.read (Elt F) f1) 0) (words (arg1.view.read (Elt F) f1) 1) (words (arg1.view.read (Elt F) f1) 2) (words (arg1.view.read (Elt F) f1) 3) (words (arg1.view.read (Elt F) f1) 4) (words (arg1.view.read (Elt F) f1) 5) (words (arg1.view.read (Elt F) f1) 6) (words (arg1.view.read (Elt F) f1) 7) (words (arg1.view.read (Elt F) f1) 8) (words (arg1.view.read (Elt F) f1) 9) (words (arg1.view.read (Elt F) f1) 10) (words (arg1.view.read (Elt F) f1) 11) (words (arg1.view.read (Elt F) f1) 12) (words (arg1.view.read (Elt F) f1) 13) (words (arg1.view.read (Elt F) f1) 14) k) (by rw [off5_eq, hiv])
    (k0_off7 i (words (arg1.view.read (Elt F) f1) 0) (words (arg1.view.read (Elt F) f1) 1) (words (arg1.view.read (Elt F) f1) 2) (words (arg1.view.read (Elt F) f1) 3) (words (arg1.view.read (Elt F) f1) 4) (words (arg1.view.read (Elt F) f1) 5) (words (arg1.view.read (Elt F) f1) 6) (words (arg1.view.read (Elt F) f1) 7) (words (arg1.view.read (Elt F) f1) 8) (words (arg1.view.read (Elt F) f1) 9) (words (arg1.view.read (Elt F) f1) 10) (words (arg1.view.read (Elt F) f1) 11) (words (arg1.view.read (Elt F) f1) 12) (words (arg1.view.read (Elt F) f1) 13) (words (arg1.view.read (Elt F) f1) 14) k) (by rw [off7_eq, hiv]) _ _ _ _ _

end Trip

end Cert.KernelIdeal.Body

end
-- ==== Proof.KernelIdealInv.lean ====
module

public import proofs.«01_k».proof.Proof.KernelIdealLoop

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.KernelIdeal Cert.KernelIdeal.Gen Cert.KernelIdeal.Words Cert.KernelIdeal.Tile Cert.Groups

variable {F : FTy → Type} [FloatOps F]
local notation "𝕄" => MT nD τ sig Unit (Elt F) ℕ (UR sig nD τ) ℕ

/-! The whole body of a grid point. -/

set_option warn.classDefReducibility false in
set_option maxHeartbeats 1000000 in
/-- The invariant of the loop over the groups that begin inside the block. -/
@[sl_loop] def loopInv_t1 (c : Dev nD) (i : grid0.Coords) (arg1 : Memref sig .tc .smem S16 .i32) (harg1 : arg1.IsWhole) (arg2 : Memref sig .tc .vmem S2048x768 .fp8e4m3) (harg2 : arg2.IsWhole) (arg3 : Memref sig .tc .vmem S1x16x128 .f32) (harg3 : arg3.IsWhole) (arg4 : Memref sig .tc .vmem S16x768x2048 .fp8e4m3) (harg4 : arg4.IsWhole) (arg5 : Memref sig .tc .vmem S16x2048 .f32) (harg5 : arg5.IsWhole) (arg6 : Memref sig .tc .vmem S2048x2048 .bf16) (harg6 : arg6.IsWhole) (arg7 : Memref sig .tc .vmem S2048x1 .f32) (harg7 : arg7.IsWhole)
    (f1 : Buf (Elt F) (arg1.view.loc (c : Thread nD τ))) (f2 : Buf (Elt F) (arg2.view.loc (c : Thread nD τ))) (f4 : Buf (Elt F) (arg4.view.loc (c : Thread nD τ))) (f5 : Buf (Elt F) (arg5.view.loc (c : Thread nD τ))) (f7 : Buf (Elt F) (arg7.view.loc (c : Thread nD τ))) (v0 : BitVec 32) (v1 : Elt F .i32) (v3 : Elt F .i32) (v5 : Elt F .i32) (v7 : Elt F .i32) (v9 : Elt F .i32) (v11 : Elt F .i32) (v13 : Elt F .i32) (v15 : Elt F .i32) (v17 : Elt F .i32) (v19 : Elt F .i32) (v21 : Elt F .i32) (v23 : Elt F .i32) (v25 : Elt F .i32) (v27 : Elt F .i32) (v29 : Elt F .i32) (hw1 : k0_chk1 i v1 v3 v5 v7 v9 v11 v13 v15 v17 v19 v21 v23 v25 v27 v29) (v715 init : BitVec 32) :
    LoopInvTy_k0_t1 (F := F) Unit ℕ (UR sig nD τ) ℕ Variants.none c none Set.univ i arg1 harg1 arg2 harg2 arg3 harg3 arg4 harg4 arg5 harg5 arg6 harg6 arg7 harg7 v0 v1 v3 v5 v7 v9 v11 v13 v15 v17 v19 v21 v23 v25 v27 v29 hw1 v715 init where
  inv k acc := iprop(⌜Entry i (arg1.view.read (Elt F) f1) v0 v1 v3 v5 v7 v9 v11 v13 v15 v17 v19 v21 v23 v25 v27 v29 v715⌝ ∗ pt c arg1 f1 ∗ pt c arg2 f2 ∗ pt c arg4 f4 ∗ pt c arg5 f5 ∗ pt c arg7 f7 ∗ ∃ f6, pt c arg6 f6 ∗ ⌜Turn c i arg1 arg2 arg4 arg5 arg6 arg7 k acc f1 f2 f4 f5 f7 f6⌝)
  step k acc := by
    iintro ⟨%hE, H1, H2, H4, H5, H7, ⟨%f6, H6, %hT⟩⟩
    obtain ⟨hF, rfl, ⟨rfl, rfl, rfl, rfl, rfl, rfl, rfl, rfl, rfl, rfl, rfl, rfl, rfl, rfl, rfl⟩, rfl⟩ := hE
    iapply (wp_wand_r Idealize.ShloMosaic.frame (wpE (defs₀ (F := F)) Variants.none (c : Thread nD τ) none) Set.univ)
    isplitl [H1 H2 H4 H5 H6 H7]
    · iapply (trip c i arg1 harg1 arg2 harg2 arg3 harg3 arg4 harg4 arg5 harg5 arg6 harg6 arg7 harg7 f1 f2 f4 f5 f6 f7 hF hw1 k acc hT)
      isplitl [H1]; · iexact H1
      isplitl [H2]; · iexact H2
      isplitl [H4]; · iexact H4
      isplitl [H5]; · iexact H5
      isplitl [H6]; · iexact H6
      iexact H7
    · iintro %acc' ⟨H1, H2, H4, H5, H7, H6⟩
      isplitr
      · ipureintro
        exact ⟨hF, rfl, ⟨rfl, rfl, rfl, rfl, rfl, rfl, rfl, rfl, rfl, rfl, rfl, rfl, rfl, rfl, rfl⟩, rfl⟩
      isplitl [H1]; · iexact H1
      isplitl [H2]; · iexact H2
      isplitl [H4]; · iexact H4
      isplitl [H5]; · iexact H5
      isplitl [H7]; · iexact H7
      iexact H6

end Cert.KernelIdeal.Body

end
-- ==== Proof.KernelIdealPieces.lean ====
module

public import proofs.«01_k».proof.Proof.KernelIdealTile

@[expose] public section

set_option maxRecDepth 16384

noncomputable section

namespace Cert.KernelIdeal.Tile

open Idealize.ShloMosaic
open Cert.KernelIdeal Cert.KernelIdeal.Gen Cert.KernelIdeal.Words Cert.Groups

variable {F : FTy → Type} [FloatOps F]

/-! What the stores before the loop leave: the row scales laid out as one column, and the first pass over the block. -/

/-- The row scales of the block, as one column. -/
def column (x3 : Vec F S1x16x128 .f32) : Vec F S2048x1 .f32 :=
  fun y => x3 (ix3 (0 : Fin 1) (⟨(y 0).val / 128 % 16, Nat.mod_lt _ (by norm_num)⟩ : Fin 16) (⟨(y 0).val % 128, Nat.mod_lt _ (by norm_num)⟩ : Fin 128))

/-- The sixteen stores of the column, newest first. -/
def columnPieces (x3 : Vec F S1x16x128 .f32) : List (View.Piece (Elt F) S2048x1 .f32) :=
  [⟨Rect.unit (s := S2048x1) ![1920, 0] S128x1.size inb_S2048x1_S128x1_1920_0, k0_pay21 (k0_pay3 x3)⟩,
    ⟨Rect.unit (s := S2048x1) ![1792, 0] S128x1.size inb_S2048x1_S128x1_1792_0, k0_pay20 (k0_pay3 x3)⟩,
    ⟨Rect.unit (s := S2048x1) ![1664, 0] S128x1.size inb_S2048x1_S128x1_1664_0, k0_pay19 (k0_pay3 x3)⟩,
    ⟨Rect.unit (s := S2048x1) ![1536, 0] S128x1.size inb_S2048x1_S128x1_1536_0, k0_pay18 (k0_pay3 x3)⟩,
    ⟨Rect.unit (s := S2048x1) ![1408, 0] S128x1.size inb_S2048x1_S128x1_1408_0, k0_pay17 (k0_pay3 x3)⟩,
    ⟨Rect.unit (s := S2048x1) ![1280, 0] S128x1.size inb_S2048x1_S128x1_1280_0, k0_pay16 (k0_pay3 x3)⟩,
    ⟨Rect.unit (s := S2048x1) ![1152, 0] S128x1.size inb_S2048x1_S128x1_1152_0, k0_pay15 (k0_pay14 (k0_pay3 x3))⟩,
    ⟨Rect.unit (s := S2048x1) ![1024, 0] S128x1.size inb_S2048x1_S128x1_1024_0, k0_pay13 (k0_pay3 x3)⟩,
    ⟨Rect.unit (s := S2048x1) ![896, 0] S128x1.size inb_S2048x1_S128x1_896_0, k0_pay12 (k0_pay3 x3)⟩,
    ⟨Rect.unit (s := S2048x1) ![768, 0] S128x1.size inb_S2048x1_S128x1_768_0, k0_pay11 (k0_pay3 x3)⟩,
    ⟨Rect.unit (s := S2048x1) ![640, 0] S128x1.size inb_S2048x1_S128x1_640_0, k0_pay10 (k0_pay3 x3)⟩,
    ⟨Rect.unit (s := S2048x1) ![512, 0] S128x1.size inb_S2048x1_S128x1_512_0, k0_pay9 (k0_pay3 x3)⟩,
    ⟨Rect.unit (s := S2048x1) ![384, 0] S128x1.size inb_S2048x1_S128x1_384_0, k0_pay8 (k0_pay3 x3)⟩,
    ⟨Rect.unit (s := S2048x1) ![256, 0] S128x1.size inb_S2048x1_S128x1_256_0, k0_pay7 (k0_pay3 x3)⟩,
    ⟨Rect.unit (s := S2048x1) ![128, 0] S128x1.size inb_S2048x1_S128x1_128_0, k0_pay6 (k0_pay3 x3)⟩,
    ⟨Rect.unit (s := S2048x1) ![0, 0] S128x1.size inb_S2048x1_S128x1_0_0, k0_pay5 (k0_pay4 x3)⟩]

/-- Column `j` of the transposed block, stored as rows `128 j … 128 j + 127`. -/
theorem pay_column (x3 : Vec F S1x16x128 .f32) (j : Fin 16) (hs : S128x16.Slices ![0, j.val] S128x1) (y : S128x1.Idx) :
    extractStridedSlice S128x1 ![0, j.val] (k0_pay3 x3) hs y = x3 (ix3 (0 : Fin 1) j (⟨(y 0).val, (y 0).isLt⟩ : Fin 128)) := by
  have hy : (y 1).val < 1 := (y 1).isLt
  rw [extractStridedSlice_apply _ _ _ y (ix2 (⟨(y 0).val, (y 0).isLt⟩ : Fin 128) j)
    (Fin.forall_fin_two.mpr ⟨(Nat.zero_add _).symm, by show j.val = j.val + (y 1).val; omega⟩)]
  unfold k0_pay3
  refine (transpose_apply _ _ _ _ (ix2 j (⟨(y 0).val, (y 0).isLt⟩ : Fin 128)) (by intro b; fin_cases b <;> rfl)).trans ?_
  exact ValueIdx.shapeCast_1ab_ab_apply x3 _ j _

def columnPay (x3 : Vec F S1x16x128 .f32) : Fin 16 → (⟨2, S128x1.size⟩ : Shape).Idx → Elt F .f32 :=
  ![k0_pay5 (k0_pay4 x3), k0_pay6 (k0_pay3 x3), k0_pay7 (k0_pay3 x3), k0_pay8 (k0_pay3 x3), k0_pay9 (k0_pay3 x3), k0_pay10 (k0_pay3 x3), k0_pay11 (k0_pay3 x3), k0_pay12 (k0_pay3 x3), k0_pay13 (k0_pay3 x3), k0_pay15 (k0_pay14 (k0_pay3 x3)), k0_pay16 (k0_pay3 x3), k0_pay17 (k0_pay3 x3), k0_pay18 (k0_pay3 x3), k0_pay19 (k0_pay3 x3), k0_pay20 (k0_pay3 x3), k0_pay21 (k0_pay3 x3)]

theorem columnPay_apply (x3 : Vec F S1x16x128 .f32) (j : Fin 16) (y : S128x1.Idx) :
    columnPay x3 j y = x3 (ix3 (0 : Fin 1) j (⟨(y 0).val, (y 0).isLt⟩ : Fin 128)) := by
  fin_cases j
  · exact (congrFun (shapeCast_self _ _) y).trans (pay_column x3 0 slices_S128x16_o0_0_S128x1 y)
  · exact (congrFun (shapeCast_self _ _) y).trans (pay_column x3 1 slices_S128x16_o0_1_S128x1 y)
  · exact (congrFun (shapeCast_self _ _) y).trans (pay_column x3 2 slices_S128x16_o0_2_S128x1 y)
  · exact (congrFun (shapeCast_self _ _) y).trans (pay_column x3 3 slices_S128x16_o0_3_S128x1 y)
  · exact (congrFun (shapeCast_self _ _) y).trans (pay_column x3 4 slices_S128x16_o0_4_S128x1 y)
  · exact (congrFun (shapeCast_self _ _) y).trans (pay_column x3 5 slices_S128x16_o0_5_S128x1 y)
  · exact (congrFun (shapeCast_self _ _) y).trans (pay_column x3 6 slices_S128x16_o0_6_S128x1 y)
  · exact (congrFun (shapeCast_self _ _) y).trans (pay_column x3 7 slices_S128x16_o0_7_S128x1 y)
  · exact (congrFun (shapeCast_self _ _) y).trans (pay_column x3 8 slices_S128x16_o0_8_S128x1 y)
  · exact (congrFun (shapeCast_self _ _) y).trans (pay_column x3 9 slices_S128x16_o0_9_S128x1 y)
  · exact (congrFun (shapeCast_self _ _) y).trans (pay_column x3 10 slices_S128x16_o0_10_S128x1 y)
  · exact (congrFun (shapeCast_self _ _) y).trans (pay_column x3 11 slices_S128x16_o0_11_S128x1 y)
  · exact (congrFun (shapeCast_self _ _) y).trans (pay_column x3 12 slices_S128x16_o0_12_S128x1 y)
  · exact (congrFun (shapeCast_self _ _) y).trans (pay_column x3 13 slices_S128x16_o0_13_S128x1 y)
  · exact (congrFun (shapeCast_self _ _) y).trans (pay_column x3 14 slices_S128x16_o0_14_S128x1 y)
  · exact (congrFun (shapeCast_self _ _) y).trans (pay_column x3 15 slices_S128x16_o0_15_S128x1 y)

theorem columnPieces_eq (x3 : Vec F S1x16x128 .f32) : columnPieces x3
    = View.tilePieces (s := S2048x1) (NT := 16) S128x1.size (fun j => ![128 * j.val, 0]) (fun j => Fin.forall_fin_two.mpr ⟨by show 128 * j.val + 128 ≤ 2048; omega, le_of_eq (Nat.zero_add _)⟩) (columnPay x3) 16 le_rfl := rfl

theorem read_column {sp : Space} (m : Memref sig .tc sp S2048x1 .f32) (f : m.view.ty.Contents (Elt F)) (x3 : Vec F S1x16x128 .f32) :
    m.view.read (Elt F) (m.view.writes (Elt F) f (columnPieces x3)) = column x3 := by
  funext y
  have hy : (y 0).val < 2048 := (y 0).isLt
  rw [columnPieces_eq, View.read_tilePieces m.view f _ _ _ _ 16 le_rfl y (⟨(y 0).val / 128, by omega⟩ : Fin 16) (by show (y 0).val / 128 < 16; omega)
    (ix2 (⟨(y 0).val % 128, Nat.mod_lt _ (by norm_num)⟩ : Fin 128) (⟨(y 1).val, (y 1).isLt⟩ : Fin 1)) (Fin.forall_fin_two.mpr ⟨by show (y 0).val = 128 * ((y 0).val / 128) + (y 0).val % 128; omega, (Nat.zero_add _).symm⟩)
    (0 : Fin 2) (fun i' hi' => by
      have : i'.val ≠ (y 0).val / 128 := fun h => hi' (Fin.ext h)
      show (y 0).val < 128 * i'.val ∨ 128 * i'.val + 128 ≤ (y 0).val
      omega)]
  refine (columnPay_apply x3 _ _).trans ?_
  unfold column
  congr 2
  refine Fin.ext ?_
  show (y 0).val / 128 = (y 0).val / 128 % 16
  omega

variable (x2 : Vec F S2048x768 .fp8e4m3) (x4 : Vec F S16x768x2048 .fp8e4m3) (x5 : Vec F S16x2048 .f32) (x7 : Vec F S2048x1 .f32) (i : grid0.Coords) (w : ℕ → BitVec 32)
  (hw : k0_chk1 i (w 0) (w 1) (w 2) (w 3) (w 4) (w 5) (w 6) (w 7) (w 8) (w 9) (w 10) (w 11) (w 12) (w 13) (w 14))

/-- The eight stores of the first pass, newest first: each piece of 256 rows takes the group of its first row. -/
def firstPieces : List (View.Piece (Elt F) S2048x2048 .bf16) :=
  [⟨Rect.unit (s := S2048x2048) ![1792, 0] S256x2048.size inb_S2048x2048_S256x2048_1792_0, k0_pay32 (View.ld x2 (Rect.unit (s := S2048x768) ![1792, 0] S256x768.size inb_S2048x768_S256x768_1792_0)) (View.ld x4 (Rect.unit (s := S16x768x2048) (k0_off1 i (w 0) (w 1) (w 2) (w 3) (w 4) (w 5) (w 6) (w 7) (w 8) (w 9) (w 10) (w 11) (w 12) (w 13) (w 14) 1792#32) S1x768x2048.size (k0_off1_inb i (w 0) (w 1) (w 2) (w 3) (w 4) (w 5) (w 6) (w 7) (w 8) (w 9) (w 10) (w 11) (w 12) (w 13) (w 14) hw 7))) (View.ld x7 (Rect.unit (s := S2048x1) ![1792, 0] S256x1.size inb_S2048x1_S256x1_1792_0)) (View.ld x5 (Rect.unit (s := S16x2048) (k0_off2 i (w 0) (w 1) (w 2) (w 3) (w 4) (w 5) (w 6) (w 7) (w 8) (w 9) (w 10) (w 11) (w 12) (w 13) (w 14) 1792#32) S1x2048.size (k0_off2_inb i (w 0) (w 1) (w 2) (w 3) (w 4) (w 5) (w 6) (w 7) (w 8) (w 9) (w 10) (w 11) (w 12) (w 13) (w 14) hw 7)))⟩,
    ⟨Rect.unit (s := S2048x2048) ![1536, 0] S256x2048.size inb_S2048x2048_S256x2048_1536_0, k0_pay31 (View.ld x2 (Rect.unit (s := S2048x768) ![1536, 0] S256x768.size inb_S2048x768_S256x768_1536_0)) (View.ld x4 (Rect.unit (s := S16x768x2048) (k0_off1 i (w 0) (w 1) (w 2) (w 3) (w 4) (w 5) (w 6) (w 7) (w 8) (w 9) (w 10) (w 11) (w 12) (w 13) (w 14) 1536#32) S1x768x2048.size (k0_off1_inb i (w 0) (w 1) (w 2) (w 3) (w 4) (w 5) (w 6) (w 7) (w 8) (w 9) (w 10) (w 11) (w 12) (w 13) (w 14) hw 6))) (View.ld x7 (Rect.unit (s := S2048x1) ![1536, 0] S256x1.size inb_S2048x1_S256x1_1536_0)) (View.ld x5 (Rect.unit (s := S16x2048) (k0_off2 i (w 0) (w 1) (w 2) (w 3) (w 4) (w 5) (w 6) (w 7) (w 8) (w 9) (w 10) (w 11) (w 12) (w 13) (w 14) 1536#32) S1x2048.size (k0_off2_inb i (w 0) (w 1) (w 2) (w 3) (w 4) (w 5) (w 6) (w 7) (w 8) (w 9) (w 10) (w 11) (w 12) (w 13) (w 14) hw 6)))⟩,
    ⟨Rect.unit (s := S2048x2048) ![1280, 0] S256x2048.size inb_S2048x2048_S256x2048_1280_0, k0_pay30 (k0_pay28 (View.ld x2 (Rect.unit (s := S2048x768) ![1280, 0] S256x768.size inb_S2048x768_S256x768_1280_0)) (View.ld x4 (Rect.unit (s := S16x768x2048) (k0_off1 i (w 0) (w 1) (w 2) (w 3) (w 4) (w 5) (w 6) (w 7) (w 8) (w 9) (w 10) (w 11) (w 12) (w 13) (w 14) 1280#32) S1x768x2048.size (k0_off1_inb i (w 0) (w 1) (w 2) (w 3) (w 4) (w 5) (w 6) (w 7) (w 8) (w 9) (w 10) (w 11) (w 12) (w 13) (w 14) hw 5))) (View.ld x7 (Rect.unit (s := S2048x1) ![1280, 0] S256x1.size inb_S2048x1_S256x1_1280_0))) (k0_pay29 (View.ld x5 (Rect.unit (s := S16x2048) (k0_off2 i (w 0) (w 1) (w 2) (w 3) (w 4) (w 5) (w 6) (w 7) (w 8) (w 9) (w 10) (w 11) (w 12) (w 13) (w 14) 1280#32) S1x2048.size (k0_off2_inb i (w 0) (w 1) (w 2) (w 3) (w 4) (w 5) (w 6) (w 7) (w 8) (w 9) (w 10) (w 11) (w 12) (w 13) (w 14) hw 5))))⟩,
    ⟨Rect.unit (s := S2048x2048) ![1024, 0] S256x2048.size inb_S2048x2048_S256x2048_1024_0, k0_pay27 (View.ld x2 (Rect.unit (s := S2048x768) ![1024, 0] S256x768.size inb_S2048x768_S256x768_1024_0)) (View.ld x4 (Rect.unit (s := S16x768x2048) (k0_off1 i (w 0) (w 1) (w 2) (w 3) (w 4) (w 5) (w 6) (w 7) (w 8) (w 9) (w 10) (w 11) (w 12) (w 13) (w 14) 1024#32) S1x768x2048.size (k0_off1_inb i (w 0) (w 1) (w 2) (w 3) (w 4) (w 5) (w 6) (w 7) (w 8) (w 9) (w 10) (w 11) (w 12) (w 13) (w 14) hw 4))) (View.ld x7 (Rect.unit (s := S2048x1) ![1024, 0] S256x1.size inb_S2048x1_S256x1_1024_0)) (View.ld x5 (Rect.unit (s := S16x2048) (k0_off2 i (w 0) (w 1) (w 2) (w 3) (w 4) (w 5) (w 6) (w 7) (w 8) (w 9) (w 10) (w 11) (w 12) (w 13) (w 14) 1024#32) S1x2048.size (k0_off2_inb i (w 0) (w 1) (w 2) (w 3) (w 4) (w 5) (w 6) (w 7) (w 8) (w 9) (w 10) (w 11) (w 12) (w 13) (w 14) hw 4)))⟩,
    ⟨Rect.unit (s := S2048x2048) ![768, 0] S256x2048.size inb_S2048x2048_S256x2048_768_0, k0_pay26 (View.ld x2 (Rect.unit (s := S2048x768) ![768, 0] S256x768.size inb_S2048x768_S256x768_768_0)) (View.ld x4 (Rect.unit (s := S16x768x2048) (k0_off1 i (w 0) (w 1) (w 2) (w 3) (w 4) (w 5) (w 6) (w 7) (w 8) (w 9) (w 10) (w 11) (w 12) (w 13) (w 14) 768#32) S1x768x2048.size (k0_off1_inb i (w 0) (w 1) (w 2) (w 3) (w 4) (w 5) (w 6) (w 7) (w 8) (w 9) (w 10) (w 11) (w 12) (w 13) (w 14) hw 3))) (View.ld x7 (Rect.unit (s := S2048x1) ![768, 0] S256x1.size inb_S2048x1_S256x1_768_0)) (View.ld x5 (Rect.unit (s := S16x2048) (k0_off2 i (w 0) (w 1) (w 2) (w 3) (w 4) (w 5) (w 6) (w 7) (w 8) (w 9) (w 10) (w 11) (w 12) (w 13) (w 14) 768#32) S1x2048.size (k0_off2_inb i (w 0) (w 1) (w 2) (w 3) (w 4) (w 5) (w 6) (w 7) (w 8) (w 9) (w 10) (w 11) (w 12) (w 13) (w 14) hw 3)))⟩,
    ⟨Rect.unit (s := S2048x2048) ![512, 0] S256x2048.size inb_S2048x2048_S256x2048_512_0, k0_pay25 (View.ld x2 (Rect.unit (s := S2048x768) ![512, 0] S256x768.size inb_S2048x768_S256x768_512_0)) (View.ld x4 (Rect.unit (s := S16x768x2048) (k0_off1 i (w 0) (w 1) (w 2) (w 3) (w 4) (w 5) (w 6) (w 7) (w 8) (w 9) (w 10) (w 11) (w 12) (w 13) (w 14) 512#32) S1x768x2048.size (k0_off1_inb i (w 0) (w 1) (w 2) (w 3) (w 4) (w 5) (w 6) (w 7) (w 8) (w 9) (w 10) (w 11) (w 12) (w 13) (w 14) hw 2))) (View.ld x7 (Rect.unit (s := S2048x1) ![512, 0] S256x1.size inb_S2048x1_S256x1_512_0)) (View.ld x5 (Rect.unit (s := S16x2048) (k0_off2 i (w 0) (w 1) (w 2) (w 3) (w 4) (w 5) (w 6) (w 7) (w 8) (w 9) (w 10) (w 11) (w 12) (w 13) (w 14) 512#32) S1x2048.size (k0_off2_inb i (w 0) (w 1) (w 2) (w 3) (w 4) (w 5) (w 6) (w 7) (w 8) (w 9) (w 10) (w 11) (w 12) (w 13) (w 14) hw 2)))⟩,
    ⟨Rect.unit (s := S2048x2048) ![256, 0] S256x2048.size inb_S2048x2048_S256x2048_256_0, k0_pay24 (k0_pay23 (View.ld x2 (Rect.unit (s := S2048x768) ![256, 0] S256x768.size inb_S2048x768_S256x768_256_0)) (View.ld x4 (Rect.unit (s := S16x768x2048) (k0_off1 i (w 0) (w 1) (w 2) (w 3) (w 4) (w 5) (w 6) (w 7) (w 8) (w 9) (w 10) (w 11) (w 12) (w 13) (w 14) 256#32) S1x768x2048.size (k0_off1_inb i (w 0) (w 1) (w 2) (w 3) (w 4) (w 5) (w 6) (w 7) (w 8) (w 9) (w 10) (w 11) (w 12) (w 13) (w 14) hw 1)))) (View.ld x7 (Rect.unit (s := S2048x1) ![256, 0] S256x1.size inb_S2048x1_S256x1_256_0)) (View.ld x5 (Rect.unit (s := S16x2048) (k0_off2 i (w 0) (w 1) (w 2) (w 3) (w 4) (w 5) (w 6) (w 7) (w 8) (w 9) (w 10) (w 11) (w 12) (w 13) (w 14) 256#32) S1x2048.size (k0_off2_inb i (w 0) (w 1) (w 2) (w 3) (w 4) (w 5) (w 6) (w 7) (w 8) (w 9) (w 10) (w 11) (w 12) (w 13) (w 14) hw 1)))⟩,
    ⟨Rect.unit (s := S2048x2048) ![0, 0] S256x2048.size inb_S2048x2048_S256x2048_0_0, k0_pay22 (View.ld x2 (Rect.unit (s := S2048x768) ![0, 0] S256x768.size inb_S2048x768_S256x768_0_0)) (View.ld x4 (Rect.unit (s := S16x768x2048) (k0_off1 i (w 0) (w 1) (w 2) (w 3) (w 4) (w 5) (w 6) (w 7) (w 8) (w 9) (w 10) (w 11) (w 12) (w 13) (w 14) 0#32) S1x768x2048.size (k0_off1_inb i (w 0) (w 1) (w 2) (w 3) (w 4) (w 5) (w 6) (w 7) (w 8) (w 9) (w 10) (w 11) (w 12) (w 13) (w 14) hw 0))) (View.ld x7 (Rect.unit (s := S2048x1) ![0, 0] S256x1.size inb_S2048x1_S256x1_0_0)) (View.ld x5 (Rect.unit (s := S16x2048) (k0_off2 i (w 0) (w 1) (w 2) (w 3) (w 4) (w 5) (w 6) (w 7) (w 8) (w 9) (w 10) (w 11) (w 12) (w 13) (w 14) 0#32) S1x2048.size (k0_off2_inb i (w 0) (w 1) (w 2) (w 3) (w 4) (w 5) (w 6) (w 7) (w 8) (w 9) (w 10) (w 11) (w 12) (w 13) (w 14) hw 0)))⟩]

def firstPay (r : Fin 8) : (⟨2, S256x2048.size⟩ : Shape).Idx → Elt F .bf16 :=
  k0_pay22 (View.ld x2 (Rect.unit (s := S2048x768) ![256 * r.val, 0] S256x768.size (Fin.forall_fin_two.mpr ⟨by show 256 * r.val + 256 ≤ 2048; omega, le_of_eq (Nat.zero_add _)⟩)))
    (View.ld x4 (Rect.unit (s := S16x768x2048) (k0_off1 i (w 0) (w 1) (w 2) (w 3) (w 4) (w 5) (w 6) (w 7) (w 8) (w 9) (w 10) (w 11) (w 12) (w 13) (w 14) (BitVec.ofNat 32 (256 * r.val))) S1x768x2048.size (k0_off1_inb i (w 0) (w 1) (w 2) (w 3) (w 4) (w 5) (w 6) (w 7) (w 8) (w 9) (w 10) (w 11) (w 12) (w 13) (w 14) hw r)))
    (View.ld x7 (Rect.unit (s := S2048x1) ![256 * r.val, 0] S256x1.size (Fin.forall_fin_two.mpr ⟨by show 256 * r.val + 256 ≤ 2048; omega, le_of_eq (Nat.zero_add _)⟩)))
    (View.ld x5 (Rect.unit (s := S16x2048) (k0_off2 i (w 0) (w 1) (w 2) (w 3) (w 4) (w 5) (w 6) (w 7) (w 8) (w 9) (w 10) (w 11) (w 12) (w 13) (w 14) (BitVec.ofNat 32 (256 * r.val))) S1x2048.size (k0_off2_inb i (w 0) (w 1) (w 2) (w 3) (w 4) (w 5) (w 6) (w 7) (w 8) (w 9) (w 10) (w 11) (w 12) (w 13) (w 14) hw r)))

theorem firstPieces_eq : firstPieces x2 x4 x5 x7 i w hw
    = View.tilePieces (s := S2048x2048) (NT := 8) S256x2048.size (fun r => ![256 * r.val, 0]) (fun r => Fin.forall_fin_two.mpr ⟨by show 256 * r.val + 256 ≤ 2048; omega, le_of_eq (Nat.zero_add _)⟩) (firstPay x2 x4 x5 x7 i w hw) 8 le_rfl := rfl

theorem firstPay_eq (h : Fill w) (r : Fin 8) : firstPay x2 x4 x5 x7 i w hw r = part x2 x4 x5 x7 (256 * r.val) (cN w (2048 * (i 0).val + 256 * r.val)) := by
  have hr := r.isLt
  have hc : (BitVec.ofNat 32 (256 * r.val)).toNat = 256 * r.val := by rw [BitVec.toNat_ofNat]; omega
  have hg := grp_toNat i h (BitVec.ofNat 32 (256 * r.val)) (by omega)
  rw [hc] at hg
  unfold firstPay part
  rw [ld_rows _ (256 * r.val) (by omega) _ rfl, ld_rowScales _ (256 * r.val) (by omega) _ rfl,
    ld_weights _ _ (cN_le _) _ (by rw [off1_eq, hg]), ld_colScales _ _ (cN_le _) _ (by rw [off2_eq, hg])]

theorem done_first (h : Fill w) {sp : Space} (m : Memref sig .tc sp S2048x2048 .bf16) (f : m.view.ty.Contents (Elt F)) :
    Done x2 x4 x5 x7 w i (gFirst i w + 1) (m.view.read (Elt F) (m.view.writes (Elt F) f (firstPieces x2 x4 x5 x7 i w hw))) := by
  refine done_init _ _ _ _ i _ fun y => ?_
  have hy : (y 0).val < 2048 := (y 0).isLt
  rw [firstPieces_eq, View.read_tilePieces m.view f _ _ _ _ 8 le_rfl y (⟨(y 0).val / 256, by omega⟩ : Fin 8) (by show (y 0).val / 256 < 8; omega)
    (ix2 (⟨(y 0).val % 256, Nat.mod_lt _ (by norm_num)⟩ : Fin 256) (⟨(y 1).val, (y 1).isLt⟩ : Fin 2048)) (Fin.forall_fin_two.mpr ⟨by show (y 0).val = 256 * ((y 0).val / 256) + (y 0).val % 256; omega, (Nat.zero_add _).symm⟩)
    (0 : Fin 2) (fun i' hi' => by
      have : i'.val ≠ (y 0).val / 256 := fun h => hi' (Fin.ext h)
      show (y 0).val < 256 * i'.val ∨ 256 * i'.val + 256 ≤ (y 0).val
      omega), firstPay_eq x2 x4 x5 x7 i w hw h]

end Cert.KernelIdeal.Tile

end
-- ==== Proof.KernelIdealRun.lean ====
module

public import proofs.«01_k».proof.Proof.KernelIdealInv
public import proofs.«01_k».proof.Proof.KernelIdealPieces

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.KernelIdeal Cert.KernelIdeal.Gen Cert.KernelIdeal.Words Cert.KernelIdeal.Tile Cert.Groups

variable {F : FTy → Type} [FloatOps F]
local notation "𝕄" => MT nD τ sig Unit (Elt F) ℕ (UR sig nD τ) ℕ

/-! The whole body of a grid point. -/

/-- The words as the body reads them, one by one. -/
def raw (arg1 : Memref sig .tc .smem S16 .i32) (f1 : arg1.view.ty.Contents (Elt F)) : ℕ → BitVec 32
  | 0 => arg1.view.readAt (Elt F) (Rect.unit (s := S16) ![0] S1.size inb_S16_S1_0).toLoadRect f1 (Shape.Idx.first (Nat.one_pos.trans_eq numel1_S1.symm))
  | 1 => arg1.view.readAt (Elt F) (Rect.unit (s := S16) ![1] S1.size inb_S16_S1_1).toLoadRect f1 (Shape.Idx.first (Nat.one_pos.trans_eq numel1_S1.symm))
  | 2 => arg1.view.readAt (Elt F) (Rect.unit (s := S16) ![2] S1.size inb_S16_S1_2).toLoadRect f1 (Shape.Idx.first (Nat.one_pos.trans_eq numel1_S1.symm))
  | 3 => arg1.view.readAt (Elt F) (Rect.unit (s := S16) ![3] S1.size inb_S16_S1_3).toLoadRect f1 (Shape.Idx.first (Nat.one_pos.trans_eq numel1_S1.symm))
  | 4 => arg1.view.readAt (Elt F) (Rect.unit (s := S16) ![4] S1.size inb_S16_S1_4).toLoadRect f1 (Shape.Idx.first (Nat.one_pos.trans_eq numel1_S1.symm))
  | 5 => arg1.view.readAt (Elt F) (Rect.unit (s := S16) ![5] S1.size inb_S16_S1_5).toLoadRect f1 (Shape.Idx.first (Nat.one_pos.trans_eq numel1_S1.symm))
  | 6 => arg1.view.readAt (Elt F) (Rect.unit (s := S16) ![6] S1.size inb_S16_S1_6).toLoadRect f1 (Shape.Idx.first (Nat.one_pos.trans_eq numel1_S1.symm))
  | 7 => arg1.view.readAt (Elt F) (Rect.unit (s := S16) ![7] S1.size inb_S16_S1_7).toLoadRect f1 (Shape.Idx.first (Nat.one_pos.trans_eq numel1_S1.symm))
  | 8 => arg1.view.readAt (Elt F) (Rect.unit (s := S16) ![8] S1.size inb_S16_S1_8).toLoadRect f1 (Shape.Idx.first (Nat.one_pos.trans_eq numel1_S1.symm))
  | 9 => arg1.view.readAt (Elt F) (Rect.unit (s := S16) ![9] S1.size inb_S16_S1_9).toLoadRect f1 (Shape.Idx.first (Nat.one_pos.trans_eq numel1_S1.symm))
  | 10 => arg1.view.readAt (Elt F) (Rect.unit (s := S16) ![10] S1.size inb_S16_S1_10).toLoadRect f1 (Shape.Idx.first (Nat.one_pos.trans_eq numel1_S1.symm))
  | 11 => arg1.view.readAt (Elt F) (Rect.unit (s := S16) ![11] S1.size inb_S16_S1_11).toLoadRect f1 (Shape.Idx.first (Nat.one_pos.trans_eq numel1_S1.symm))
  | 12 => arg1.view.readAt (Elt F) (Rect.unit (s := S16) ![12] S1.size inb_S16_S1_12).toLoadRect f1 (Shape.Idx.first (Nat.one_pos.trans_eq numel1_S1.symm))
  | 13 => arg1.view.readAt (Elt F) (Rect.unit (s := S16) ![13] S1.size inb_S16_S1_13).toLoadRect f1 (Shape.Idx.first (Nat.one_pos.trans_eq numel1_S1.symm))
  | 14 => arg1.view.readAt (Elt F) (Rect.unit (s := S16) ![14] S1.size inb_S16_S1_14).toLoadRect f1 (Shape.Idx.first (Nat.one_pos.trans_eq numel1_S1.symm))
  | n => words (arg1.view.read (Elt F) f1) n

theorem raw_eq (arg1 : Memref sig .tc .smem S16 .i32) (f1 : arg1.view.ty.Contents (Elt F)) : raw arg1 f1 = words (arg1.view.read (Elt F) f1) := by
  funext n
  unfold raw
  split
  · exact readAt_word arg1 f1 0 (by omega) _ rfl _ _
  · exact readAt_word arg1 f1 1 (by omega) _ rfl _ _
  · exact readAt_word arg1 f1 2 (by omega) _ rfl _ _
  · exact readAt_word arg1 f1 3 (by omega) _ rfl _ _
  · exact readAt_word arg1 f1 4 (by omega) _ rfl _ _
  · exact readAt_word arg1 f1 5 (by omega) _ rfl _ _
  · exact readAt_word arg1 f1 6 (by omega) _ rfl _ _
  · exact readAt_word arg1 f1 7 (by omega) _ rfl _ _
  · exact readAt_word arg1 f1 8 (by omega) _ rfl _ _
  · exact readAt_word arg1 f1 9 (by omega) _ rfl _ _
  · exact readAt_word arg1 f1 10 (by omega) _ rfl _ _
  · exact readAt_word arg1 f1 11 (by omega) _ rfl _ _
  · exact readAt_word arg1 f1 12 (by omega) _ rfl _ _
  · exact readAt_word arg1 f1 13 (by omega) _ rfl _ _
  · exact readAt_word arg1 f1 14 (by omega) _ rfl _ _
  · rfl

/-- What holds before the loop: the sum up to the next group, and the first pass. -/
theorem turn_first (c : Dev nD) (i : grid0.Coords) (arg1 : Memref sig .tc .smem S16 .i32) (harg1 : arg1.IsWhole) (arg2 : Memref sig .tc .vmem S2048x768 .fp8e4m3) (harg2 : arg2.IsWhole) (arg3 : Memref sig .tc .vmem S1x16x128 .f32) (harg3 : arg3.IsWhole) (arg4 : Memref sig .tc .vmem S16x768x2048 .fp8e4m3) (harg4 : arg4.IsWhole) (arg5 : Memref sig .tc .vmem S16x2048 .f32) (harg5 : arg5.IsWhole) (arg6 : Memref sig .tc .vmem S2048x2048 .bf16) (harg6 : arg6.IsWhole) (arg7 : Memref sig .tc .vmem S2048x1 .f32) (harg7 : arg7.IsWhole)
    (f1 : Buf (Elt F) (arg1.view.loc (c : Thread nD τ))) (f2 : Buf (Elt F) (arg2.view.loc (c : Thread nD τ))) (f4 : Buf (Elt F) (arg4.view.loc (c : Thread nD τ))) (f5 : Buf (Elt F) (arg5.view.loc (c : Thread nD τ))) (f7 : Buf (Elt F) (arg7.view.loc (c : Thread nD τ))) (f : Buf (Elt F) (arg6.view.loc (c : Thread nD τ))) (hF : Fill (words (arg1.view.read (Elt F) f1))) (hw : k0_chk1 i ((raw arg1 f1) 0) ((raw arg1 f1) 1) ((raw arg1 f1) 2) ((raw arg1 f1) 3) ((raw arg1 f1) 4) ((raw arg1 f1) 5) ((raw arg1 f1) 6) ((raw arg1 f1) 7) ((raw arg1 f1) 8) ((raw arg1 f1) 9) ((raw arg1 f1) 10) ((raw arg1 f1) 11) ((raw arg1 f1) 12) ((raw arg1 f1) 13) ((raw arg1 f1) 14)) :
    Turn c i arg1 arg2 arg4 arg5 arg6 arg7 0 (pick (raw arg1 f1) (lb i (raw arg1 f1)) 0#32 15) f1 f2 f4 f5 f7
      (arg6.view.writes (Elt F) f (firstPieces (arg2.view.read (Elt F) f2) (arg4.view.read (Elt F) f4) (arg5.view.read (Elt F) f5) (arg7.view.read (Elt F) f7) i (raw arg1 f1) hw)) := by
  have hR : Fill (raw arg1 f1) := by rw [raw_eq]; exact hF
  have hd := done_first (arg2.view.read (Elt F) f2) (arg4.view.read (Elt F) f4) (arg5.view.read (Elt F) f5) (arg7.view.read (Elt F) f7) i (raw arg1 f1) hw hR arg6 f
  have e := lb_toNat i hR
  have g2 := gLast_le i (w := (raw arg1 f1))
  have ha : 0 < gLast i (raw arg1 f1) - gFirst i (raw arg1 f1) → (pick (raw arg1 f1) (lb i (raw arg1 f1)) 0#32 15).toNat = S (raw arg1 f1) (gFirst i (raw arg1 f1) + 1) := by
    intro hk
    rw [pick_eq (lb i (raw arg1 f1)) 0#32 (n := 15) (by norm_num) (by omega) (by omega), psum_toNat hR (by omega), e]
  rw [raw_eq] at ha
  refine ⟨?_, ?_⟩
  · rw [raw_eq]; exact ha
  · have h0 : gFirst i (words (arg1.view.read (Elt F) f1)) + 1 + 0 = gFirst i (raw arg1 f1) + 1 := by rw [raw_eq, Nat.add_zero]
    rw [h0, ← raw_eq]
    exact hd

theorem read_whole (arg3 : Memref sig .tc .vmem S1x16x128 .f32) (f3 : arg3.view.ty.Contents (Elt F)) : (arg3.view.readAt (Elt F) (Rect.unit (s := S1x16x128) ![0, 0, 0] S1x16x128.size inb_S1x16x128_S1x16x128_0_0_0).toLoadRect f3) = (arg3.view.read (Elt F) f3) := by
  funext j
  exact View.ld_unit_apply_of (arg3.view.read (Elt F) f3) _ _ _ j j (by intro a; fin_cases a <;> exact (Nat.zero_add _).symm)

/-- What holds after the last turn is the whole tile. -/
theorem tile_of_turn (c : Dev nD) (i : grid0.Coords) (arg1 : Memref sig .tc .smem S16 .i32) (harg1 : arg1.IsWhole) (arg2 : Memref sig .tc .vmem S2048x768 .fp8e4m3) (harg2 : arg2.IsWhole) (arg3 : Memref sig .tc .vmem S1x16x128 .f32) (harg3 : arg3.IsWhole) (arg4 : Memref sig .tc .vmem S16x768x2048 .fp8e4m3) (harg4 : arg4.IsWhole) (arg5 : Memref sig .tc .vmem S16x2048 .f32) (harg5 : arg5.IsWhole) (arg6 : Memref sig .tc .vmem S2048x2048 .bf16) (harg6 : arg6.IsWhole) (arg7 : Memref sig .tc .vmem S2048x1 .f32) (harg7 : arg7.IsWhole)
    (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f : Buf (Elt F) (arg7.view.loc (c : Thread nD τ))) (hF : Fill (words (arg1.view.read (Elt F) f1))) (acc : BitVec 32)
    (n : ℕ) (hn : n = (k0_t1_loop i ((raw arg1 f1) 0) ((raw arg1 f1) 1) ((raw arg1 f1) 2) ((raw arg1 f1) 3) ((raw arg1 f1) 4) ((raw arg1 f1) 5) ((raw arg1 f1) 6) ((raw arg1 f1) 7) ((raw arg1 f1) 8) ((raw arg1 f1) 9) ((raw arg1 f1) 10) ((raw arg1 f1) 11) ((raw arg1 f1) 12) ((raw arg1 f1) 13) ((raw arg1 f1) 14)).trips)
    (hT : Turn c i arg1 arg2 arg4 arg5 arg6 arg7 n acc f1 f2 f4 f5 (arg7.view.writes (Elt F) f (columnPieces (arg3.view.readAt (Elt F) (Rect.unit (s := S1x16x128) ![0, 0, 0] S1x16x128.size inb_S1x16x128_S1x16x128_0_0_0).toLoadRect f3))) f6) :
    (arg6.view.read (Elt F) f6) = tile (arg2.view.read (Elt F) f2) (arg4.view.read (Elt F) f4) (arg5.view.read (Elt F) f5) (column (arg3.view.read (Elt F) f3)) (words (arg1.view.read (Elt F) f1)) i := by
  have hR : Fill (raw arg1 f1) := by rw [raw_eq]; exact hF
  have e := trips_eq i hR
  rw [← hn] at e
  have h := hT.2
  rw [read_column, read_whole] at h
  rw [raw_eq] at e
  exact done_all _ _ _ _ i _ _ (by have := gFirst_le i (w := words (arg1.view.read (Elt F) f1)); omega) h

set_option maxHeartbeats 8000000 in
/-- The whole body of a grid point: it leaves the operand blocks, and the output block holds `tile`. -/
theorem run (c : Dev nD) (i : grid0.Coords) (arg1 : Memref sig .tc .smem S16 .i32) (harg1 : arg1.IsWhole) (arg2 : Memref sig .tc .vmem S2048x768 .fp8e4m3) (harg2 : arg2.IsWhole) (arg3 : Memref sig .tc .vmem S1x16x128 .f32) (harg3 : arg3.IsWhole) (arg4 : Memref sig .tc .vmem S16x768x2048 .fp8e4m3) (harg4 : arg4.IsWhole) (arg5 : Memref sig .tc .vmem S16x2048 .f32) (harg5 : arg5.IsWhole) (arg6 : Memref sig .tc .vmem S2048x2048 .bf16) (harg6 : arg6.IsWhole) (arg7 : Memref sig .tc .vmem S2048x1 .f32) (harg7 : arg7.IsWhole)
    (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (hF : Fill (words (arg1.view.read (Elt F) f1))) (K : PUnit → sProp 𝕄) :
    iprop(pt c arg1 f1 ∗ pt c arg2 f2 ∗ pt c arg3 f3 ∗ pt c arg4 f4 ∗ pt c arg5 f5 ∗ pt c arg6 f6 ∗ pt c arg7 f7
      ∗ (∀ f6' f7', ⌜arg6.view.read (Elt F) f6' = tile (arg2.view.read (Elt F) f2) (arg4.view.read (Elt F) f4) (arg5.view.read (Elt F) f5) (column (arg3.view.read (Elt F) f3)) (words (arg1.view.read (Elt F) f1)) i⌝ ∗ pt c arg1 f1 ∗ pt c arg2 f2 ∗ pt c arg3 f3 ∗ pt c arg4 f4 ∗ pt c arg5 f5 ∗ pt c arg6 f6' ∗ pt c arg7 f7' -∗ K ⟨⟩))
      ⊢ wp frame (wpE (defs₀ (F := F)) Variants.none (c : Thread nD τ) none) Set.univ (cc0_grouped_fp8_dot i arg1 harg1 arg2 harg2 arg3 harg3 arg4 harg4 arg5 harg5 arg6 harg6 arg7 harg7) K := by
  simp only [cc0_grouped_fp8_dot_eq_skeleton]; unfold cc0_grouped_fp8_dot_skel
  have hR : Fill (raw arg1 f1) := by rw [raw_eq]; exact hF
  have hchk1 := Words.chk1 i hR
  have htr := Words.t2_trips i (w := (raw arg1 f1))
  have hE : Entry i (arg1.view.read (Elt F) f1) (row0 i) ((raw arg1 f1) 0) ((raw arg1 f1) 1) ((raw arg1 f1) 2) ((raw arg1 f1) 3) ((raw arg1 f1) 4) ((raw arg1 f1) 5) ((raw arg1 f1) 6) ((raw arg1 f1) 7) ((raw arg1 f1) 8) ((raw arg1 f1) 9) ((raw arg1 f1) 10) ((raw arg1 f1) 11) ((raw arg1 f1) 12) ((raw arg1 f1) 13) ((raw arg1 f1) 14) (lb i (raw arg1 f1)) := by
    rw [raw_eq]; exact ⟨hF, rfl, ⟨rfl, rfl, rfl, rfl, rfl, rfl, rfl, rfl, rfl, rfl, rfl, rfl, rfl, rfl, rfl⟩, rfl⟩
  have hT0 := turn_first c i arg1 harg1 arg2 harg2 arg3 harg3 arg4 harg4 arg5 harg5 arg6 harg6 arg7 harg7 f1 f2 f4 f5 (arg7.view.writes (Elt F) arg7.view.junk (columnPieces (arg3.view.readAt (Elt F) (Rect.unit (s := S1x16x128) ![0, 0, 0] S1x16x128.size inb_S1x16x128_S1x16x128_0_0_0).toLoadRect f3))) arg6.view.junk hF hchk1
  unfold pt
  iintro ⟨H1, H2, H3, H4, H5, H6, H7, Hk⟩
  sl_exec
  sl_step
  iapply Hk $$ %f6L0 %_
  isplitr
  · ipureintro
    exact tile_of_turn c i arg1 harg1 arg2 harg2 arg3 harg3 arg4 harg4 arg5 harg5 arg6 harg6 arg7 harg7 f1 f2 f3 f4 f5 f6L0 arg7.view.junk hF _ _ rfl hL7
  isplitl [H1]; · iexact H1
  isplitl [H2]; · iexact H2
  isplitl [H3]; · iexact H3
  isplitl [H4]; · iexact H4
  isplitl [H5]; · iexact H5
  isplitl [H6]; · iexact H6
  iexact H7

end Cert.KernelIdeal.Body

end
-- ==== Proof.KernelIdealLaunch.lean ====
/- The kernel's run and its frame, from the body of one grid point: what each staging buffer holds before and after it. -/
module

public import proofs.«01_k».proof.Proof.KernelIdealRun
public import proofs.«01_k».proof.Proof.Gen.KernelIdeal.Frame
public import Idealize.ShloMosaic.Lib.Pipeline.ValueKit
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Tile Cert.Groups

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body on staging memrefs held at read contents: the operands are left, the output memref is left at `tile`. -/
theorem sound_kernel (c : Dev nD) (i : grid0.Coords) (arg1 : Memref sig .tc .smem S16 .i32) (harg1 : arg1.IsWhole) (arg2 : Memref sig .tc .vmem S2048x768 .fp8e4m3) (harg2 : arg2.IsWhole) (arg3 : Memref sig .tc .vmem S1x16x128 .f32) (harg3 : arg3.IsWhole) (arg4 : Memref sig .tc .vmem S16x768x2048 .fp8e4m3) (harg4 : arg4.IsWhole) (arg5 : Memref sig .tc .vmem S16x2048 .f32) (harg5 : arg5.IsWhole) (arg6 : Memref sig .tc .vmem S2048x2048 .bf16) (harg6 : arg6.IsWhole) (arg7 : Memref sig .tc .vmem S2048x1 .f32) (harg7 : arg7.IsWhole)
    (x1 : Vec F S16 .i32) (x2 : Vec F S2048x768 .fp8e4m3) (x3 : Vec F S1x16x128 .f32) (x4 : Vec F S16x768x2048 .fp8e4m3) (x5 : Vec F S16x2048 .f32) (hF : Fill (words x1)) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (tile x2 x4 x5 (column x3) (words x1) i) ∗ (∃ d, owns (c : Thread nD τ) arg7 fullShare d)) -∗ K ⟨⟩))
      ⊢ wp frame (wpE (defs₀ (F := F)) Variants.none (c : Thread nD τ) none) Set.univ (cc0_grouped_fp8_dot i arg1 harg1 arg2 harg2 arg3 harg3 arg4 harg4 arg5 harg5 arg6 harg6 arg7 harg7) K := by
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  iapply (run c i arg1 harg1 arg2 harg2 arg3 harg3 arg4 harg4 arg5 harg5 arg6 harg6 arg7 harg7 f1 f2 f3 f4 f5 f6 f7 hF K)
  unfold pt
  isplitl [H1]; · iexact H1
  isplitl [H2]; · iexact H2
  isplitl [H3]; · iexact H3
  isplitl [H4]; · iexact H4
  isplitl [H5]; · iexact H5
  isplitl [H6]; · iexact H6
  isplitl [H7]; · iexact H7
  iintro %f6' %f7' ⟨%h6, H1, H2, H3, H4, H5, H6, H7⟩
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6'; isplitr; · ipureintro; exact h6
    iexact H6
  iexists _; iexists f7'; isplitr
  swap; · iexact H7
  ipureintro; rfl

/-! ## The pipeline's proof data -/

/-- What the output block of point `t` holds: the tile of the operand blocks. -/
def outBlock (c : Dev nD) (t : Fin cfg0.N) : Vec F S2048x2048 .bf16 :=
  tile (F := F) (iblk m c 1 t) (iblk m c 3 t) (iblk m c 4 t) (column (F := F) (iblk m c 2 t)) (words (F := F) (iblk m c 0 t)) (grid0.coords t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outBlock m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The block of the group sizes is the whole array. -/
theorem iblk_sizes (c : Dev nD) (t : Fin cfg0.N) : (iblk m c 0 t : Vec F S16 .i32) = m ((c : Thread nD τ).loc main_arg2) := by
  rw [← V_main_arg2 m c]
  funext y
  have hi : ∀ t : Fin cfg0.N, win0_0.index t = ![0] := (by decide +kernel : ∀ t : Fin grid0.N, win0_0.index t = ![0])
  blk_simp [iblk, hi]
  blk_ext [hi]

/-! ## The body obligation, at a generic point -/

/-- The group sizes of every device fill the tokens. -/
def Filled : Prop := ∀ c : Dev nD, Fill (words (F := F) (m ((c : Thread nD τ).loc main_arg2)))

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The scratch buffer, held whole, is the scratch memref owned, -/
theorem scratch_owns (c : Dev nD) (g : Buf (Elt F) ((c : Thread nD τ).loc cc0_scratch0)) :
    (((c : Thread nD τ).loc cc0_scratch0) ↦{fullShare} g : sProp 𝕄) ⊢ iprop(∃ d, owns (c : Thread nD τ) (Memref.whole cc0_scratch0) fullShare d) := by
  iintro H
  iexists g
  rw [owns_whole]
  iexact H

/-- and back. -/
theorem owns_scratch (c : Dev nD) (d) :
    (owns (c : Thread nD τ) (Memref.whole cc0_scratch0) fullShare d : sProp 𝕄) ⊢ iprop(∃ f : Buf (Elt F) ((c : Thread nD τ).loc cc0_scratch0), ((c : Thread nD τ).loc cc0_scratch0) ↦{fullShare} f) := by
  rw [owns_whole]
  iintro H
  iexists d
  iexact H

set_option maxHeartbeats 1000000 in
theorem sound_body (hF : Filled m) (c : Dev nD) (t : Fin cfg0.N) :
    bodyPre m c t ⊢ wp frame (wpE (defs₀ (F := F)) Variants.none c none) Set.univ (bodyAt0 t) (fun _ => bodyPost m c t) := by
  have hf : Fill (words (F := F) (iblk m c 0 t)) := by rw [iblk_sizes]; exact hF c
  unfold bodyPre bodyPost bodyAt0
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5]
  unfold Pipeline.ΦA
  rw [scopedRest0_eq]
  iintro ⟨⟨⟨%g, Hg⟩, Hr⟩, Ho, ⟨%d0, H0⟩, ⟨%d1, H1⟩, ⟨%d2, H2⟩, ⟨%d3, H3⟩, ⟨%d4, H4⟩, ⟨%d5, H5⟩⟩
  iapply (sound_kernel c (grid0.coords t) _ _ _ _ _ _ _ _ _ _ _ _ (Memref.whole cc0_scratch0) (Memref.isWhole_whole _) (iblk m c 0 t) (iblk m c 1 t) (iblk m c 2 t) (iblk m c 3 t) (iblk m c 4 t) hf _)
  isplitl [H0]; · iexact H0
  isplitl [H1]; · iexact H1
  isplitl [H2]; · iexact H2
  isplitl [H3]; · iexact H3
  isplitl [H4]; · iexact H4
  isplitl [H5]; · iexists _; iexact H5
  isplitl [Hg]
  · iapply (scratch_owns c g); iexact Hg
  iintro ⟨H0, H1, H2, H3, H4, H5, ⟨%d7, Hg⟩⟩
  isplitl [Hg Hr]
  · isplitl [Hg]
    · iapply (owns_scratch c d7); iexact Hg
    iexact Hr
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (hF : Filled m) (c : Dev nD) : BodyObligation (dats (F := F) m 0 c) (defs₀ (F := F)) Variants.none () Set.univ := fun t => by
  rw [bigSep_W0, bigSep_W0, defs₀_row]
  exact triple_restated (sound_body m hF c t) rfl .rfl fun _ => .rfl

/-! ## The run and the frame -/

set_option backward.isDefEq.respectTransparency.types false in
set_option maxHeartbeats 800000 in
/-- The launch: it terminates, the arrays end at what the proof data say, and every semaphore counter at zero. -/
theorem run_main_quiescent (hF : Filled m) : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m hF c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main (hF : Filled m) : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ hF)

/-- The argument arrays end unchanged. -/
theorem unchanged (hF : Filled m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ hF)

/-- The frame: the kernel terminates without a fault, leaves its arguments, and every semaphore counter ends at zero. -/
theorem frame_all (hF : Filled m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hF) ((θ_run defs _ _).mono (fun _ h => h.2) (run_main_quiescent m ρ hF))

end Cert.KernelIdeal.Body

end
-- ==== Proof.KernelIdealValue.lean ====
/- What the kernel leaves in its output array over the reals, entry by entry, and its run. -/
module

public import proofs.«01_k».proof.Proof.KernelIdealLaunch

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Tile Cert.KernelIdeal.Body Cert.Groups

/-- The entry of a row and a column: the product of the row with the weights of its group, times the two scales. -/
def entry (w : ℕ → BitVec 32) (x : FVec Ideal S98304x768 .fp8e4m3) (a1 : FVec Ideal S98304 .f32) (v : FVec Ideal S16x768x2048 .fp8e4m3)
    (a4 : FVec Ideal S16x2048 .f32) (r : Fin 98304) (n : Fin 2048) : EReal :=
  (∑ k : Fin 768, (x (ix2 r k) * v (ix3 (⟨cN w r.val % 16, Nat.mod_lt _ (by norm_num)⟩ : Fin 16) k n) : EReal)) * a1 (ix1 r)
    * a4 (ix2 (⟨cN w r.val % 16, Nat.mod_lt _ (by norm_num)⟩ : Fin 16) n)

/-- The piece's arithmetic at an entry. -/
theorem pay_apply (a : Vec Ideal S256x768 .fp8e4m3) (b : Vec Ideal S1x768x2048 .fp8e4m3) (s : Vec Ideal S256x1 .f32) (d : Vec Ideal S1x2048 .f32)
    (p : Fin 256) (n : Fin 2048) :
    k0_pay22 (F := Ideal) a b s d (ix2 p n)
      = ((∑ k : Fin 768, (a (ix2 p k) * b (ix3 (0 : Fin 1) k n) : EReal)) * s (ix2 p (0 : Fin 1)) * d (ix2 (0 : Fin 1) n) : EReal) := by
  unfold k0_pay22
  pointwise

/-- The tile at an entry: row `p` with the weights and the scales of its own group. -/
theorem tile_apply (x2 : Vec Ideal S2048x768 .fp8e4m3) (x4 : Vec Ideal S16x768x2048 .fp8e4m3) (x5 : Vec Ideal S16x2048 .f32) (x7 : Vec Ideal S2048x1 .f32)
    (w : ℕ → BitVec 32) (i : grid0.Coords) (p n : Fin 2048) (g : ℕ) (hg : cN w (2048 * (i 0).val + p.val) = g) :
    tile (F := Ideal) x2 x4 x5 x7 w i (ix2 p n)
      = ((∑ k : Fin 768, (x2 (ix2 p k) * x4 (ix3 (⟨g % 16, Nat.mod_lt _ (by norm_num)⟩ : Fin 16) k n) : EReal)) * x7 (ix2 p (0 : Fin 1))
          * x5 (ix2 (⟨g % 16, Nat.mod_lt _ (by norm_num)⟩ : Fin 16) n) : EReal) := by
  subst hg
  have hq : ∀ h, (⟨(256 * (p.val / 256) + p.val % 256) % 2048, h⟩ : Fin 2048) = p := fun h => Fin.ext (by
    have := p.isLt
    show (256 * (p.val / 256) + p.val % 256) % 2048 = p.val
    omega)
  unfold tile part
  refine (pay_apply _ _ _ _ _ _).trans ?_
  have e1 : ∀ k : Fin 768, rows (F := Ideal) x2 (256 * (p.val / 256)) (ix2 (⟨p.val % 256, Nat.mod_lt _ (by norm_num)⟩ : Fin 256) k) = x2 (ix2 p k) := fun k =>
    (show _ = x2 (ix2 (⟨(256 * (p.val / 256) + p.val % 256) % 2048, Nat.mod_lt _ (by norm_num)⟩ : Fin 2048) k) from rfl).trans (by rw [hq])
  have e2 : rowScales (F := Ideal) x7 (256 * (p.val / 256)) (ix2 (⟨p.val % 256, Nat.mod_lt _ (by norm_num)⟩ : Fin 256) (0 : Fin 1)) = x7 (ix2 p (0 : Fin 1)) :=
    (show _ = x7 (ix2 (⟨(256 * (p.val / 256) + p.val % 256) % 2048, Nat.mod_lt _ (by norm_num)⟩ : Fin 2048) (0 : Fin 1)) from rfl).trans (by rw [hq])
  refine congrArg₂ (fun a b : EReal => a * b) (congrArg₂ (fun a b : EReal => a * b) (Finset.sum_congr rfl fun k _ => ?_) e2) rfl
  exact congrArg₂ (fun a b : EReal => a * b) (e1 k) rfl

variable (m : (ℓ : Loc nD τ sig) → Buf (Elt Ideal) ℓ) (ρ : Dev nD → PrngReg)

/-- The windows' blocks: the rows move with the grid point, the weights and their scales are whole. -/
theorem idx : ∀ t : Fin cfg0.N, win0_1.index t = ![t.val, 0] ∧ win0_2.index t = ![t.val, 0, 0] ∧ win0_3.index t = ![0, 0, 0] ∧ win0_4.index t = ![0, 0]
    ∧ win0_5.index t = ![t.val, 0] ∧ (grid0.coords t 0).val = t.val :=
  (by decide +kernel : ∀ t : Fin grid0.N, _)

theorem blk_x (c : Dev nD) (t : Fin cfg0.N) (p : Fin 2048) (k : Fin 768) (r : Fin 98304) (hr : r.val = 2048 * t.val + p.val) :
    (iblk m c 1 t : Vec Ideal S2048x768 .fp8e4m3) (ix2 p k) = (m ((c : Thread nD τ).loc main_arg0) : FVec Ideal S98304x768 .fp8e4m3) (ix2 r k) := by
  blk_ext [iblk, V, idx t]

theorem blk_w (c : Dev nD) (t : Fin cfg0.N) (g : Fin 16) (k : Fin 768) (n : Fin 2048) :
    (iblk m c 3 t : Vec Ideal S16x768x2048 .fp8e4m3) (ix3 g k n) = (m ((c : Thread nD τ).loc main_arg3) : FVec Ideal S16x768x2048 .fp8e4m3) (ix3 g k n) := by
  blk_ext [iblk, V, idx t]

theorem blk_ws (c : Dev nD) (t : Fin cfg0.N) (g : Fin 16) (n : Fin 2048) :
    (iblk m c 4 t : Vec Ideal S16x2048 .f32) (ix2 g n) = (m ((c : Thread nD τ).loc main_arg4) : FVec Ideal S16x2048 .f32) (ix2 g n) := by
  blk_ext [iblk, V, idx t]

/-- The array of row scales the kernel reads: the argument, in blocks of sixteen lines. -/
theorem entry_xs (c : Dev nD) : V m c main_v0 = shapeCast S48x16x128 (m ((c : Thread nD τ).loc main_arg1)) shapeCasts_S98304_S48x16x128 := by
  show StableHlo.after [hostOps0].flatten (fun b => m (c, b)) (Proc.devRef .tc main_v0) = _
  rw [List.flatten_cons, List.flatten_nil, List.append_nil]
  simp only [hostOps0, StableHlo.after_cons, StableHlo.after_nil]
  after_results_simp
  first | with_reducible rfl | rfl

theorem blk_xs (c : Dev nD) (t : Fin cfg0.N) (p : Fin 2048) (r : Fin 98304) (hr : r.val = 2048 * t.val + p.val) :
    column (F := Ideal) (iblk m c 2 t) (ix2 p (0 : Fin 1)) = (m ((c : Thread nD τ).loc main_arg1) : FVec Ideal S98304 .f32) (ix1 r) := by
  have ht : t.val < 48 := lt_of_lt_of_eq t.isLt (by decide)
  have e : (iblk m c 2 t : Vec Ideal S1x16x128 .f32) (ix3 (0 : Fin 1) (⟨p.val / 128 % 16, Nat.mod_lt _ (by norm_num)⟩ : Fin 16) (⟨p.val % 128, Nat.mod_lt _ (by norm_num)⟩ : Fin 128))
      = (V m c main_v0 : Vec Ideal S48x16x128 .f32) (ix3 (⟨t.val, ht⟩ : Fin 48) (⟨p.val / 128 % 16, Nat.mod_lt _ (by norm_num)⟩ : Fin 16) (⟨p.val % 128, Nat.mod_lt _ (by norm_num)⟩ : Fin 128)) := by
    blk_simp [iblk]
    blk_ext [idx t]
  unfold column
  refine e.trans ?_
  rw [entry_xs]
  generalize (m ((c : Thread nD τ).loc main_arg1)) = X
  pointwise
  congr 1
  refine congrArg ix1 (Fin.ext ?_)
  have := p.isLt
  show t.val * 2048 + p.val / 128 % 16 * 128 + p.val % 128 = r.val
  omega

/-- The output array by rows. -/
def outRow (c : Dev nD) : FVec Ideal S98304x2048 .bf16 := fun y =>
  entry (words (F := Ideal) (m ((c : Thread nD τ).loc main_arg2))) (m ((c : Thread nD τ).loc main_arg0)) (m ((c : Thread nD τ).loc main_arg1))
    (m ((c : Thread nD τ).loc main_arg3)) (m ((c : Thread nD τ).loc main_arg4)) (y 0) (y 1)

/-- An entry of the block of a grid point. -/
theorem point (c : Dev nD) (t : Fin cfg0.N) (p n : Fin 2048) (r : Fin 98304) (hr : r.val = 2048 * t.val + p.val) :
    outBlock (F := Ideal) m c t (ix2 p n)
      = entry (words (F := Ideal) (m ((c : Thread nD τ).loc main_arg2))) (m ((c : Thread nD τ).loc main_arg0)) (m ((c : Thread nD τ).loc main_arg1))
          (m ((c : Thread nD τ).loc main_arg3)) (m ((c : Thread nD τ).loc main_arg4)) r n := by
  obtain ⟨-, -, -, -, -, ht⟩ := idx t
  unfold outBlock
  rw [iblk_sizes]
  refine (tile_apply _ _ _ _ _ _ p n _ (by rw [ht, ← hr])).trans ?_
  unfold entry
  refine congrArg₂ (fun a b : EReal => a * b) (congrArg₂ (fun a b : EReal => a * b) (Finset.sum_congr rfl fun k _ => ?_) (blk_xs m c t p r hr)) (blk_ws m c t _ n)
  exact congrArg₂ (fun a b : EReal => a * b) (blk_x m c t p k r hr) (blk_w m c t _ k n)

/-- The output array after the run. -/
theorem final (c : Dev nD) : (dats m 0 c).arrAt 5 (cfgs 0).N = outRow m c := by
  refine (dats m 0 c).arrAt_eq_of_covers 5 _ (by decide +kernel) fun t hf y => ?_
  blk_simp
  rw [after0_5]
  obtain ⟨-, -, -, -, e5, ht⟩ := idx t
  have hy : y = ix2 (⟨(y 0).val, (y 0).isLt⟩ : Fin 2048) (⟨(y 1).val, (y 1).isLt⟩ : Fin 2048) := by blk_ext
  have e0 : (((win0_5.blk t).view.emb y) 0).val = 2048 * t.val + (y 0).val := by
    blk_simp [e5]
    show t.val * 2048 + (y 0).val = _
    omega
  have e1 : (((win0_5.blk t).view.emb y) 1).val = (y 1).val := by blk_simp [e5]
  have hn : (((win0_5.blk t).view.emb y) 1) = (⟨(y 1).val, (y 1).isLt⟩ : Fin 2048) := Fin.ext e1
  unfold outRow
  rw [hn]
  refine (congrArg (outBlock (F := Ideal) m c t) hy).trans ?_
  exact point m c t _ _ _ e0

/-- The result array of the kernel. -/
def out (c : Dev nD) : FVec Ideal S12x8192x2048 .bf16 := shapeCast S12x8192x2048 (outRow m c) shapeCasts_S98304x2048_S12x8192x2048

/-- The result array after the host operation behind the region. -/
theorem tail_out (c : Dev nD) : Pipeline.afterTail₀ cfgs (dats m) 0 (V0 m) [hostOps1] c main_v2 = out m c := by
  have e : ∀ σ : Valuation τ sig (Elt Ideal), StableHlo.after [hostOps1].flatten σ (Proc.devRef .tc main_v2)
      = shapeCast S12x8192x2048 (σ (Proc.devRef .tc main_v1)) shapeCasts_S98304x2048_S12x8192x2048 := by
    intro σ
    rw [List.flatten_cons, List.flatten_nil, List.append_nil]
    simp only [hostOps1, StableHlo.after_cons, StableHlo.after_nil]
    after_results_simp
    first | with_reducible rfl | rfl
  unfold Pipeline.afterTail₀
  rw [e]
  have h := Pipeline.withArrays_arr (cfgs 0).spec winFacts0.arr_inj c (V0 m c) (fun w => (dats m 0 c).arrAt w (cfgs 0).N) 5
  have h' := h.trans (final m c)
  unfold out
  congr 1

/-- Every run of the kernel ends with that result and its arguments as they were. -/
theorem run (hF : Filled m) : θ_run defs (onTc (τ := τ) (main (F := Ideal))) ⟨m, fun _ => 0, ρ⟩ (fun r => ∀ c : Dev nD,
      r.2.mem ((c.tc : Thread nD τ).loc main_v2) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (θ_run_and (run_main m ρ hF) (unchanged m ρ hF))
  exact ⟨(h.1.rest_eq c main_v2 (Pipeline.mem_restRefs_of main_v2 (by decide) (by decide))).trans (tail_out m c), h.2 c⟩

end Cert.KernelIdeal.Value
-- ==== Proof.ReferenceOps.lean ====
/- The reference's host operations, as functions of the arrays they read: which groups a row belongs to, the product summed
   over the groups, the group of each row, and the scaled result. -/
module

public import proofs.«01_k».proof.Proof.Gen.ReferenceIdeal.Frame
public import Idealize.ShloMosaic.Lib.Claim

@[expose] public section

set_option maxRecDepth 16384

noncomputable section

namespace Cert.ReferenceIdeal.Value

open Idealize.ShloMosaic Idealize.ShloMosaic.TcCoe Idealize.SL.Sem
open Cert.ReferenceIdeal Cert.ReferenceIdeal.Gen

variable {F : FTy → Type} [FloatOps F]

/-- The running sums of sixteen words: entry `j` is the sum of the entries up to `j`. -/
def sums16 (x : IVec S16 32) : IVec S16 32 :=
  Host.reduceWindow IntOp.addi ![16] ![1] ![15] ![0] x (broadcastInDim S_ ![] bcast_S_S_ (constantI S_ 32 0#32))
    reduceWindows_S16_S16_w16s1p15_0 h_S_

/-- The running sums of a word per row. -/
def sumsRows (x : IVec S98304 32) : IVec S98304 32 :=
  Host.reduceWindow IntOp.addi ![98304] ![1] ![98303] ![0] x (broadcastInDim S_ ![] bcast_S_S_ (constantI S_ 32 0#32))
    reduceWindows_S98304_S98304_w98304s1p98303_0 h_S_

/-- Whether a row lies in a group: at or after the group's start, before its end. -/
def member (ends a2 : IVec S16 32) : IVec S98304x16 1 :=
  andi
    (cmpi .sle (broadcastInDim S98304x16 ![0, 1] bcast_S1x16_S98304x16_0_1 (broadcastInDim S1x16 ![1] bcast_S16_S1x16_1 (subi ends a2)))
      (broadcastInDim S98304x16 ![0, 1] bcast_S98304x1_S98304x16_0_1 (broadcastInDim S98304x1 ![0] bcast_S98304_S98304x1_0 (iotaInDim S98304 32 0))))
    (cmpi .slt
      (broadcastInDim S98304x16 ![0, 1] bcast_S98304x1_S98304x16_0_1 (broadcastInDim S98304x1 ![0] bcast_S98304_S98304x1_0 (iotaInDim S98304 32 0)))
      (broadcastInDim S98304x16 ![0, 1] bcast_S1x16_S98304x16_0_1 (broadcastInDim S1x16 ![1] bcast_S16_S1x16_1 ends)))

/-- A row in the groups it belongs to, zero in the others. -/
def spread (mem : IVec S98304x16x1 1) (x : FVec F S98304x1x768 .f32) (z : FVec F S_ .f32) : FVec F S98304x16x768 .f32 :=
  select (broadcastInDim S98304x16x768 ![0, 1, 2] bcast_S98304x16x1_S98304x16x768_0_1_2 mem)
    (broadcastInDim S98304x16x768 ![0, 1, 2] bcast_S98304x1x768_S98304x16x768_0_1_2 x)
    (broadcastInDim S98304x16x768 ![] bcast_S_S98304x16x768 z)

/-- The product of the spread rows with the weights, summed over the groups and the rows' entries. -/
def product (x : FVec F S98304x16x768 .f32) (w : FVec F S16x768x2048 .f32) : FVec F S98304x2048 .f32 :=
  Host.dotGeneral dot_S98304x16x768_S16x768x2048_S98304x2048_12_01_0_2_n_n none x w

/-- The sizes moved on by one place, the last one first. -/
def rolled (a2 : IVec S16 32) : IVec S16 32 :=
  concatenate S16 0 [⟨S1, extractStridedSlice S1 ![15] a2 slices_S16_S1_15⟩, ⟨S15, extractStridedSlice S15 ![0] a2 slices_S16_S15_0⟩]
    concatenates_S1_S15_S16_d0

/-- The same with a zero at the first place. -/
def shifted (x : IVec S16 32) : IVec S16 32 :=
  Host.scatter scatter_S16_S1_S__n_0_0_0 (fun _ b => b) x (broadcastInDim S1 ![] bcast_S_S1 (constantI S_ 32 0#32)) (constantI S_ 32 0#32)

/-- How many groups begin at each row. -/
def begins (x : IVec S16 32) : IVec S98304 32 :=
  Host.scatter scatter_S98304_S16x1_S16_n_0_0_1 IntOp.addi (broadcastInDim S98304 ![] bcast_S_S98304 (constantI S_ 32 0#32))
    (broadcastInDim S16x1 ![0] bcast_S16_S16x1_0
      (select (cmpi .slt x (broadcastInDim S16 ![] bcast_S_S16 (constantI S_ 32 0#32)))
        (addi x (broadcastInDim S16 ![] bcast_S_S16 (constantI S_ 32 98304#32))) x))
    (broadcastInDim S16 ![] bcast_S_S16 (constantI S_ 32 1#32))

/-- The running sum less one. -/
def less1 (x : IVec S98304 32) : IVec S98304 32 := subi x (broadcastInDim S98304 ![] bcast_S_S98304 (constantI S_ 32 1#32))

/-- An index of sixteen places, a negative one counted from the end; as a column. -/
def wrap (x : IVec S98304 32) : IVec S98304x1 32 :=
  broadcastInDim S98304x1 ![0] bcast_S98304_S98304x1_0
    (select (cmpi .slt x (broadcastInDim S98304 ![] bcast_S_S98304 (constantI S_ 32 0#32)))
      (addi x (broadcastInDim S98304 ![] bcast_S_S98304 (constantI S_ 32 16#32))) x)

/-- Whether an index is one of the sixteen places. -/
def inside (i : IVec S98304x1 32) : IVec S98304 1 :=
  Host.reduce IntOp.andi
    (andi (cmpi .sge i (broadcastInDim S98304x1 ![] bcast_S_S98304x1 (constantI S_ 32 0#32)))
      (cmpi .sle i (broadcastInDim S98304x1 ![0, 1] bcast_S1x1_S98304x1_0_1 (broadcastInDim S1x1 ![1] bcast_S1_S1x1_1 (constantI S1 32 15#32)))))
    (constantI S_ 1 1#1) reducesTo_S98304x1_S98304_d1 h_S_

/-- The entry of a table of sixteen at each index, a fixed word where the index is no place. -/
def taken (tab : IVec S16 32) (x : IVec S98304 32) : IVec S98304 32 :=
  select (inside (wrap x)) (Host.gather gather_S16_S98304x1_S98304_n_0_n_n_0_1_1 tab (wrap x))
    (broadcastInDim S98304 ![] bcast_S_S98304 (constantI S_ 32 2147483648#32))

/-- The product scaled by the row's scale and by the scale of the row's group and the column, rounded. -/
def scaled (y : FVec F S98304x2048 .f32) (a1 : FVec F S98304 .f32) (a4 : FVec F S16x2048 .f32) (e : IVec S98304 32) : FVec F S98304x2048 .bf16 :=
  truncf .bf16
    (mulf
      (mulf y (broadcastInDim S98304x2048 ![0, 1] bcast_S98304x1_S98304x2048_0_1 (broadcastInDim S98304x1 ![0] bcast_S98304_S98304x1_0 a1)))
      (Host.gather gather_S16x2048_S98304x1_S98304x2048_1_0_n_n_0_1_12048 a4 (wrap e)))
    bitsLt_bf16_f32

variable (σ : Valuation τ sig (Elt F))

theorem read_1 : StableHlo.after hostOps1 σ (Proc.devRef .tc main_v1) = sums16 (σ (Proc.devRef .tc main_arg2)) := by
  simp only [hostOps1, StableHlo.after_cons, StableHlo.after_nil]
  after_results_simp
  simp -implicitDefEqProofs only [StableHlo.TRef.ofBuf_toBuf]
  simp -implicitDefEqProofs only [StableHlo.TRef.toBuf, StableHlo.TRef.ofBuf, cast_cast, cast_eq]
  unfold sums16
  first | with_reducible rfl | rfl

theorem read_2_mem : StableHlo.after hostOps1_1 σ (Proc.devRef .tc main_v14)
    = broadcastInDim S98304x16x1 ![0, 1] bcast_S98304x16_S98304x16x1_0_1 (member (σ (Proc.devRef .tc main_v1)) (σ (Proc.devRef .tc main_arg2))) := by
  simp only [hostOps1_1, StableHlo.after_cons, StableHlo.after_nil]
  after_results_simp
  unfold member
  first | with_reducible rfl | rfl

theorem read_2_x : StableHlo.after hostOps1_1 σ (Proc.devRef .tc main_v15)
    = broadcastInDim S98304x1x768 ![0, 2] bcast_S98304x768_S98304x1x768_0_2 (σ (Proc.devRef .tc main_v0_0)) := by
  simp only [hostOps1_1, StableHlo.after_cons, StableHlo.after_nil]
  after_results_simp

theorem read_2_z : StableHlo.after hostOps1_1 σ (Proc.devRef .tc main_cst) = constant S_ .f32 0x00000000#32 := by
  simp only [hostOps1_1, StableHlo.after_cons, StableHlo.after_nil]
  after_results_simp

theorem read_3 : StableHlo.after hostOps1_2 σ (Proc.devRef .tc main_v16)
    = spread (F := F) (σ (Proc.devRef .tc main_v14)) (σ (Proc.devRef .tc main_v15)) (σ (Proc.devRef .tc main_cst)) := by
  simp only [hostOps1_2, StableHlo.after_cons, StableHlo.after_nil]
  after_results_simp
  simp -implicitDefEqProofs only [StableHlo.TRef.ofBuf_toBuf]
  simp -implicitDefEqProofs only [StableHlo.TRef.toBuf, StableHlo.TRef.ofBuf, cast_cast, cast_eq]
  unfold spread
  first | with_reducible rfl | rfl

theorem read_4 : StableHlo.after hostOps1_3 σ (Proc.devRef .tc main_v17)
    = product (F := F) (σ (Proc.devRef .tc main_v16)) (σ (Proc.devRef .tc main_v0_1)) := by
  simp only [hostOps1_3, StableHlo.after_cons, StableHlo.after_nil]
  after_results_simp
  rfl

theorem read_4_iota : StableHlo.after hostOps1_3 σ (Proc.devRef .tc main_v18) = iotaInDim S16 32 0 := by
  simp only [hostOps1_3, StableHlo.after_cons, StableHlo.after_nil]
  after_results_simp

theorem read_5 : StableHlo.after hostOps1_4 σ (Proc.devRef .tc main_v19) = rolled (σ (Proc.devRef .tc main_arg2)) := by
  simp only [hostOps1_4, StableHlo.after_cons, StableHlo.after_nil]
  after_results_simp
  after_results_loop
  all_goals try simp -implicitDefEqProofs only [StableHlo.TRef.ofBuf_toBuf]
  simp -implicitDefEqProofs only [StableHlo.TRef.toBuf, StableHlo.TRef.ofBuf, cast_cast, cast_eq]
  unfold rolled
  first | with_reducible rfl | rfl

theorem read_6 : StableHlo.after hostOps1_5 σ (Proc.devRef .tc main_v21) = shifted (σ (Proc.devRef .tc main_v19)) := by
  simp only [hostOps1_5, StableHlo.after_cons, StableHlo.after_nil]
  after_results_simp
  unfold shifted
  first | with_reducible rfl | rfl

theorem read_7 : StableHlo.after hostOps1_6 σ (Proc.devRef .tc main_v22) = sums16 (σ (Proc.devRef .tc main_v21)) := by
  simp only [hostOps1_6, StableHlo.after_cons, StableHlo.after_nil]
  after_results_simp
  simp -implicitDefEqProofs only [StableHlo.TRef.ofBuf_toBuf]
  simp -implicitDefEqProofs only [StableHlo.TRef.toBuf, StableHlo.TRef.ofBuf, cast_cast, cast_eq]
  unfold sums16
  first | with_reducible rfl | rfl

theorem read_8 : StableHlo.after hostOps1_7 σ (Proc.devRef .tc main_v31) = begins (σ (Proc.devRef .tc main_v22)) := by
  simp only [hostOps1_7, StableHlo.after_cons, StableHlo.after_nil]
  after_results_simp
  unfold begins
  first | with_reducible rfl | rfl

theorem read_9 : StableHlo.after hostOps1_8 σ (Proc.devRef .tc main_v32) = sumsRows (σ (Proc.devRef .tc main_v31)) := by
  simp only [hostOps1_8, StableHlo.after_cons, StableHlo.after_nil]
  after_results_simp
  simp -implicitDefEqProofs only [StableHlo.TRef.ofBuf_toBuf]
  simp -implicitDefEqProofs only [StableHlo.TRef.toBuf, StableHlo.TRef.ofBuf, cast_cast, cast_eq]
  unfold sumsRows
  first | with_reducible rfl | rfl

theorem read_10 : StableHlo.after hostOps1_9 σ (Proc.devRef .tc main_v34) = less1 (σ (Proc.devRef .tc main_v32)) := by
  simp only [hostOps1_9, StableHlo.after_cons, StableHlo.after_nil]
  after_results_simp
  unfold less1
  first | with_reducible rfl | rfl

theorem read_11 : StableHlo.after hostOps1_10 σ (Proc.devRef .tc main_v35)
    = taken (σ (Proc.devRef .tc main_v18)) (σ (Proc.devRef .tc main_v34)) := by
  simp only [hostOps1_10, StableHlo.after_cons, StableHlo.after_nil]
  after_results_simp
  simp -implicitDefEqProofs only [StableHlo.TRef.ofBuf_toBuf]
  simp -implicitDefEqProofs only [StableHlo.TRef.toBuf, StableHlo.TRef.ofBuf, cast_cast, cast_eq]
  unfold taken wrap inside
  first | with_reducible rfl | rfl

theorem read_12 : StableHlo.after hostOps1_11 σ (Proc.devRef .tc main_v48)
    = shapeCast S12x8192x2048 (scaled (F := F) (σ (Proc.devRef .tc main_v17)) (σ (Proc.devRef .tc main_arg1)) (σ (Proc.devRef .tc main_arg4))
        (σ (Proc.devRef .tc main_v35))) shapeCasts_S98304x2048_S12x8192x2048 := by
  simp only [hostOps1_11, StableHlo.after_cons, StableHlo.after_nil]
  after_results_simp
  unfold scaled wrap
  first | with_reducible rfl | rfl

end Cert.ReferenceIdeal.Value
-- ==== Proof.ReferenceRead.lean ====
/- What the reference leaves in its result array, as one function of the arrays its host operations start from. -/
module

public import proofs.«01_k».proof.Proof.ReferenceOps
public import Idealize.ShloMosaic.Lib.Pipeline.ValueKit

@[expose] public section

set_option maxRecDepth 16384

noncomputable section

namespace Cert.ReferenceIdeal.Value

open Idealize.ShloMosaic Idealize.ShloMosaic.TcCoe Idealize.SL.Sem
open Cert.ReferenceIdeal Cert.ReferenceIdeal.Gen

variable {F : FTy → Type} [FloatOps F]

/-- The group of each row: the number of groups that begin at the row or before it, less one. -/
def expert (a2 : IVec S16 32) : IVec S98304 32 :=
  taken (iotaInDim S16 32 0) (less1 (sumsRows (begins (sums16 (shifted (rolled a2))))))

/-- The rows, each in the groups it belongs to. -/
def rows (a2 : IVec S16 32) (x : FVec F S98304x768 .f32) : FVec F S98304x16x768 .f32 :=
  spread (broadcastInDim S98304x16x1 ![0, 1] bcast_S98304x16_S98304x16x1_0_1 (member (sums16 a2) a2))
    (broadcastInDim S98304x1x768 ![0, 2] bcast_S98304x768_S98304x1x768_0_2 x) (constant S_ .f32 0x00000000#32)

/-- The result by rows. -/
def result (x : FVec F S98304x768 .f32) (a1 : FVec F S98304 .f32) (a2 : IVec S16 32) (w : FVec F S16x768x2048 .f32)
    (a4 : FVec F S16x2048 .f32) : FVec F S98304x2048 .bf16 :=
  scaled (product (rows a2 x) w) a1 a4 (expert a2)

/-- The result array after the host operations, from any contents before them. -/
theorem read_all (σ : Valuation τ sig (Elt F)) :
    StableHlo.after [hostOps1, hostOps1_1, hostOps1_2, hostOps1_3, hostOps1_4, hostOps1_5, hostOps1_6, hostOps1_7, hostOps1_8, hostOps1_9, hostOps1_10, hostOps1_11].flatten
        σ (Proc.devRef .tc main_v48)
      = shapeCast S12x8192x2048 (result (F := F) (σ (Proc.devRef .tc main_v0_0)) (σ (Proc.devRef .tc main_arg1)) (σ (Proc.devRef .tc main_arg2))
          (σ (Proc.devRef .tc main_v0_1)) (σ (Proc.devRef .tc main_arg4))) shapeCasts_S98304x2048_S12x8192x2048 := by
  rw [List.flatten_cons, List.flatten_cons, List.flatten_cons, List.flatten_cons, List.flatten_cons, List.flatten_cons, List.flatten_cons,
    List.flatten_cons, List.flatten_cons, List.flatten_cons, List.flatten_cons, List.flatten_cons, List.flatten_nil, List.append_nil,
    StableHlo.after_append, StableHlo.after_append, StableHlo.after_append, StableHlo.after_append, StableHlo.after_append, StableHlo.after_append,
    StableHlo.after_append, StableHlo.after_append, StableHlo.after_append, StableHlo.after_append, StableHlo.after_append,
    read_12,
    read_11,
    StableHlo.after_of_writes_sub (r := main_v17) hostOps1_10 _ hostOps1_10_writes (by decide +kernel),
    StableHlo.after_of_writes_sub (r := main_arg1) hostOps1_10 _ hostOps1_10_writes (by decide +kernel),
    StableHlo.after_of_writes_sub (r := main_arg4) hostOps1_10 _ hostOps1_10_writes (by decide +kernel),
    read_10,
    StableHlo.after_of_writes_sub (r := main_v17) hostOps1_9 _ hostOps1_9_writes (by decide +kernel),
    StableHlo.after_of_writes_sub (r := main_v18) hostOps1_9 _ hostOps1_9_writes (by decide +kernel),
    StableHlo.after_of_writes_sub (r := main_arg1) hostOps1_9 _ hostOps1_9_writes (by decide +kernel),
    StableHlo.after_of_writes_sub (r := main_arg4) hostOps1_9 _ hostOps1_9_writes (by decide +kernel),
    read_9,
    StableHlo.after_of_writes_sub (r := main_v17) hostOps1_8 _ hostOps1_8_writes (by decide +kernel),
    StableHlo.after_of_writes_sub (r := main_v18) hostOps1_8 _ hostOps1_8_writes (by decide +kernel),
    StableHlo.after_of_writes_sub (r := main_arg1) hostOps1_8 _ hostOps1_8_writes (by decide +kernel),
    StableHlo.after_of_writes_sub (r := main_arg4) hostOps1_8 _ hostOps1_8_writes (by decide +kernel),
    read_8,
    StableHlo.after_of_writes_sub (r := main_v17) hostOps1_7 _ hostOps1_7_writes (by decide +kernel),
    StableHlo.after_of_writes_sub (r := main_v18) hostOps1_7 _ hostOps1_7_writes (by decide +kernel),
    StableHlo.after_of_writes_sub (r := main_arg1) hostOps1_7 _ hostOps1_7_writes (by decide +kernel),
    StableHlo.after_of_writes_sub (r := main_arg4) hostOps1_7 _ hostOps1_7_writes (by decide +kernel),
    read_7,
    StableHlo.after_of_writes_sub (r := main_v17) hostOps1_6 _ hostOps1_6_writes (by decide +kernel),
    StableHlo.after_of_writes_sub (r := main_v18) hostOps1_6 _ hostOps1_6_writes (by decide +kernel),
    StableHlo.after_of_writes_sub (r := main_arg1) hostOps1_6 _ hostOps1_6_writes (by decide +kernel),
    StableHlo.after_of_writes_sub (r := main_arg4) hostOps1_6 _ hostOps1_6_writes (by decide +kernel),
    read_6,
    StableHlo.after_of_writes_sub (r := main_v17) hostOps1_5 _ hostOps1_5_writes (by decide +kernel),
    StableHlo.after_of_writes_sub (r := main_v18) hostOps1_5 _ hostOps1_5_writes (by decide +kernel),
    StableHlo.after_of_writes_sub (r := main_arg1) hostOps1_5 _ hostOps1_5_writes (by decide +kernel),
    StableHlo.after_of_writes_sub (r := main_arg4) hostOps1_5 _ hostOps1_5_writes (by decide +kernel),
    read_5,
    StableHlo.after_of_writes_sub (r := main_v17) hostOps1_4 _ hostOps1_4_writes (by decide +kernel),
    StableHlo.after_of_writes_sub (r := main_v18) hostOps1_4 _ hostOps1_4_writes (by decide +kernel),
    StableHlo.after_of_writes_sub (r := main_arg1) hostOps1_4 _ hostOps1_4_writes (by decide +kernel),
    StableHlo.after_of_writes_sub (r := main_arg4) hostOps1_4 _ hostOps1_4_writes (by decide +kernel),
    read_4,
    read_4_iota,
    StableHlo.after_of_writes_sub (r := main_arg1) hostOps1_3 _ hostOps1_3_writes (by decide +kernel),
    StableHlo.after_of_writes_sub (r := main_arg4) hostOps1_3 _ hostOps1_3_writes (by decide +kernel),
    StableHlo.after_of_writes_sub (r := main_arg2) hostOps1_3 _ hostOps1_3_writes (by decide +kernel),
    read_3,
    StableHlo.after_of_writes_sub (r := main_v0_1) hostOps1_2 _ hostOps1_2_writes (by decide +kernel),
    StableHlo.after_of_writes_sub (r := main_arg1) hostOps1_2 _ hostOps1_2_writes (by decide +kernel),
    StableHlo.after_of_writes_sub (r := main_arg4) hostOps1_2 _ hostOps1_2_writes (by decide +kernel),
    StableHlo.after_of_writes_sub (r := main_arg2) hostOps1_2 _ hostOps1_2_writes (by decide +kernel),
    read_2_mem,
    read_2_x,
    read_2_z,
    StableHlo.after_of_writes_sub (r := main_v0_1) hostOps1_1 _ hostOps1_1_writes (by decide +kernel),
    StableHlo.after_of_writes_sub (r := main_arg1) hostOps1_1 _ hostOps1_1_writes (by decide +kernel),
    StableHlo.after_of_writes_sub (r := main_arg4) hostOps1_1 _ hostOps1_1_writes (by decide +kernel),
    StableHlo.after_of_writes_sub (r := main_arg2) hostOps1_1 _ hostOps1_1_writes (by decide +kernel),
    read_1,
    StableHlo.after_of_writes_sub (r := main_v0_0) hostOps1 _ hostOps1_writes (by decide +kernel),
    StableHlo.after_of_writes_sub (r := main_v0_1) hostOps1 _ hostOps1_writes (by decide +kernel),
    StableHlo.after_of_writes_sub (r := main_arg1) hostOps1 _ hostOps1_writes (by decide +kernel),
    StableHlo.after_of_writes_sub (r := main_arg4) hostOps1 _ hostOps1_writes (by decide +kernel),
    StableHlo.after_of_writes_sub (r := main_arg2) hostOps1 _ hostOps1_writes (by decide +kernel)]
  rfl

end Cert.ReferenceIdeal.Value
-- ==== Proof.ReferenceRun.lean ====
/- The reference's run: what it leaves in its result array, from the memory it starts in. -/
module

public import proofs.«01_k».proof.Proof.ReferenceRead

@[expose] public section

set_option maxRecDepth 16384

noncomputable section

namespace Cert.ReferenceIdeal.Value

open Idealize.ShloMosaic Idealize.ShloMosaic.TcCoe Idealize.SL.Sem
open Cert.ReferenceIdeal Cert.ReferenceIdeal.Gen

variable {F : FTy → Type} [FloatOps F]
variable (m : (ℓ : Loc nD τ sig) → Buf (Elt F) ℓ) (ρ : Dev nD → PrngReg)

/-- Every window's block is the whole array. -/
theorem idx : ∀ t : Fin cfg0.N, win0_0.index t = ![0, 0] ∧ win0_1.index t = ![0, 0, 0] ∧ win0_2.index t = ![0, 0] ∧ win0_3.index t = ![0, 0, 0] :=
  (by decide +kernel : ∀ t : Fin grid0.N, _)

/-- The rows in the wider format. -/
def wideX (c : Dev nD) : FVec F S98304x768 .f32 :=
  extf .f32 (show FVec F S98304x768 .fp8e4m3 from m ((c : Thread nD τ).loc main_arg0)) bitsLt_fp8e4m3_f32

/-- The weights in the wider format. -/
def wideW (c : Dev nD) : FVec F S16x768x2048 .f32 :=
  extf .f32 (show FVec F S16x768x2048 .fp8e4m3 from m ((c : Thread nD τ).loc main_arg3)) bitsLt_fp8e4m3_f32

/-- The region leaves the rows in the wider format, -/
theorem arr_x (c : Dev nD) : (dats m 0 c).arrAt 2 (cfgs 0).N = wideX m c := by
  refine (dats m 0 c).arrAt_eq_of_after_last 2 t0_0 (by decide +kernel) _ fun j => ?_
  blk_simp
  rw [after0_2]
  unfold wideX
  frame_out
  blk_point [iblk, V, idx t0_0]

/-- and the weights. -/
theorem arr_w (c : Dev nD) : (dats m 0 c).arrAt 3 (cfgs 0).N = wideW m c := by
  refine (dats m 0 c).arrAt_eq_of_after_last 3 t0_0 (by decide +kernel) _ fun j => ?_
  blk_simp
  rw [after0_3]
  unfold wideW
  frame_out
  blk_point [iblk, V, idx t0_0]

/-- The result array of the reference. -/
def out (c : Dev nD) : FVec F S12x8192x2048 .bf16 :=
  shapeCast S12x8192x2048
    (result (F := F) (wideX m c) (m ((c : Thread nD τ).loc main_arg1)) (m ((c : Thread nD τ).loc main_arg2)) (wideW m c)
      (m ((c : Thread nD τ).loc main_arg4))) shapeCasts_S98304x2048_S12x8192x2048

/-- The result array after the host operations. -/
theorem tail_out (c : Dev nD) :
    Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11] c main_v48
      = out m c := by
  unfold Pipeline.afterTail₀
  rw [read_all,
    Pipeline.withArrays_of_ne _ c (V0 m c) _ main_arg1 (by exact (by decide : ∀ w, Pipeline.arrRef spec0 w ≠ main_arg1)),
    Pipeline.withArrays_of_ne _ c (V0 m c) _ main_arg2 (by exact (by decide : ∀ w, Pipeline.arrRef spec0 w ≠ main_arg2)),
    Pipeline.withArrays_of_ne _ c (V0 m c) _ main_arg4 (by exact (by decide : ∀ w, Pipeline.arrRef spec0 w ≠ main_arg4))]
  have hx := Pipeline.withArrays_arr (cfgs 0).spec winFacts0.arr_inj c (V0 m c) (fun w => (dats m 0 c).arrAt w (cfgs 0).N) 2
  have hw := Pipeline.withArrays_arr (cfgs 0).spec winFacts0.arr_inj c (V0 m c) (fun w => (dats m 0 c).arrAt w (cfgs 0).N) 3
  have hx' := hx.trans (arr_x m c)
  have hw' := hw.trans (arr_w m c)
  unfold out
  congr 1
  congr 1

/-- Every run of the reference ends with that result and its arguments as they were. -/
theorem run : θ_run defs (onTc (τ := τ) (main (F := F))) ⟨m, fun _ => 0, ρ⟩ (fun r => ∀ c : Dev nD,
      r.2.mem ((c.tc : Thread nD τ).loc main_v48) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (θ_run_and (run_main m ρ) (unchanged m ρ))
  exact ⟨(h.1.rest_eq c main_v48 (Pipeline.mem_restRefs_of main_v48 (by decide) (by decide))).trans (tail_out m c), h.2 c⟩

end Cert.ReferenceIdeal.Value
-- ==== Proof.Counts.lean ====
/- Two facts of the group sizes apart from any program: the starts as sums of lists, and how many groups begin at a row or
   before it. And the scatter which adds a one at each of a few places of a longer vector. -/
module

public import proofs.«01_k».proof.Proof.Groups
public import Idealize.ShloMosaic.Lib.Routing.Ops
public import Idealize.ShloMosaic.Lib.Routing.OpsOne

@[expose] public section

namespace Cert.Groups

open Idealize.ShloMosaic

variable {w : ℕ → BitVec 32}

/-- The sum of a list of the naturals below `n` is the sum over the range. -/
theorem list_sum (f : ℕ → ℕ) (n : ℕ) : ((List.range n).map f).sum = ∑ i ∈ Finset.range n, f i := by
  induction n with
  | zero => rfl
  | succ n ih => rw [List.range_succ, List.map_append, List.sum_append, ih, Finset.sum_range_succ]; simp

/-- The groups counted by the row they begin at, over the rows up to `r`: one more than the group of row `r`. -/
theorem sum_count (r : ℕ) : ∑ r' ∈ Finset.range (r + 1), Nat.count (fun i => S w i = r') 16 = cN w r + 1 := by
  have h1 : ∀ r', Nat.count (fun i => S w i = r') 16 = ∑ i ∈ Finset.range 16, if S w i = r' then 1 else 0 := fun r' => by
    rw [Nat.count_eq_card_filter_range, Finset.card_filter]
  simp only [h1]
  rw [Finset.sum_comm]
  have h2 : ∀ i, (∑ r' ∈ Finset.range (r + 1), if S w i = r' then 1 else 0) = if S w i ≤ r then 1 else 0 := fun i => by
    rw [Finset.sum_ite_eq]
    simp [Nat.lt_succ_iff]
  simp only [h2]
  rw [Finset.sum_range_succ']
  simp [cN, S_zero]

open ValueIdx Routing in
/-- Update `i` of a scatter of `n` scalars into a vector of `N`, one index each, lands at `x` exactly when its index, read signed, is `x`. -/
theorem scatter_lands_at {N n : Nat} (d : ScatterDims (shape1 N) (shape2 n 1) (shape1 n)) (hiw : d.insertedWindowDims = [0])
    (hsd : d.scatterDimsToOperandDims = [0]) (hivd : d.indexVectorDim = 1) (idx : IVec (shape2 n 1) 32) (i : Fin n) (x : Fin N) :
    d.resultIdx? (ValueIdx.ix1 i) idx = some (ValueIdx.ix1 x) ↔ (idx (ValueIdx.ix2 i (0 : Fin 1))).toInt = (x.val : Int) := by
  have hm : (0 : Fin 1) ∈ d.scatterDimsToOperandDims := by rw [hsd]; exact List.mem_singleton.2 rfl
  have hwin : d.window (ValueIdx.ix1 i) 0 = 0 := by
    unfold ScatterDims.window
    rw [dif_neg fun h => (of_decide_eq_true (List.mem_filter.1 h).2) (by rw [hiw]; exact List.mem_singleton.2 rfl)]
  have hstart : d.start (ValueIdx.ix1 i) idx 0 = (idx (ValueIdx.ix2 i (0 : Fin 1))).toInt := by
    unfold ScatterDims.start
    rw [dif_pos hm]
    have hsi : d.siIdx (ValueIdx.ix1 i) ⟨d.scatterDimsToOperandDims.idxOf 0, List.idxOf_lt_length_iff.2 hm⟩ = ValueIdx.ix2 i (0 : Fin 1) := by
      funext b'
      apply Fin.ext
      match b' with
      | ⟨0, _⟩ =>
        unfold ScatterDims.siIdx
        rw [dif_neg (by rw [hivd]; exact Nat.zero_ne_one)]
        unfold ScatterDims.siCoord
        simp only [Fin.val_cast]
        have e : ∀ X : Fin 1, (ValueIdx.ix1 i X).val = i.val := fun X => by
          obtain rfl : X = 0 := Subsingleton.elim _ _
          rfl
        exact e _
      | ⟨1, _⟩ =>
        unfold ScatterDims.siIdx
        rw [dif_pos (by rw [hivd])]
        show List.idxOf (0 : Fin 1) d.scatterDimsToOperandDims = 0
        rw [hsd]; simp
    rw [hsi]
  rw [resultIdx?_ix1, hstart, hwin]
  simp

open ValueIdx Routing in
/-- Ones added at `n` places of a vector of `N` zeros: entry `x` is the number of places that are `x`; a place from `N` on is dropped. -/
theorem scatter_count {N n : Nat} (d : ScatterDims (shape1 N) (shape2 n 1) (shape1 n)) (hiw : d.insertedWindowDims = [0])
    (hsd : d.scatterDimsToOperandDims = [0]) (hivd : d.indexVectorDim = 1) (x0 : IVec (shape1 N) 32) (hx0 : ∀ i, x0 i = 0#32)
    (idx : IVec (shape2 n 1) 32) (upd : IVec (shape1 n) 32) (hupd : ∀ i, upd i = 1#32) (gi : Nat → Nat)
    (hg : ∀ i : Fin n, idx (ValueIdx.ix2 i (0 : Fin 1)) = BitVec.ofNat 32 (gi i.val)) (hg31 : ∀ i : Fin n, gi i.val < 2 ^ 31) (x : Fin N) :
    Host.scatter d IntOp.addi x0 idx upd (ValueIdx.ix1 x) = BitVec.ofNat 32 (Nat.count (fun i => gi i = x.val) n) := by
  have hiff : ∀ i : Fin n, d.resultIdx? (ValueIdx.ix1 i) idx = some (ValueIdx.ix1 x) ↔ gi i.val = x.val := fun i => by
    rw [scatter_lands_at d hiw hsd hivd idx i x, hg, StableHlo.Predicate.toInt_ofNat_small _ (hg31 i)]; omega
  unfold Host.scatter
  refine (foldl_count _ (ValueIdx.ix1 x) (fun j => decide (gi j.val = x.val)) (fun r j => ?_) _ x0 0 (hx0 _)).trans ?_
  · rw [symm1]
    have hi := hiff (j.cast (numel1 n))
    change _ ↔ gi j.val = x.val at hi
    generalize d.resultIdx? (ValueIdx.ix1 (j.cast (numel1 n))) idx = o at hi ⊢
    cases o with
    | none =>
      dsimp only
      rw [if_neg fun h => by have := hi.2 (of_decide_eq_true h); cases this]
    | some k =>
      dsimp only
      by_cases e : gi j.val = x.val
      · have hk : k = ValueIdx.ix1 x := Option.some.inj (hi.2 e)
        rw [hk, if_pos rfl, hupd, if_pos (decide_eq_true e)]
      · rw [if_neg fun h : ValueIdx.ix1 x = k => e (hi.1 (congrArg some h.symm)), if_neg fun h => e (of_decide_eq_true h)]
  · rw [Nat.zero_add, countP_finRange _ (fun i => gi i = x.val), numel1]

end Cert.Groups
-- ==== Proof.ReferenceGroups.lean ====
/- The reference's whole numbers: where the group sizes fill the rows, a row belongs to the one group `cN w r`, and that is the
   group the repeated indices give it. -/
module

public import proofs.«01_k».proof.Proof.ReferenceRead
public import proofs.«01_k».proof.Proof.Counts
public import Idealize.ShloMosaic.Lib.Pointwise
public import Idealize.ShloMosaic.Lib.ReduceAll

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Groups

variable {w : ℕ → BitVec 32}

/-- The running sums of sixteen words that hold naturals. -/
theorem sums16_apply (x : IVec S16 32) (f : ℕ → ℕ) (hx : ∀ n : Fin 16, x (ValueIdx.ix1 n) = BitVec.ofNat 32 (f n.val)) (j : Fin 16) :
    sums16 x (ValueIdx.ix1 j) = BitVec.ofNat 32 (∑ i ∈ Finset.range (j.val + 1), f i) := by
  unfold sums16
  rw [← list_sum]
  exact Routing.cumsum1 (N := 16) (Nm1 := 15) rfl x f hx _ rfl _ _ j

/-- The running sums of a word per row, each word a natural. -/
theorem sumsRows_apply (x : IVec S98304 32) (f : ℕ → ℕ) (hx : ∀ n : Fin 98304, x (ValueIdx.ix1 n) = BitVec.ofNat 32 (f n.val)) (j : Fin 98304) :
    sumsRows x (ValueIdx.ix1 j) = BitVec.ofNat 32 (∑ i ∈ Finset.range (j.val + 1), f i) := by
  unfold sumsRows
  rw [← list_sum]
  exact Routing.cumsum1 (N := 98304) (Nm1 := 98303) rfl x f hx _ rfl _ _ j

variable {a2 : IVec S16 32} (hw : ∀ n : Fin 16, a2 (ValueIdx.ix1 n) = w n.val) (h : Fill w)
include hw

/-- The ends of the groups. -/
theorem ends_apply (j : Fin 16) : sums16 a2 (ValueIdx.ix1 j) = BitVec.ofNat 32 (S w (j.val + 1)) :=
  sums16_apply a2 (fun n => (w n).toNat) (fun n => (hw n).trans (by rw [BitVec.ofNat_toNat, BitVec.setWidth_eq])) j

/-- The sizes after the roll, with a zero first. -/
theorem shifted_apply (j : Fin 16) :
    shifted (rolled a2) (ValueIdx.ix1 j) = BitVec.ofNat 32 (if j.val = 0 then 0 else (w (j.val - 1)).toNat) := by
  unfold shifted
  refine (Routing.scatter_one (N := 16) scatter_S16_S1_S__n_0_0_0 rfl rfl (rolled a2) _ _ (0 : Fin 16) (by norm_num) rfl j).trans ?_
  by_cases hj : j.val = 0
  · rw [if_pos (Fin.ext hj), if_pos hj]; rfl
  · rw [if_neg (fun e => hj (congrArg Fin.val e)), if_neg hj, BitVec.ofNat_toNat, BitVec.setWidth_eq]
    unfold rolled
    pointwise
    refine (dif_neg (show ¬ (ValueIdx.ix1 j 0).val < 1 from by show ¬ j.val < 1; omega)).trans ?_
    have := hw ⟨j.val - 1, by omega⟩
    refine (congrArg a2 ?_).trans this
    funext a
    match a with
    | ⟨0, _⟩ => exact Fin.ext rfl

/-- The starts of the groups. -/
theorem starts_apply (j : Fin 16) : sums16 (shifted (rolled a2)) (ValueIdx.ix1 j) = BitVec.ofNat 32 (S w j.val) := by
  refine (sums16_apply _ (fun n => if n = 0 then 0 else (w (n - 1)).toNat) (shifted_apply hw) j).trans (congrArg _ ?_)
  rw [Finset.sum_range_succ']
  simp [S]

include h

/-- How many groups begin at each row. -/
theorem begins_apply (r : Fin 98304) :
    begins (sums16 (shifted (rolled a2))) (ValueIdx.ix1 r) = BitVec.ofNat 32 (Nat.count (fun i => S w i = r.val) 16) := by
  unfold begins
  have hS : ∀ i : Fin 16, S w i.val ≤ 98304 := fun i => h.S_le (by omega)
  refine scatter_count (N := 98304) (n := 16) scatter_S98304_S16x1_S16_n_0_0_1 rfl rfl rfl _ (fun i => rfl) _ _ (fun i => rfl) (fun i => S w i)
    (fun i => ?_) (fun i => by have := hS i; show S w i.val < _; omega) r
  have e := starts_apply hw i
  generalize hx : sums16 (shifted (rolled a2)) = x at e
  have e' : broadcastInDim S16x1 ![0] bcast_S16_S16x1_0 (select (cmpi .slt x (broadcastInDim S16 ![] bcast_S_S16 (constantI S_ 32 0#32)))
      (addi x (broadcastInDim S16 ![] bcast_S_S16 (constantI S_ 32 98304#32))) x) (ValueIdx.ix2 i (0 : Fin 1))
      = Scalar.select (IntOp.cmpi .slt (x (ValueIdx.ix1 i)) 0#32) (IntOp.addi (x (ValueIdx.ix1 i)) 98304#32) (x (ValueIdx.ix1 i)) := by
    pointwise
    rfl
  rw [e', e]
  have hb : IntOp.cmpi .slt (BitVec.ofNat 32 (S w i.val)) 0#32 = 0#1 := by
    show BitVec.ofBool (BitVec.slt _ _) = _
    rw [slt_iff _ _ (by rw [BitVec.toNat_ofNat]; have := hS i; omega) (by decide)]
    simp
  rw [hb]
  rfl

/-- The group of each row, by the running sum of the group beginnings. -/
theorem expert_pre (r : Fin 98304) : less1 (sumsRows (begins (sums16 (shifted (rolled a2))))) (ValueIdx.ix1 r) = BitVec.ofNat 32 (cN w r.val) := by
  have e := (sumsRows_apply _ _ (begins_apply hw h) r).trans (congrArg _ (sum_count (w := w) r.val))
  unfold less1
  show IntOp.subi (sumsRows _ (ValueIdx.ix1 r)) 1#32 = _
  rw [e]
  apply BitVec.eq_of_toNat_eq
  have := cN_le (w := w) r.val
  show (BitVec.ofNat 32 (cN w r.val + 1) - 1#32).toNat = _
  rw [BitVec.toNat_sub, BitVec.toNat_ofNat, BitVec.toNat_ofNat]
  simp
  omega

omit hw h in
/-- An index that is one of the sixteen places is not moved. -/
theorem wrap_apply (x : IVec S98304 32) (r : Fin 98304) (g : ℕ) (hg : g < 16) (hx : x (ValueIdx.ix1 r) = BitVec.ofNat 32 g) :
    wrap x (ValueIdx.ix2 r (0 : Fin 1)) = BitVec.ofNat 32 g := by
  have e : wrap x (ValueIdx.ix2 r (0 : Fin 1)) = Scalar.select (IntOp.cmpi .slt (x (ValueIdx.ix1 r)) 0#32) (IntOp.addi (x (ValueIdx.ix1 r)) 16#32) (x (ValueIdx.ix1 r)) := by
    unfold wrap
    pointwise
    rfl
  rw [e, hx]
  interval_cases g <;> rfl

omit hw h in
/-- Such an index is inside. -/
theorem inside_apply (i : IVec S98304x1 32) (r : Fin 98304) (g : ℕ) (hg : g < 16) (hx : i (ValueIdx.ix2 r (0 : Fin 1)) = BitVec.ofNat 32 g) :
    inside i (ValueIdx.ix1 r) = 1#1 := by
  unfold inside
  pointwise
  have hx' : i (ix2 (ValueIdx.ix1 r 0) (0 : Fin 1)) = BitVec.ofNat 32 g := hx
  rw [show (Finset.univ : Finset (Fin 1)) = {0} from rfl, Finset.fold_singleton, hx']
  interval_cases g <;> rfl

/-- The group of each row. -/
theorem expert_apply (r : Fin 98304) : expert a2 (ValueIdx.ix1 r) = BitVec.ofNat 32 (cN w r.val) := by
  have hc := cN_le (w := w) r.val
  have e := wrap_apply _ r _ (by omega) (expert_pre hw h r)
  unfold expert taken
  rw [ValueIdx.select_apply, inside_apply _ r _ (by omega) e]
  refine (if_pos rfl).trans ?_
  exact Routing.gather_take1 (N := 16) (n := 98304) gather_S16_S98304x1_S98304_n_0_n_n_0_1_1 rfl rfl rfl rfl (iotaInDim S16 32 0) _ r ⟨cN w r.val, by omega⟩ e (by norm_num)

/-- A row is in a group exactly when that is its group. -/
theorem member_apply (r : Fin 98304) (g : Fin 16) :
    member (sums16 a2) a2 (ValueIdx.ix2 r g) = BitVec.ofBool (decide (g.val = cN w r.val)) := by
  have e1 := ends_apply hw g
  have e2 := hw g
  have e : member (sums16 a2) a2 (ValueIdx.ix2 r g)
      = IntOp.andi (IntOp.cmpi .sle (IntOp.subi (sums16 a2 (ValueIdx.ix1 g)) (a2 (ValueIdx.ix1 g))) (BitVec.ofNat 32 r.val))
          (IntOp.cmpi .slt (BitVec.ofNat 32 r.val) (sums16 a2 (ValueIdx.ix1 g))) := by
    unfold member
    generalize sums16 a2 = x
    pointwise
    rfl
  rw [e, e1, e2]
  have hS1 : S w (g.val + 1) ≤ 98304 := h.S_le (by omega)
  have hSs := S_succ (w := w) g.val
  have hr : (BitVec.ofNat 32 r.val).toNat = r.val := by rw [BitVec.toNat_ofNat]; omega
  have hE : (BitVec.ofNat 32 (S w (g.val + 1))).toNat = S w (g.val + 1) := by rw [BitVec.toNat_ofNat]; omega
  have hD : (IntOp.subi (BitVec.ofNat 32 (S w (g.val + 1))) (w g.val)).toNat = S w g.val := by
    have := subi_toNat (BitVec.ofNat 32 (S w (g.val + 1))) (w g.val) (by rw [hE]; omega)
    refine this.trans ?_
    rw [hE]; omega
  have c1 : IntOp.cmpi .sle (IntOp.subi (BitVec.ofNat 32 (S w (g.val + 1))) (w g.val)) (BitVec.ofNat 32 r.val) = BitVec.ofBool (decide (S w g.val ≤ r.val)) := by
    show BitVec.ofBool (BitVec.sle _ _) = _
    rw [sle_iff _ _ (by rw [hD]; omega) (by rw [hr]; omega), hD, hr]
  have c2 : IntOp.cmpi .slt (BitVec.ofNat 32 r.val) (BitVec.ofNat 32 (S w (g.val + 1))) = BitVec.ofBool (decide (r.val < S w (g.val + 1))) := by
    show BitVec.ofBool (BitVec.slt _ _) = _
    rw [slt_iff _ _ (by rw [hr]; omega) (by rw [hE]; omega), hE, hr]
  rw [c1, c2]
  have key : (g.val = cN w r.val) ↔ (S w g.val ≤ r.val ∧ r.val < S w (g.val + 1)) := by
    constructor
    · intro e
      rw [e]
      exact ⟨S_cN_le r.val, lt_S_cN h r.isLt⟩
    · rintro ⟨a, b⟩
      exact eq_cN h g.isLt a b
  by_cases p : S w g.val ≤ r.val
  · by_cases q : r.val < S w (g.val + 1)
    · rw [decide_eq_true p, decide_eq_true q, decide_eq_true (key.mpr ⟨p, q⟩)]; rfl
    · rw [decide_eq_true p, decide_eq_false q, decide_eq_false fun e => q (key.mp e).2]; rfl
  · rw [decide_eq_false p, decide_eq_false fun e => p (key.mp e).1]
    cases decide (r.val < S w (g.val + 1)) <;> rfl

end Cert.ReferenceIdeal.Value
-- ==== Proof.ReferenceValue.lean ====
/- The reference's result over the reals, entry by entry: a row times the weights of its group, times the row's scale, times the
   scale of the group and the column. -/
module

public import proofs.«01_k».proof.Proof.ReferenceRun
public import proofs.«01_k».proof.Proof.ReferenceGroups

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Groups

/-- The scale of a group and a column, read at an index that holds the group. -/
theorem scale_apply (a4 : FVec Ideal S16x2048 .f32) (i : IVec S98304x1 32) (r : Fin 98304) (n : Fin 2048) (g : ℕ) (hg : g < 16)
    (hi : i (ValueIdx.ix2 r (0 : Fin 1)) = BitVec.ofNat 32 g) :
    Host.gather gather_S16x2048_S98304x1_S98304x2048_1_0_n_n_0_1_12048 a4 i (ix2 r n)
      = a4 (ix2 (⟨g % 16, Nat.mod_lt _ (by norm_num)⟩ : Fin 16) n) := by
  have hb : i (ValueIdx.ix2 r (0 : Fin 1)) = BitVec.ofNat 32 (⟨g % 16, Nat.mod_lt _ (by norm_num)⟩ : Fin 16).val := by
    rw [hi]
    show _ = BitVec.ofNat 32 (g % 16)
    rw [Nat.mod_eq_of_lt hg]
  exact Routing.gather_row (nb := 16) (B := 2048) (n := 98304) gather_S16x2048_S98304x1_S98304x2048_1_0_n_n_0_1_12048 rfl rfl rfl rfl rfl a4 i r n
    ⟨g % 16, Nat.mod_lt _ (by norm_num)⟩ hb (by norm_num)

variable {w : ℕ → BitVec 32} {a2 : IVec S16 32} (hw : ∀ n : Fin 16, a2 (ValueIdx.ix1 n) = w n.val) (h : Fill w)

include hw h

/-- A row stands in its own group and is zero in the others. -/
theorem rows_apply (x : FVec Ideal S98304x768 .f32) (r : Fin 98304) (g : Fin 16) (k : Fin 768) :
    rows (F := Ideal) a2 x (ix3 r g k) = if g.val = cN w r.val then x (ix2 r k) else (0 : EReal) := by
  have e := member_apply hw h r g
  unfold rows
  revert e
  generalize member (sums16 a2) a2 = b
  intro e
  unfold spread
  pointwise
  have e' : b (ix2 r g) = BitVec.ofBool (decide (g.val = cN w r.val)) := e
  rw [e']
  by_cases p : g.val = cN w r.val
  · rw [decide_eq_true p, if_pos p]; rfl
  · rw [decide_eq_false p, if_neg p]; rfl

/-- The product of a row summed over all the groups is the product with the weights of its own. -/
theorem product_apply (x : FVec Ideal S98304x768 .f32) (v : FVec Ideal S16x768x2048 .f32) (r : Fin 98304) (n : Fin 2048) :
    product (F := Ideal) (rows a2 x) v (ix2 r n) = ∑ k : Fin 768, (x (ix2 r k) * v (ix3 (⟨cN w r.val % 16, Nat.mod_lt _ (by norm_num)⟩ : Fin 16) k n) : EReal) := by
  have e := rows_apply hw h x r
  revert e
  generalize rows (F := Ideal) a2 x = b
  intro e
  unfold product
  pointwise
  have hc := cN_le (w := w) r.val
  refine (Finset.sum_eq_single (⟨cN w r.val % 16, Nat.mod_lt _ (by norm_num)⟩ : Fin 16) ?_ ?_).trans ?_
  · intro g _ hg
    refine Finset.sum_eq_zero fun k _ => ?_
    rw [e, if_neg fun p => hg (Fin.ext (by show g.val = cN w r.val % 16; omega))]
    exact zero_mul _
  · intro hn
    exact absurd (Finset.mem_univ _) hn
  · refine Finset.sum_congr rfl fun k _ => ?_
    rw [e, if_pos (Nat.mod_eq_of_lt (by omega))]

/-- THE ENTRY: the product of the row with the weights of its group, times the two scales. -/
theorem result_apply (x : FVec Ideal S98304x768 .f32) (a1 : FVec Ideal S98304 .f32) (v : FVec Ideal S16x768x2048 .f32) (a4 : FVec Ideal S16x2048 .f32)
    (r : Fin 98304) (n : Fin 2048) :
    result (F := Ideal) x a1 a2 v a4 (ix2 r n)
      = ((∑ k : Fin 768, (x (ix2 r k) * v (ix3 (⟨cN w r.val % 16, Nat.mod_lt _ (by norm_num)⟩ : Fin 16) k n) : EReal)) * a1 (ix1 r)
          * a4 (ix2 (⟨cN w r.val % 16, Nat.mod_lt _ (by norm_num)⟩ : Fin 16) n) : EReal) := by
  have hc := cN_le (w := w) r.val
  have e1 := product_apply hw h x v r n
  have e2 := wrap_apply _ r _ (by omega) (expert_apply hw h r)
  have e3 := scale_apply a4 (wrap (expert a2)) r n _ (by omega) e2
  unfold result scaled
  rw [← e1, ← e3]
  generalize product (F := Ideal) (rows a2 x) v = p
  generalize Host.gather gather_S16x2048_S98304x1_S98304x2048_1_0_n_n_0_1_12048 a4 (wrap (expert a2)) = q
  pointwise

end Cert.ReferenceIdeal.Value
-- ==== Proof.Equation.lean ====
/- The equation: over the reals the kernel and the reference leave the same result array. -/
module

public import proofs.«01_k».proof.Proof.KernelIdealValue
public import proofs.«01_k».proof.Proof.ReferenceValue

@[expose] public section

set_option maxRecDepth 16384

noncomputable section

namespace Cert.Equation

open Idealize.ShloMosaic Idealize.ShloMosaic.TcCoe Idealize.SL.Sem Cert.Groups

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- Row by row: from the same arrays, with group sizes that fill the rows. -/
theorem rows_eq (x : FVec Ideal Cert.KernelIdeal.S98304x768 .fp8e4m3) (a1 : FVec Ideal Cert.KernelIdeal.S98304 .f32) (a2 : IVec Cert.KernelIdeal.S16 32)
    (v : FVec Ideal Cert.KernelIdeal.S16x768x2048 .fp8e4m3) (a4 : FVec Ideal Cert.KernelIdeal.S16x2048 .f32)
    (h : Fill (Cert.KernelIdeal.Body.words (F := Ideal) a2)) :
    Cert.ReferenceIdeal.Value.result (F := Ideal) (extf .f32 x Cert.ReferenceIdeal.Gen.bitsLt_fp8e4m3_f32) a1 a2
        (extf .f32 v Cert.ReferenceIdeal.Gen.bitsLt_fp8e4m3_f32) a4
      = fun y => Cert.KernelIdeal.Value.entry (Cert.KernelIdeal.Body.words (F := Ideal) a2) x a1 v a4 (y 0) (y 1) := by
  funext y
  have hy : y = ix2 (⟨(y 0).val, (y 0).isLt⟩ : Fin 98304) (⟨(y 1).val, (y 1).isLt⟩ : Fin 2048) := by blk_ext
  have hw : ∀ n : Fin 16, a2 (ValueIdx.ix1 n) = Cert.KernelIdeal.Body.words (F := Ideal) a2 n.val := fun n => by
    unfold Cert.KernelIdeal.Body.words
    rw [dif_pos n.isLt]
    rfl
  refine (congrArg _ hy).trans ?_
  exact Cert.ReferenceIdeal.Value.result_apply hw h _ _ _ _ _ _

/-- The two result arrays, from memories that agree on the arguments. -/
theorem out_eq (c : Dev Cert.KernelIdeal.nD) (hF : Cert.KernelIdeal.Body.Filled m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.out m' c = Cert.KernelIdeal.Value.out m c := by
  have e := rows_eq (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (hF c)
  unfold Cert.ReferenceIdeal.Value.out Cert.ReferenceIdeal.Value.wideX Cert.ReferenceIdeal.Value.wideW
  rw [h0, h1, h2, h3, h4]
  exact congrArg (fun z => shapeCast Cert.KernelIdeal.S12x8192x2048 z Cert.KernelIdeal.Gen.shapeCasts_S98304x2048_S12x8192x2048) e

end Cert.Equation
-- ==== Proof.lean ====
module

public import proofs.«01_k».proof.Defs
public import proofs.«01_k».proof.Proof.Fill
public import proofs.«01_k».proof.Proof.KernelLaunch
public import proofs.«01_k».proof.Proof.KernelIdealLaunch
public import proofs.«01_k».proof.Proof.Gen.ReferenceIdeal.Frame
public import proofs.«01_k».proof.Proof.Equation

@[expose] public section

noncomputable section

namespace Cert.Proof

open Idealize.ShloMosaic Idealize.ShloMosaic.TcCoe Idealize.SL.Sem Cert.Groups

instance pre_facts : Cert.Pre_sizes_fill.Facts := Cert.Groups.pre_facts

/-- The precondition says that the group sizes of every device fill the tokens: the kernel's memory, -/
theorem filled_kernel (m : (ℓ : Loc Cert.Kernel.nD Cert.Kernel.τ Cert.Kernel.sig) → Buf (Elt Bits) ℓ) (h : Cert.Pre_Kernel m) : Cert.Kernel.Body.Filled m := by
  intro c
  refine fill_of_pre _ _ _ _ _ (h c) _ fun n => ?_
  unfold Cert.Kernel.Body.words
  rw [dif_pos n.isLt]

/-- and that of its reading at the extended reals. -/
theorem filled_kernelIdeal (m : (ℓ : Loc Cert.KernelIdeal.nD Cert.KernelIdeal.τ Cert.KernelIdeal.sig) → Buf (Elt Ideal) ℓ) (h : Cert.Pre_KernelIdeal m) : Cert.KernelIdeal.Body.Filled m := by
  intro c
  refine fill_of_pre _ _ _ _ _ (h c) _ fun n => ?_
  unfold Cert.KernelIdeal.Body.words
  rw [dif_pos n.isLt]

/-- Over the reals the kernel and the reference end with the same result array, each with its arguments as they were. -/
theorem algebraic : Cert.algebraic_KernelIdeal_ReferenceIdeal (hKernelIdeal := Cert.KernelIdeal.Gen.facts) (hReferenceIdeal := Cert.ReferenceIdeal.Gen.facts)
    (hPre_sizes_fill := pre_facts) := by
  intro m g m' g' h heq
  have hF := filled_kernelIdeal m h
  refine ⟨fun c => Cert.KernelIdeal.Value.out m c, Cert.KernelIdeal.Value.run m g hF, ?_⟩
  refine (θ_run Cert.ReferenceIdeal.defs _ _).mono (fun r hr c => ?_) (Cert.ReferenceIdeal.Value.run m' g')
  obtain ⟨h0, h1, h2, h3, h4⟩ := heq c
  exact ⟨(hr c).1.trans (Cert.Equation.out_eq m m' c hF h0 h1 h2 h3 h4), (hr c).2⟩

/-- Everything claimed: the frames, the passage to the extended reals, and the equation. -/
theorem claim : Cert.Claim := ⟨Cert.Kernel.Gen.facts, Cert.KernelIdeal.Gen.facts, Cert.ReferenceIdeal.Gen.facts, pre_facts,
  fun m g h => Cert.Kernel.Body.frame_all m g (filled_kernel m h),
  fun m g h => Cert.KernelIdeal.Body.frame_all m g (filled_kernelIdeal m h),
  fun m g _ => Cert.ReferenceIdeal.Gen.frame m g,
  fun m g _ => Cert.ReferenceIdeal.Gen.frame m g,
  trivial,
  algebraic⟩

end Cert.Proof

end
